-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_scores8 [hPre_finite_scores8 : Cert.Pre_finite_scores8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_scores8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite_scores8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_scores8 [hPre_finite_scores8 : Cert.Pre_finite_scores8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_scores8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite_scores8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_scores8 [hKernel8Ideal : Cert.Kernel8Ideal.Facts] [hPre_finite_scores8 : Cert.Pre_finite_scores8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_scores8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_scores8 [hReference8Ideal : Cert.Reference8Ideal.Facts] [hPre_finite_scores8 : Cert.Pre_finite_scores8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_scores8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v98) = v1 c
          ∧ r.2.mem ((c.tc : Thread Cert.Reference3Ideal.nD Cert.Reference3Ideal.τ).loc Cert.Reference3Ideal.main_v100) = v2 c
          ∧ r.2.mem ((c.tc : Thread Cert.Reference3Ideal.nD Cert.Reference3Ideal.τ).loc Cert.Reference3Ideal.main_v103) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_v63) = v4 c
          ∧ r.2.mem ((c.tc : Thread Cert.Reference4Ideal.nD Cert.Reference4Ideal.τ).loc Cert.Reference4Ideal.main_v28) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v71) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_scores8 [hKernel8Ideal : Cert.Kernel8Ideal.Facts] [hReference8Ideal : Cert.Reference8Ideal.Facts] [hPre_finite_scores8 : Cert.Pre_finite_scores8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_scores8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_scores8 : Cert.Pre_finite_scores8.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_scores8 (hKernel8Ideal := hKernel8Ideal) (hPre_finite_scores8 := hPre_finite_scores8)
    ∧ quiescent_Reference8Ideal (hReference8Ideal := hReference8Ideal)
    ∧ quiescent_Reference8Ideal_pre_finite_scores8 (hReference8Ideal := hReference8Ideal) (hPre_finite_scores8 := hPre_finite_scores8)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_scores8 (hKernel8Ideal := hKernel8Ideal) (hReference8Ideal := hReference8Ideal) (hPre_finite_scores8 := hPre_finite_scores8)
-- ==== Pre_finite_scores.lean ====
abbrev S8x1024x4096 : Shape := ⟨3, ![8, 1024, 4096]⟩
abbrev S8x4096x256 : Shape := ⟨3, ![8, 4096, 256]⟩
abbrev S8x256x4096 : Shape := ⟨3, ![8, 256, 4096]⟩
abbrev S8x256x256 : Shape := ⟨3, ![8, 256, 256]⟩
abbrev S_ : Shape := ⟨0, ![]⟩

class Facts : Prop where
  bitsLt_bf16_f32 : FTy.bits .bf16 < FTy.bits .f32
  bcast_S_S8x1024x4096 : S_.BroadcastsInDim S8x1024x4096 (![] : Fin 0 → Fin S8x1024x4096.rank)
  bcast_S_S8x4096x256 : S_.BroadcastsInDim S8x4096x256 (![] : Fin 0 → Fin S8x4096x256.rank)
  bcast_S_S8x256x256 : S_.BroadcastsInDim S8x256x256 (![] : Fin 0 → Fin S8x256x256.rank)

variable [Facts]

def fn {F : FTy → Type} [FloatOps F] (main_arg0 : FVec F S8x1024x4096 .bf16) (main_arg1 : FVec F S8x4096x256 .bf16) (main_arg2 : FVec F S8x256x4096 .bf16) (main_arg3 : FVec F S8x1024x4096 .bf16) (main_arg4 : FVec F S8x256x256 .bf16) (main_arg5 : FVec F S8x256x256 .bf16) : IVec S8x1024x4096 1 × IVec S8x4096x256 1 × IVec S8x256x256 1 :=
  let main_v0 : FVec F S8x1024x4096 .f32 := (extf .f32 · bitsLt_bf16_f32) main_arg0
  let main_v1 : FVec F S8x1024x4096 .f32 := Host.absf main_v0
  let main_cst : FVec F S_ .f32 := constant S_ .f32 0x7F800000#32
  let main_v2 : FVec F S8x1024x4096 .f32 := broadcastInDim S8x1024x4096 ![] bcast_S_S8x1024x4096 main_cst
  let main_v3 : IVec S8x1024x4096 1 := cmpf .olt main_v1 main_v2
  let main_v4 : FVec F S8x4096x256 .f32 := (extf .f32 · bitsLt_bf16_f32) main_arg1
  let main_v5 : FVec F S8x4096x256 .f32 := Host.absf main_v4
  let main_cst_0 : FVec F S_ .f32 := constant S_ .f32 0x7F800000#32
  let main_v6 : FVec F S8x4096x256 .f32 := broadcastInDim S8x4096x256 ![] bcast_S_S8x4096x256 main_cst_0
  let main_v7 : IVec S8x4096x256 1 := cmpf .olt main_v5 main_v6
  let main_v8 : FVec F S8x256x256 .f32 := (extf .f32 · bitsLt_bf16_f32) main_arg4
  let main_v9 : FVec F S8x256x256 .f32 := Host.absf main_v8
  let main_cst_1 : FVec F S_ .f32 := constant S_ .f32 0x7F800000#32
  let main_v10 : FVec F S8x256x256 .f32 := broadcastInDim S8x256x256 ![] bcast_S_S8x256x256 main_cst_1
  let main_v11 : IVec S8x256x256 1 := cmpf .olt main_v9 main_v10
  (main_v3, main_v7, main_v11)
-- ==== Pre_finite_scores8.lean ====
abbrev S16x1024x256 : Shape := ⟨3, ![16, 1024, 256]⟩
abbrev S16x256x256 : Shape := ⟨3, ![16, 256, 256]⟩
abbrev S_ : Shape := ⟨0, ![]⟩

class Facts : Prop where
  bitsLt_bf16_f32 : FTy.bits .bf16 < FTy.bits .f32
  bcast_S_S16x1024x256 : S_.BroadcastsInDim S16x1024x256 (![] : Fin 0 → Fin S16x1024x256.rank)
  bcast_S_S16x256x256 : S_.BroadcastsInDim S16x256x256 (![] : Fin 0 → Fin S16x256x256.rank)

variable [Facts]

def fn {F : FTy → Type} [FloatOps F] (main_arg0 : FVec F S16x1024x256 .bf16) (main_arg1 : FVec F S16x256x256 .bf16) (main_arg2 : FVec F S16x256x256 .bf16) (main_arg3 : FVec F S16x1024x256 .bf16) : IVec S16x1024x256 1 × IVec S16x256x256 1 :=
  let main_v0 : FVec F S16x1024x256 .f32 := (extf .f32 · bitsLt_bf16_f32) main_arg0
  let main_v1 : FVec F S16x1024x256 .f32 := Host.absf main_v0
  let main_cst : FVec F S_ .f32 := constant S_ .f32 0x7F800000#32
  let main_v2 : FVec F S16x1024x256 .f32 := broadcastInDim S16x1024x256 ![] bcast_S_S16x1024x256 main_cst
  let main_v3 : IVec S16x1024x256 1 := cmpf .olt main_v1 main_v2
  let main_v4 : FVec F S16x256x256 .f32 := (extf .f32 · bitsLt_bf16_f32) main_arg1
  let main_v5 : FVec F S16x256x256 .f32 := Host.absf main_v4
  let main_cst_0 : FVec F S_ .f32 := constant S_ .f32 0x7F800000#32
  let main_v6 : FVec F S16x256x256 .f32 := broadcastInDim S16x256x256 ![] bcast_S_S16x256x256 main_cst_0
  let main_v7 : IVec S16x256x256 1 := cmpf .olt main_v5 main_v6
  (main_v3, main_v7)
-- ==== Kernel.lean ====
abbrev S8x1024x4096 : Shape := ⟨3, ![8, 1024, 4096]⟩
abbrev S8x4096x256 : Shape := ⟨3, ![8, 4096, 256]⟩
abbrev S8x256x4096 : Shape := ⟨3, ![8, 256, 4096]⟩
abbrev S8x256x256 : Shape := ⟨3, ![8, 256, 256]⟩
abbrev S8x4352x256 : Shape := ⟨3, ![8, 4352, 256]⟩
abbrev S8x256x4352 : Shape := ⟨3, ![8, 256, 4352]⟩
abbrev S1x512x256 : Shape := ⟨3, ![1, 512, 256]⟩
abbrev S1x4352x128 : Shape := ⟨3, ![1, 4352, 128]⟩
abbrev S1x128x4352 : Shape := ⟨3, ![1, 128, 4352]⟩
abbrev S2x4x256x256 : Shape := ⟨4, ![2, 4, 256, 256]⟩
abbrev S2x4x1x256 : Shape := ⟨4, ![2, 4, 1, 256]⟩
abbrev S1x64x256 : Shape := ⟨3, ![1, 64, 256]⟩
abbrev S64x256 : Shape := ⟨2, ![64, 256]⟩
abbrev S128x256 : Shape := ⟨2, ![128, 256]⟩
abbrev S16x256 : Shape := ⟨2, ![16, 256]⟩
abbrev S80x256 : Shape := ⟨2, ![80, 256]⟩
abbrev S1x256 : Shape := ⟨2, ![1, 256]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1x1x1x256 : Shape := ⟨4, ![1, 1, 1, 256]⟩
abbrev S1x128x256 : Shape := ⟨3, ![1, 128, 256]⟩

abbrev nBuf : Space → Nat
  | .hbm => 9
  | .vmem => 12
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x256, .bf16⟩
  | .hbm, ⟨2, _⟩ => ⟨S8x256x4096, .bf16⟩
  | .hbm, ⟨3, _⟩ => ⟨S8x1024x4096, .bf16⟩
  | .hbm, ⟨4, _⟩ => ⟨S8x256x256, .bf16⟩
  | .hbm, ⟨5, _⟩ => ⟨S8x256x256, .bf16⟩
  | .hbm, ⟨6, _⟩ => ⟨S8x4352x256, .bf16⟩
  | .hbm, ⟨7, _⟩ => ⟨S8x256x4352, .bf16⟩
  | .hbm, ⟨8, _⟩ => ⟨S8x1024x4096, .bf16⟩
  | .local _ .vmem, ⟨0, _⟩ => ⟨S1x512x256, .bf16⟩
  | .local _ .vmem, ⟨1, _⟩ => ⟨S1x512x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x128x4352, .bf16⟩
  | .local _ .vmem, ⟨5, _⟩ => ⟨S1x128x4352, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S2x4x256x256, .f32⟩
  | .local _ .vmem, ⟨11, _⟩ => ⟨S2x4x1x256, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

@[reducible] def k0_t1_loop : Scf.Loop 32 :=
  let c0_i32 : BitVec 32 := 0#32
  let c2_i32 : BitVec 32 := 2#32
  let v88 : BitVec 32 := Scalar.addi c0_i32 c2_i32
  let c1_i32 : BitVec 32 := 1#32
  ⟨c0_i32, v88, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c0_i32_254 : BitVec 32 := 0#32
  let v355 : BitVec 32 := Scalar.addi v354 c0_i32_254
  let c1_i32_255 : BitVec 32 := 1#32
  let v356 : BitVec 32 := Scalar.addi v355 c1_i32_255
  let c256_i32 : BitVec 32 := 256#32
  let v357 : BitVec 32 := Scalar.muli v356 c256_i32
  v357
def k0_off1 (k0_t1 : Fin k0_t1_loop.trips) (c0_i32_254 : BitVec 32) : Fin 3 → Nat :=
  let c0_256 : Index := 0#32
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let v355 : BitVec 32 := Scalar.addi v354 c0_i32_254
  let c1_i32_255 : BitVec 32 := 1#32
  let v356 : BitVec 32 := Scalar.addi v355 c1_i32_255
  let c256_i32 : BitVec 32 := 256#32
  let v357 : BitVec 32 := Scalar.muli v356 c256_i32
  let v358 : BitVec 32 := v357
  let v359 : Index := Scalar.indexCast v358
  let c0_257 : Index := 0#32
  ![0, v359.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c0_i32_298 : BitVec 32 := 0#32
  let v398 : BitVec 32 := Scalar.addi v354 c0_i32_298
  let c256_i32_299 : BitVec 32 := 256#32
  let v399 : BitVec 32 := Scalar.muli v398 c256_i32_299
  v399
def k0_off2 (k0_t1 : Fin k0_t1_loop.trips) (c0_i32_298 : BitVec 32) : Fin 3 → Nat :=
  let c0_300 : Index := 0#32
  let c0_301 : Index := 0#32
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let v398 : BitVec 32 := Scalar.addi v354 c0_i32_298
  let c256_i32_299 : BitVec 32 := 256#32
  let v399 : BitVec 32 := Scalar.muli v398 c256_i32_299
  let v400 : BitVec 32 := v399
  let v401 : Index := Scalar.indexCast v400
  ![0, 0, v401.toNat]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c1_i32_338 : BitVec 32 := 1#32
  let v466 : BitVec 32 := Scalar.addi v354 c1_i32_338
  let c1_i32_339 : BitVec 32 := 1#32
  let v467 : BitVec 32 := Scalar.addi v466 c1_i32_339
  let c256_i32_340 : BitVec 32 := 256#32
  let v468 : BitVec 32 := Scalar.muli v467 c256_i32_340
  v468
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c1_i32_383 : BitVec 32 := 1#32
  let v509 : BitVec 32 := Scalar.addi v354 c1_i32_383
  let c256_i32_384 : BitVec 32 := 256#32
  let v510 : BitVec 32 := Scalar.muli v509 c256_i32_384
  v510
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c2_i32_423 : BitVec 32 := 2#32
  let v577 : BitVec 32 := Scalar.addi v354 c2_i32_423
  let c1_i32_424 : BitVec 32 := 1#32
  let v578 : BitVec 32 := Scalar.addi v577 c1_i32_424
  let c256_i32_425 : BitVec 32 := 256#32
  let v579 : BitVec 32 := Scalar.muli v578 c256_i32_425
  v579
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c2_i32_468 : BitVec 32 := 2#32
  let v620 : BitVec 32 := Scalar.addi v354 c2_i32_468
  let c256_i32_469 : BitVec 32 := 256#32
  let v621 : BitVec 32 := Scalar.muli v620 c256_i32_469
  v621
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c3_i32 : BitVec 32 := 3#32
  let v688 : BitVec 32 := Scalar.addi v354 c3_i32
  let c1_i32_508 : BitVec 32 := 1#32
  let v689 : BitVec 32 := Scalar.addi v688 c1_i32_508
  let c256_i32_509 : BitVec 32 := 256#32
  let v690 : BitVec 32 := Scalar.muli v689 c256_i32_509
  v690
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c3_i32_552 : BitVec 32 := 3#32
  let v731 : BitVec 32 := Scalar.addi v354 c3_i32_552
  let c256_i32_553 : BitVec 32 := 256#32
  let v732 : BitVec 32 := Scalar.muli v731 c256_i32_553
  v732
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c4_i32 : BitVec 32 := 4#32
  let v799 : BitVec 32 := Scalar.addi v354 c4_i32
  let c1_i32_592 : BitVec 32 := 1#32
  let v800 : BitVec 32 := Scalar.addi v799 c1_i32_592
  let c256_i32_593 : BitVec 32 := 256#32
  let v801 : BitVec 32 := Scalar.muli v800 c256_i32_593
  v801
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c4_i32_636 : BitVec 32 := 4#32
  let v842 : BitVec 32 := Scalar.addi v354 c4_i32_636
  let c256_i32_637 : BitVec 32 := 256#32
  let v843 : BitVec 32 := Scalar.muli v842 c256_i32_637
  v843
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c5_i32 : BitVec 32 := 5#32
  let v910 : BitVec 32 := Scalar.addi v354 c5_i32
  let c1_i32_676 : BitVec 32 := 1#32
  let v911 : BitVec 32 := Scalar.addi v910 c1_i32_676
  let c256_i32_677 : BitVec 32 := 256#32
  let v912 : BitVec 32 := Scalar.muli v911 c256_i32_677
  v912
def k0_mult12 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c5_i32_720 : BitVec 32 := 5#32
  let v953 : BitVec 32 := Scalar.addi v354 c5_i32_720
  let c256_i32_721 : BitVec 32 := 256#32
  let v954 : BitVec 32 := Scalar.muli v953 c256_i32_721
  v954
def k0_mult13 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c6_i32 : BitVec 32 := 6#32
  let v1021 : BitVec 32 := Scalar.addi v354 c6_i32
  let c1_i32_760 : BitVec 32 := 1#32
  let v1022 : BitVec 32 := Scalar.addi v1021 c1_i32_760
  let c256_i32_761 : BitVec 32 := 256#32
  let v1023 : BitVec 32 := Scalar.muli v1022 c256_i32_761
  v1023
def k0_mult14 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c6_i32_804 : BitVec 32 := 6#32
  let v1064 : BitVec 32 := Scalar.addi v354 c6_i32_804
  let c256_i32_805 : BitVec 32 := 256#32
  let v1065 : BitVec 32 := Scalar.muli v1064 c256_i32_805
  v1065
def k0_mult15 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c7_i32 : BitVec 32 := 7#32
  let v1132 : BitVec 32 := Scalar.addi v354 c7_i32
  let c1_i32_844 : BitVec 32 := 1#32
  let v1133 : BitVec 32 := Scalar.addi v1132 c1_i32_844
  let c256_i32_845 : BitVec 32 := 256#32
  let v1134 : BitVec 32 := Scalar.muli v1133 c256_i32_845
  v1134
def k0_mult16 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v354 : BitVec 32 := Scalar.muli arg10 c8_i32
  let c7_i32_888 : BitVec 32 := 7#32
  let v1175 : BitVec 32 := Scalar.addi v354 c7_i32_888
  let c256_i32_889 : BitVec 32 := 256#32
  let v1176 : BitVec 32 := Scalar.muli v1175 c256_i32_889
  v1176
@[reducible] def k0_t2_loop : Scf.Loop 32 :=
  let c0_i32_187 : BitVec 32 := 0#32
  let c2_i32_188 : BitVec 32 := 2#32
  let v240 : BitVec 32 := Scalar.addi c0_i32_187 c2_i32_188
  let c1_i32_189 : BitVec 32 := 1#32
  ⟨c0_i32_187, v240, c1_i32_189⟩
def k0_mult17 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c0_i32_254 : BitVec 32 := 0#32
  let v355 : BitVec 32 := Scalar.addi v354 c0_i32_254
  let c1_i32_255 : BitVec 32 := 1#32
  let v356 : BitVec 32 := Scalar.addi v355 c1_i32_255
  let c256_i32 : BitVec 32 := 256#32
  let v357 : BitVec 32 := Scalar.muli v356 c256_i32
  v357
def k0_off3 (k0_t2 : Fin k0_t2_loop.trips) (c0_i32_254 : BitVec 32) : Fin 3 → Nat :=
  let c0_256 : Index := 0#32
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let v355 : BitVec 32 := Scalar.addi v354 c0_i32_254
  let c1_i32_255 : BitVec 32 := 1#32
  let v356 : BitVec 32 := Scalar.addi v355 c1_i32_255
  let c256_i32 : BitVec 32 := 256#32
  let v357 : BitVec 32 := Scalar.muli v356 c256_i32
  let v358 : BitVec 32 := v357
  let v359 : Index := Scalar.indexCast v358
  let c0_257 : Index := 0#32
  ![0, v359.toNat, 0]
def k0_mult18 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c0_i32_298 : BitVec 32 := 0#32
  let v398 : BitVec 32 := Scalar.addi v354 c0_i32_298
  let c256_i32_299 : BitVec 32 := 256#32
  let v399 : BitVec 32 := Scalar.muli v398 c256_i32_299
  v399
def k0_off4 (k0_t2 : Fin k0_t2_loop.trips) (c0_i32_298 : BitVec 32) : Fin 3 → Nat :=
  let c0_300 : Index := 0#32
  let c0_301 : Index := 0#32
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let v398 : BitVec 32 := Scalar.addi v354 c0_i32_298
  let c256_i32_299 : BitVec 32 := 256#32
  let v399 : BitVec 32 := Scalar.muli v398 c256_i32_299
  let v400 : BitVec 32 := v399
  let v401 : Index := Scalar.indexCast v400
  ![0, 0, v401.toNat]
def k0_mult19 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c1_i32_338 : BitVec 32 := 1#32
  let v466 : BitVec 32 := Scalar.addi v354 c1_i32_338
  let c1_i32_339 : BitVec 32 := 1#32
  let v467 : BitVec 32 := Scalar.addi v466 c1_i32_339
  let c256_i32_340 : BitVec 32 := 256#32
  let v468 : BitVec 32 := Scalar.muli v467 c256_i32_340
  v468
def k0_mult20 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c1_i32_383 : BitVec 32 := 1#32
  let v509 : BitVec 32 := Scalar.addi v354 c1_i32_383
  let c256_i32_384 : BitVec 32 := 256#32
  let v510 : BitVec 32 := Scalar.muli v509 c256_i32_384
  v510
def k0_mult21 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c2_i32_423 : BitVec 32 := 2#32
  let v577 : BitVec 32 := Scalar.addi v354 c2_i32_423
  let c1_i32_424 : BitVec 32 := 1#32
  let v578 : BitVec 32 := Scalar.addi v577 c1_i32_424
  let c256_i32_425 : BitVec 32 := 256#32
  let v579 : BitVec 32 := Scalar.muli v578 c256_i32_425
  v579
def k0_mult22 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c2_i32_468 : BitVec 32 := 2#32
  let v620 : BitVec 32 := Scalar.addi v354 c2_i32_468
  let c256_i32_469 : BitVec 32 := 256#32
  let v621 : BitVec 32 := Scalar.muli v620 c256_i32_469
  v621
def k0_mult23 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c3_i32 : BitVec 32 := 3#32
  let v688 : BitVec 32 := Scalar.addi v354 c3_i32
  let c1_i32_508 : BitVec 32 := 1#32
  let v689 : BitVec 32 := Scalar.addi v688 c1_i32_508
  let c256_i32_509 : BitVec 32 := 256#32
  let v690 : BitVec 32 := Scalar.muli v689 c256_i32_509
  v690
def k0_mult24 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c3_i32_552 : BitVec 32 := 3#32
  let v731 : BitVec 32 := Scalar.addi v354 c3_i32_552
  let c256_i32_553 : BitVec 32 := 256#32
  let v732 : BitVec 32 := Scalar.muli v731 c256_i32_553
  v732
def k0_mult25 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c4_i32 : BitVec 32 := 4#32
  let v799 : BitVec 32 := Scalar.addi v354 c4_i32
  let c1_i32_592 : BitVec 32 := 1#32
  let v800 : BitVec 32 := Scalar.addi v799 c1_i32_592
  let c256_i32_593 : BitVec 32 := 256#32
  let v801 : BitVec 32 := Scalar.muli v800 c256_i32_593
  v801
def k0_mult26 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c4_i32_636 : BitVec 32 := 4#32
  let v842 : BitVec 32 := Scalar.addi v354 c4_i32_636
  let c256_i32_637 : BitVec 32 := 256#32
  let v843 : BitVec 32 := Scalar.muli v842 c256_i32_637
  v843
def k0_mult27 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c5_i32 : BitVec 32 := 5#32
  let v910 : BitVec 32 := Scalar.addi v354 c5_i32
  let c1_i32_676 : BitVec 32 := 1#32
  let v911 : BitVec 32 := Scalar.addi v910 c1_i32_676
  let c256_i32_677 : BitVec 32 := 256#32
  let v912 : BitVec 32 := Scalar.muli v911 c256_i32_677
  v912
def k0_mult28 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c5_i32_720 : BitVec 32 := 5#32
  let v953 : BitVec 32 := Scalar.addi v354 c5_i32_720
  let c256_i32_721 : BitVec 32 := 256#32
  let v954 : BitVec 32 := Scalar.muli v953 c256_i32_721
  v954
def k0_mult29 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c6_i32 : BitVec 32 := 6#32
  let v1021 : BitVec 32 := Scalar.addi v354 c6_i32
  let c1_i32_760 : BitVec 32 := 1#32
  let v1022 : BitVec 32 := Scalar.addi v1021 c1_i32_760
  let c256_i32_761 : BitVec 32 := 256#32
  let v1023 : BitVec 32 := Scalar.muli v1022 c256_i32_761
  v1023
def k0_mult30 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c6_i32_804 : BitVec 32 := 6#32
  let v1064 : BitVec 32 := Scalar.addi v354 c6_i32_804
  let c256_i32_805 : BitVec 32 := 256#32
  let v1065 : BitVec 32 := Scalar.muli v1064 c256_i32_805
  v1065
def k0_mult31 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c7_i32 : BitVec 32 := 7#32
  let v1132 : BitVec 32 := Scalar.addi v354 c7_i32
  let c1_i32_844 : BitVec 32 := 1#32
  let v1133 : BitVec 32 := Scalar.addi v1132 c1_i32_844
  let c256_i32_845 : BitVec 32 := 256#32
  let v1134 : BitVec 32 := Scalar.muli v1133 c256_i32_845
  v1134
def k0_mult32 (k0_t2 : Fin k0_t2_loop.trips) : BitVec 32 :=
  let c0_i32_187 : BitVec 32 := 0#32
  let c1_i32_189 : BitVec 32 := 1#32
  let arg10 : BitVec 32 := Scf.iv c0_i32_187 c1_i32_189 k0_t2
  let c8_i32 : BitVec 32 := 8#32
  let v354 : BitVec 32 := Scalar.muli arg10 c8_i32
  let c7_i32_888 : BitVec 32 := 7#32
  let v1175 : BitVec 32 := Scalar.addi v354 c7_i32_888
  let c256_i32_889 : BitVec 32 := 256#32
  let v1176 : BitVec 32 := Scalar.muli v1175 c256_i32_889
  v1176
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x1024x4096 : Shape := ⟨3, ![8, 1024, 4096]⟩
abbrev S8x4096x256 : Shape := ⟨3, ![8, 4096, 256]⟩
abbrev S8x256x4096 : Shape := ⟨3, ![8, 256, 4096]⟩
abbrev S8x256x256 : Shape := ⟨3, ![8, 256, 256]⟩
abbrev S8x4096x1024 : Shape := ⟨3, ![8, 4096, 1024]⟩
abbrev S8x4096x4x4x64 : Shape := ⟨5, ![8, 4096, 4, 4, 64]⟩
abbrev S8x4352x256 : Shape := ⟨3, ![8, 4352, 256]⟩
abbrev S8x4352x4x64 : Shape := ⟨4, ![8, 4352, 4, 64]⟩
abbrev S_ : Shape := ⟨0, ![]⟩
abbrev S8x4x4352x4096x4 : Shape := ⟨5, ![8, 4, 4352, 4096, 4]⟩
abbrev S8x4x4x4096x4352 : Shape := ⟨5, ![8, 4, 4, 4096, 4352]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x256, .bf16⟩
  | .hbm, ⟨2, _⟩ => ⟨S8x256x4096, .bf16⟩
  | .hbm, ⟨3, _⟩ => ⟨S8x1024x4096, .bf16⟩
  | .hbm, ⟨4, _⟩ => ⟨S8x256x256, .bf16⟩
  | .hbm, ⟨5, _⟩ => ⟨S8x256x256, .bf16⟩
  | .hbm, ⟨6, _⟩ => ⟨S8x4096x1024, .bf16⟩
  | .hbm, ⟨7, _⟩ => ⟨S8x4096x1024, .f32⟩
  | .hbm, ⟨8, _⟩ => ⟨S8x4096x4x4x64, .f32⟩
  | .hbm, ⟨9, _⟩ => ⟨S8x4096x1024, .bf16⟩
  | .hbm, ⟨10, _⟩ => ⟨S8x4096x1024, .f32⟩
  | .hbm, ⟨11, _⟩ => ⟨S8x4352x256, .bf16⟩
  | .hbm, ⟨12, _⟩ => ⟨S8x4352x256, .f32⟩
  | .hbm, ⟨13, _⟩ => ⟨S8x4096x256, .bf16⟩
  | .hbm, ⟨14, _⟩ => ⟨S8x256x256, .bf16⟩
  | .hbm, ⟨15, _⟩ => ⟨S8x4352x256, .bf16⟩
  | .hbm, ⟨16, _⟩ => ⟨S8x4352x256, .f32⟩
  | .hbm, ⟨17, _⟩ => ⟨S8x4352x4x64, .f32⟩
  | .hbm, ⟨18, _⟩ => ⟨S8x4352x4x64, .f32⟩
  | .hbm, ⟨19, _⟩ => ⟨S_, .f32⟩
  | .hbm, ⟨20, _⟩ => ⟨S_, .f32⟩
  | .hbm, ⟨21, _⟩ => ⟨S8x4096x4x4x64, .f32⟩
  | .hbm, ⟨22, _⟩ => ⟨S8x4096x4x4x64, .f32⟩
  | .hbm, ⟨23, _⟩ => ⟨S8x4x4352x4096x4, .f32⟩
  | .hbm, ⟨24, _⟩ => ⟨S8x4x4x4096x4352, .f32⟩
  | .hbm, ⟨25, _⟩ => ⟨S_, .f32⟩
  | .hbm, ⟨26, _⟩ => ⟨S8x4x4x4096, .f32⟩
  | .hbm, ⟨27, _⟩ => ⟨S_, .f32⟩
  | .hbm, ⟨28, _⟩ => ⟨S8x4x4x4096, .f32⟩
  | .hbm, ⟨29, _⟩ => ⟨S8x4x4x4096, .f32⟩
  | .hbm, ⟨30, _⟩ => ⟨S8x4x4x4096x1, .f32⟩
  | .hbm, ⟨31, _⟩ => ⟨S8x4x4x4096x4352, .f32⟩
  | .hbm, ⟨32, _⟩ => ⟨S8x4x4x4096x4352, .f32⟩
  | .hbm, ⟨33, _⟩ => ⟨S8x4x4x4096x4352, .f32⟩
  | .hbm, ⟨34, _⟩ => ⟨S_, .f32⟩
  | .hbm, ⟨35, _⟩ => ⟨S8x4x4x4096, .f32⟩
  | .hbm, ⟨36, _⟩ => ⟨S8x4x4x4096x1, .f32⟩
  | .hbm, ⟨37, _⟩ => ⟨S8x4x4x4096x4352, .f32⟩
  | .hbm, ⟨38, _⟩ => ⟨S8x4x4x4096x4352, .f32⟩
  | .hbm, ⟨39, _⟩ => ⟨S8x4x64x4x4096, .f32⟩
  | .hbm, ⟨40, _⟩ => ⟨S8x4096x4x4x64, .f32⟩
  | .hbm, ⟨41, _⟩ => ⟨S8x4096x1024, .f32⟩
  | .hbm, ⟨42, _⟩ => ⟨S8x4096x1024, .f32⟩
  | .hbm, ⟨43, _⟩ => ⟨S8x1024x4096, .f32⟩
  | .hbm, ⟨44, _⟩ => ⟨S8x1024x4096, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel2.lean ====
abbrev S8x1024x4096 : Shape := ⟨3, ![8, 1024, 4096]⟩
abbrev S1024x1024 : Shape := ⟨2, ![1024, 1024]⟩
abbrev S8x4096x1024 : Shape := ⟨3, ![8, 4096, 1024]⟩
abbrev S8x3x1024 : Shape := ⟨3, ![8, 3, 1024]⟩
abbrev S1024 : Shape := ⟨1, ![1024]⟩
abbrev S1x1024 : Shape := ⟨2, ![1, 1024]⟩
abbrev S1x1024x1024 : Shape := ⟨3, ![1, 1024, 1024]⟩
abbrev S1x3x1024 : Shape := ⟨3, ![1, 3, 1024]⟩
abbrev S1024x1 : Shape := ⟨2, ![1024, 1]⟩
abbrev S1x1x1024 : Shape := ⟨3, ![1, 1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8x1024x4096, .bf16⟩
  | .hbm, ⟨1, _⟩ => ⟨S1024x1024, .f32⟩
  | .hbm, ⟨2, _⟩ => ⟨S8x4096x1024, .f32⟩
  | .hbm, ⟨3, _⟩ => ⟨S8x3x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x1024x4096 : Shape := ⟨3, ![8, 1024, 4096]⟩
abbrev S1024x1024 : Shape := ⟨2, ![1024, 1024]⟩
abbrev S8x4096x1024 : Shape := ⟨3, ![8, 4096, 1024]⟩
abbrev S8x3x1024 : Shape := ⟨3, ![8, 3, 1024]⟩
abbrev S1024 : Shape := ⟨1, ![1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S1024x1024, .f32⟩
  | .hbm, ⟨2, _⟩ => ⟨S8x4096x1024, .f32⟩
  | .hbm, ⟨3, _⟩ => ⟨S8x3x1024, .f32⟩
  | .hbm, ⟨4, _⟩ => ⟨S1024, .f32⟩
  | .hbm, ⟨5, _⟩ => ⟨S8x1x1024, .f32⟩
  | .hbm, ⟨6, _⟩ => ⟨S8x1024, .f32⟩
  | .hbm, ⟨7, _⟩ => ⟨S8x4096x1024, .bf16⟩
  | .hbm, ⟨8, _⟩ => ⟨S8x4096x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3x1024 : Shape := ⟨3, ![8, 3, 1024]⟩
abbrev S1024 : Shape := ⟨1, ![1024]⟩
abbrev S1024x2560 : Shape := ⟨2, ![1024, 2560]⟩
abbrev S64 : Shape := ⟨1, ![64]⟩
abbrev S32x4096 : Shape := ⟨2, ![32, 4096]⟩
abbrev S_ : Shape := ⟨0, ![]⟩
abbrev S64x1 : Shape := ⟨2, ![64, 1]⟩
abbrev S64x512 : Shape := ⟨2, ![64, 512]⟩
abbrev S1x1024 : Shape := ⟨2, ![1, 1024]⟩
abbrev S8x1024x4096 : Shape := ⟨3, ![8, 1024, 4096]⟩
abbrev S8x4096x256 : Shape := ⟨3, ![8, 4096, 256]⟩
abbrev S8x256x4096 : Shape := ⟨3, ![8, 256, 4096]⟩
abbrev S1x512x1024 : Shape := ⟨3, ![1, 512, 1024]⟩
abbrev S1x3x1024 : Shape := ⟨3, ![1, 3, 1024]⟩
abbrev S32x512 : Shape := ⟨2, ![32, 512]⟩
abbrev S1x1024x512 : Shape := ⟨3, ![1, 1024, 512]⟩
abbrev S1x512x256 : Shape := ⟨3, ![1, 512, 256]⟩
abbrev S1x256x512 : Shape := ⟨3, ![1, 256, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2560 : Shape := ⟨2, ![512, 2560]⟩
abbrev S1024x512 : Shape := ⟨2, ![1024, 512]⟩
abbrev S512x256 : Shape := ⟨2, ![512, 256]⟩
abbrev S256x512 : Shape := ⟨2, ![256, 512]⟩
abbrev S16x64x512 : Shape := ⟨3, ![16, 64, 512]⟩
abbrev S16x512 : Shape := ⟨2, ![16, 512]⟩
abbrev S16x1x512 : Shape := ⟨3, ![16, 1, 512]⟩
abbrev S1x64x512 : Shape := ⟨3, ![1, 64, 512]⟩
abbrev S16x32x512 : Shape := ⟨3, ![16, 32, 512]⟩
abbrev S1x32x512 : Shape := ⟨3, ![1, 32, 512]⟩
abbrev S4x64x512 : Shape := ⟨3, ![4, 64, 512]⟩
abbrev S4x512 : Shape := ⟨2, ![4, 512]⟩
abbrev S4x1x512 : Shape := ⟨3, ![4, 1, 512]⟩
abbrev S4x32x512 : Shape := ⟨3, ![4, 32, 512]⟩

abbrev nBuf : Space → Nat
  | .hbm => 21
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S32x4096, .f32⟩
  | .hbm, ⟨7, _⟩ => ⟨S32x4096, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x512, .f32⟩
  | .hbm, ⟨13, _⟩ => ⟨S64x1, .f32⟩
  | .hbm, ⟨14, _⟩ => ⟨S64x512, .f32⟩
  | .hbm, ⟨15, _⟩ => ⟨S1x1024, .f32⟩
  | .hbm, ⟨16, _⟩ => ⟨S1024x2560, .bf16⟩
  | .hbm, ⟨17, _⟩ => ⟨S8x1024x4096, .bf16⟩
  | .hbm, ⟨18, _⟩ => ⟨S8x4096x256, .bf16⟩
  | .hbm, ⟨19, _⟩ => ⟨S8x256x4096, .bf16⟩
  | .hbm, ⟨20, _⟩ => ⟨S8x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x2560, .bf16⟩
  | .local _ .vmem, ⟨6, _⟩ => ⟨S64x512, .f32⟩
  | .local _ .vmem, ⟨7, _⟩ => ⟨S64x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x1024x512, .bf16⟩
  | .local _ .vmem, ⟨19, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x1024 : Shape := ⟨3, ![8, 4096, 1024]⟩
abbrev S8x3x1024 : Shape := ⟨3, ![8, 3, 1024]⟩
abbrev S1024 : Shape := ⟨1, ![1024]⟩
abbrev S1024x2560 : Shape := ⟨2, ![1024, 2560]⟩
abbrev S64 : Shape := ⟨1, ![64]⟩
abbrev S32x4096 : Shape := ⟨2, ![32, 4096]⟩
abbrev S4096x32 : Shape := ⟨2, ![4096, 32]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x256 : Shape := ⟨3, ![8, 4096, 256]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x16x32 : Shape := ⟨4, ![8, 4096, 16, 32]⟩
abbrev S1x4096x1x32 : Shape := ⟨4, ![1, 4096, 1, 32]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S8x4096x4x32 : Shape := ⟨4, ![8, 4096, 4, 32]⟩
abbrev S8x1024x4096 : Shape := ⟨3, ![8, 1024, 4096]⟩
abbrev S8x256x4096 : Shape := ⟨3, ![8, 256, 4096]⟩

abbrev nBuf : Space → Nat
  | .hbm => 132
  | .vmem => 0
  | .smem => 0
  | _ => 0

abbrev hbmTy0_0 (i : Nat) : BufTy := match i % 128 with
  | 0 => ⟨S8x4096x1024, .f32⟩
  | 1 => ⟨S8x3x1024, .f32⟩
  | 2 => ⟨S1024, .f32⟩
  | 3 => ⟨S1024x2560, .f32⟩
  | 4 => ⟨S64, .f32⟩
  | 5 => ⟨S64, .f32⟩
  | 6 => ⟨S32x4096, .f32⟩
  | 7 => ⟨S32x4096, .f32⟩
  | 8 => ⟨S4096x32, .f32⟩
  | 9 => ⟨S4096x32, .f32⟩
  | 10 => ⟨S8x1x1024, .f32⟩
  | 11 => ⟨S8x1024, .f32⟩
  | 12 => ⟨S8x1x1024, .f32⟩
  | 13 => ⟨S8x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x1x1024, .f32⟩
  | 37 => ⟨S8x4096x1024, .f32⟩
  | 38 => ⟨S8x4096x1024, .f32⟩
  | 39 => ⟨S8x4096x2560, .f32⟩
  | 40 => ⟨S8x4096x1024, .f32⟩
  | 41 => ⟨S8x4096x256, .f32⟩
  | 42 => ⟨S8x4096x256, .f32⟩
  | 43 => ⟨S8x4096x1024, .f32⟩
  | 44 => ⟨S8x4096x16x64, .f32⟩
  | 45 => ⟨S8x4096x16x64, .f32⟩
  | 46 => ⟨S_, .f32⟩
  | 47 => ⟨S8x4096x16, .f32⟩
  | 48 => ⟨S8x4096x16x1, .f32⟩
  | 49 => ⟨S_, .f32⟩
  | 50 => ⟨S8x4096x16x1, .f32⟩
  | 51 => ⟨S8x4096x16x1, .f32⟩
  | 52 => ⟨S_, .f32⟩
  | 53 => ⟨S8x4096x16x1, .f32⟩
  | 54 => ⟨S8x4096x16x1, .f32⟩
  | 55 => ⟨S8x4096x16x1, .f32⟩
  | 56 => ⟨S8x4096x16x64, .f32⟩
  | 57 => ⟨S8x4096x16x64, .f32⟩
  | 58 => ⟨S1x1x1x64, .f32⟩
  | 59 => ⟨S8x4096x16x64, .f32⟩
  | 60 => ⟨S8x4096x16x64, .f32⟩
  | 61 => ⟨S8x4096x16x32, .f32⟩
  | 62 => ⟨S8x4096x16x32, .f32⟩
  | 63 => ⟨S1x4096x1x32, .f32⟩
  | 64 => ⟨S1x4096x1x32, .f32⟩
  | 65 => ⟨S8x4096x16x32, .f32⟩
  | 66 => ⟨S8x4096x16x32, .f32⟩
  | 67 => ⟨S8x4096x16x32, .f32⟩
  | 68 => ⟨S8x4096x16x32, .f32⟩
  | 69 => ⟨S8x4096x16x32, .f32⟩
  | 70 => ⟨S8x4096x16x32, .f32⟩
  | 71 => ⟨S8x4096x16x32, .f32⟩
  | 72 => ⟨S8x4096x16x32, .f32⟩
  | 73 => ⟨S8x4096x16x32, .f32⟩
  | 74 => ⟨S8x4096x16x32, .f32⟩
  | 75 => ⟨S8x4096x16x64, .f32⟩
  | 76 => ⟨S8x4096x4x64, .f32⟩
  | 77 => ⟨S8x4096x4x64, .f32⟩
  | 78 => ⟨S_, .f32⟩
  | 79 => ⟨S8x4096x4, .f32⟩
  | 80 => ⟨S8x4096x4x1, .f32⟩
  | 81 => ⟨S_, .f32⟩
  | 82 => ⟨S8x4096x4x1, .f32⟩
  | 83 => ⟨S8x4096x4x1, .f32⟩
  | 84 => ⟨S_, .f32⟩
  | 85 => ⟨S8x4096x4x1, .f32⟩
  | 86 => ⟨S8x4096x4x1, .f32⟩
  | 87 => ⟨S8x4096x4x1, .f32⟩
  | 88 => ⟨S8x4096x4x64, .f32⟩
  | 89 => ⟨S8x4096x4x64, .f32⟩
  | 90 => ⟨S1x1x1x64, .f32⟩
  | 91 => ⟨S8x4096x4x64, .f32⟩
  | 92 => ⟨S8x4096x4x64, .f32⟩
  | 93 => ⟨S8x4096x4x32, .f32⟩
  | 94 => ⟨S8x4096x4x32, .f32⟩
  | 95 => ⟨S1x4096x1x32, .f32⟩
  | 96 => ⟨S1x4096x1x32, .f32⟩
  | 97 => ⟨S8x4096x4x32, .f32⟩
  | 98 => ⟨S8x4096x4x32, .f32⟩
  | 99 => ⟨S8x4096x4x32, .f32⟩
  | 100 => ⟨S8x4096x4x32, .f32⟩
  | 101 => ⟨S8x4096x4x32, .f32⟩
  | 102 => ⟨S8x4096x4x32, .f32⟩
  | 103 => ⟨S8x4096x4x32, .f32⟩
  | 104 => ⟨S8x4096x4x32, .f32⟩
  | 105 => ⟨S8x4096x4x32, .f32⟩
  | 106 => ⟨S8x4096x4x32, .f32⟩
  | 107 => ⟨S8x4096x4x64, .f32⟩
  | 108 => ⟨S_, .f32⟩
  | 109 => ⟨S8x4096x16x64, .f32⟩
  | 110 => ⟨S8x4096x16x64, .f32⟩
  | 111 => ⟨S_, .f32⟩
  | 112 => ⟨S8x4096x16x64, .f32⟩
  | 113 => ⟨S8x4096x16x64, .f32⟩
  | 114 => ⟨S8x4096x1024, .f32⟩
  | 115 => ⟨S8x1024x4096, .f32⟩
  | 116 => ⟨S8x1024x4096, .bf16⟩
  | 117 => ⟨S8x4096x256, .f32⟩
  | 118 => ⟨S8x4096x256, .bf16⟩
  | 119 => ⟨S8x256x4096, .f32⟩
  | 120 => ⟨S8x256x4096, .bf16⟩
  | 121 => ⟨S8x4096x1024, .f32⟩
  | 122 => ⟨S8x4096x1024, .f32⟩
  | 123 => ⟨S_, .f32⟩
  | 124 => ⟨S8x4096x1024, .f32⟩
  | 125 => ⟨S8x4096x1024, .f32⟩
  | 126 => ⟨S_, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x1024x4096, .f32⟩
  | 3 => ⟨S8x1024x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_9 : Ref sig .tc := ⟨.hbm, 108, rfl⟩
abbrev main_v90 : Ref sig .tc := ⟨.hbm, 109, rfl⟩
abbrev main_v91 : Ref sig .tc := ⟨.hbm, 110, rfl⟩
abbrev main_cst_10 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_call0_v5 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]
-- ==== Kernel4.lean ====
abbrev S16x256x1024 : Shape := ⟨3, ![16, 256, 1024]⟩
abbrev S1x3x1024 : Shape := ⟨3, ![1, 3, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S64x1 : Shape := ⟨2, ![64, 1]⟩
abbrev S64x512 : Shape := ⟨2, ![64, 512]⟩
abbrev S1x1024 : Shape := ⟨2, ![1, 1024]⟩
abbrev S16x1024x256 : Shape := ⟨3, ![16, 1024, 256]⟩
abbrev S16x256x256 : Shape := ⟨3, ![16, 256, 256]⟩
abbrev S1x256x1024 : Shape := ⟨3, ![1, 256, 1024]⟩
abbrev S64x256 : Shape := ⟨2, ![64, 256]⟩
abbrev S1x1024x256 : Shape := ⟨3, ![1, 1024, 256]⟩
abbrev S1x256x256 : Shape := ⟨3, ![1, 256, 256]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2560 : Shape := ⟨2, ![256, 2560]⟩
abbrev S1024x256 : Shape := ⟨2, ![1024, 256]⟩
abbrev S256x256 : Shape := ⟨2, ![256, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S4x64x256 : Shape := ⟨3, ![4, 64, 256]⟩
abbrev S4x256 : Shape := ⟨2, ![4, 256]⟩
abbrev S4x1x256 : Shape := ⟨3, ![4, 1, 256]⟩

abbrev nBuf : Space → Nat
  | .hbm => 21
  | .vmem => 19
  | .smem => 0
  | _ => 0

abbrev bufTy : (tb : Table) → Fin (tcTables nBuf tb) → BufTy
  | .hbm, ⟨0, _⟩ => ⟨S16x256x1024, .f32⟩
  | .hbm, ⟨1, _⟩ => ⟨S1x3x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64x1, .f32⟩
  | .hbm, ⟨10, _⟩ => ⟨S64x512, .f32⟩
  | .hbm, ⟨11, _⟩ => ⟨S64x1, .f32⟩
  | .hbm, ⟨12, _⟩ => ⟨S64x512, .f32⟩
  | .hbm, ⟨13, _⟩ => ⟨S1x1024, .f32⟩
  | .hbm, ⟨14, _⟩ => ⟨S1024x2560, .bf16⟩
  | .hbm, ⟨15, _⟩ => ⟨S16x1024x256, .bf16⟩
  | .hbm, ⟨16, _⟩ => ⟨S16x256x256, .bf16⟩
  | .hbm, ⟨17, _⟩ => ⟨S16x256x256, .bf16⟩
  | .hbm, ⟨18, _⟩ => ⟨S16x1024x256, .bf16⟩
  | .hbm, ⟨19, _⟩ => ⟨S16x256x256, .f32⟩
  | .hbm, ⟨20, _⟩ => ⟨S16x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x1024, .f32⟩
  | .local _ .vmem, ⟨4, _⟩ => ⟨S1024x2560, .bf16⟩
  | .local _ .vmem, ⟨5, _⟩ => ⟨S64x256, .f32⟩
  | .local _ .vmem, ⟨6, _⟩ => ⟨S64x256, .f32⟩
  | .local _ .vmem, ⟨7, _⟩ => ⟨S1x1024x256, .bf16⟩
  | .local _ .vmem, ⟨8, _⟩ => ⟨S1x1024x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16x256x1024 : Shape := ⟨3, ![16, 256, 1024]⟩
abbrev S1x3x1024 : Shape := ⟨3, ![1, 3, 1024]⟩
abbrev S1024 : Shape := ⟨1, ![1024]⟩
abbrev S1024x2560 : Shape := ⟨2, ![1024, 2560]⟩
abbrev S64 : Shape := ⟨1, ![64]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x2560 : Shape := ⟨3, ![16, 256, 2560]⟩
abbrev S16x256x256 : Shape := ⟨3, ![16, 256, 256]⟩
abbrev S16x256x16x64 : Shape := ⟨4, ![16, 256, 16, 64]⟩
abbrev S16x256x16 : Shape := ⟨3, ![16, 256, 16]⟩
abbrev S16x256x16x1 : Shape := ⟨4, ![16, 256, 16, 1]⟩
abbrev S1x1x1x64 : Shape := ⟨4, ![1, 1, 1, 64]⟩
abbrev S16x256x4x64 : Shape := ⟨4, ![16, 256, 4, 64]⟩
abbrev S16x256x4 : Shape := ⟨3, ![16, 256, 4]⟩
abbrev S16x256x4x1 : Shape := ⟨4, ![16, 256, 4, 1]⟩
abbrev S16x1024x256 : Shape := ⟨3, ![16, 1024, 256]⟩

abbrev nBuf : Space → Nat
  | .hbm => 98
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x3x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S16x256x1024, .f32⟩
  | .hbm, ⟨31, _⟩ => ⟨S16x256x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x2560, .f32⟩
  | .hbm, ⟨36, _⟩ => ⟨S16x256x1024, .f32⟩
  | .hbm, ⟨37, _⟩ => ⟨S16x256x256, .f32⟩
  | .hbm, ⟨38, _⟩ => ⟨S16x256x256, .f32⟩
  | .hbm, ⟨39, _⟩ => ⟨S16x256x1024, .f32⟩
  | .hbm, ⟨40, _⟩ => ⟨S16x256x16x64, .f32⟩
  | .hbm, ⟨41, _⟩ => ⟨S16x256x16x64, .f32⟩
  | .hbm, ⟨42, _⟩ => ⟨S_, .f32⟩
  | .hbm, ⟨43, _⟩ => ⟨S16x256x16, .f32⟩
  | .hbm, ⟨44, _⟩ => ⟨S16x256x16x1, .f32⟩
  | .hbm, ⟨45, _⟩ => ⟨S_, .f32⟩
  | .hbm, ⟨46, _⟩ => ⟨S16x256x16x1, .f32⟩
  | .hbm, ⟨47, _⟩ => ⟨S16x256x16x1, .f32⟩
  | .hbm, ⟨48, _⟩ => ⟨S_, .f32⟩
  | .hbm, ⟨49, _⟩ => ⟨S16x256x16x1, .f32⟩
  | .hbm, ⟨50, _⟩ => ⟨S16x256x16x1, .f32⟩
  | .hbm, ⟨51, _⟩ => ⟨S16x256x16x1, .f32⟩
  | .hbm, ⟨52, _⟩ => ⟨S16x256x16x64, .f32⟩
  | .hbm, ⟨53, _⟩ => ⟨S16x256x16x64, .f32⟩
  | .hbm, ⟨54, _⟩ => ⟨S1x1x1x64, .f32⟩
  | .hbm, ⟨55, _⟩ => ⟨S16x256x16x64, .f32⟩
  | .hbm, ⟨56, _⟩ => ⟨S16x256x16x64, .f32⟩
  | .hbm, ⟨57, _⟩ => ⟨S_, .f32⟩
  | .hbm, ⟨58, _⟩ => ⟨S16x256x16x64, .f32⟩
  | .hbm, ⟨59, _⟩ => ⟨S16x256x16x64, .f32⟩
  | .hbm, ⟨60, _⟩ => ⟨S_, .f32⟩
  | .hbm, ⟨61, _⟩ => ⟨S16x256x16x64, .f32⟩
  | .hbm, ⟨62, _⟩ => ⟨S16x256x16x64, .f32⟩
  | .hbm, ⟨63, _⟩ => ⟨S16x256x4x64, .f32⟩
  | .hbm, ⟨64, _⟩ => ⟨S16x256x4x64, .f32⟩
  | .hbm, ⟨65, _⟩ => ⟨S_, .f32⟩
  | .hbm, ⟨66, _⟩ => ⟨S16x256x4, .f32⟩
  | .hbm, ⟨67, _⟩ => ⟨S16x256x4x1, .f32⟩
  | .hbm, ⟨68, _⟩ => ⟨S_, .f32⟩
  | .hbm, ⟨69, _⟩ => ⟨S16x256x4x1, .f32⟩
  | .hbm, ⟨70, _⟩ => ⟨S16x256x4x1, .f32⟩
  | .hbm, ⟨71, _⟩ => ⟨S_, .f32⟩
  | .hbm, ⟨72, _⟩ => ⟨S16x256x4x1, .f32⟩
  | .hbm, ⟨73, _⟩ => ⟨S16x256x4x1, .f32⟩
  | .hbm, ⟨74, _⟩ => ⟨S16x256x4x1, .f32⟩
  | .hbm, ⟨75, _⟩ => ⟨S16x256x4x64, .f32⟩
  | .hbm, ⟨76, _⟩ => ⟨S16x256x4x64, .f32⟩
  | .hbm, ⟨77, _⟩ => ⟨S1x1x1x64, .f32⟩
  | .hbm, ⟨78, _⟩ => ⟨S16x256x4x64, .f32⟩
  | .hbm, ⟨79, _⟩ => ⟨S16x256x4x64, .f32⟩
  | .hbm, ⟨80, _⟩ => ⟨S16x256x1024, .f32⟩
  | .hbm, ⟨81, _⟩ => ⟨S16x256x256, .f32⟩
  | .hbm, ⟨82, _⟩ => ⟨S16x256x1024, .f32⟩
  | .hbm, ⟨83, _⟩ => ⟨S16x256x1024, .f32⟩
  | .hbm, ⟨84, _⟩ => ⟨S_, .f32⟩
  | .hbm, ⟨85, _⟩ => ⟨S16x256x1024, .f32⟩
  | .hbm, ⟨86, _⟩ => ⟨S16x256x1024, .f32⟩
  | .hbm, ⟨87, _⟩ => ⟨S_, .f32⟩
  | .hbm, ⟨88, _⟩ => ⟨S16x256x1024, .f32⟩
  | .hbm, ⟨89, _⟩ => ⟨S16x256x1024, .f32⟩
  | .hbm, ⟨90, _⟩ => ⟨S16x256x1024, .f32⟩
  | .hbm, ⟨91, _⟩ => ⟨S16x1024x256, .f32⟩
  | .hbm, ⟨92, _⟩ => ⟨S16x1024x256, .bf16⟩
  | .hbm, ⟨93, _⟩ => ⟨S16x256x256, .bf16⟩
  | .hbm, ⟨94, _⟩ => ⟨S16x256x256, .f32⟩
  | .hbm, ⟨95, _⟩ => ⟨S16x256x256, .bf16⟩
  | .hbm, ⟨96, _⟩ => ⟨S16x1024x256, .f32⟩
  | .hbm, ⟨97, _⟩ => ⟨S16x1024x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x3x1024 : Shape := ⟨3, ![8, 3, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S64x1 : Shape := ⟨2, ![64, 1]⟩
abbrev S64x512 : Shape := ⟨2, ![64, 512]⟩
abbrev S1x1024 : Shape := ⟨2, ![1, 1024]⟩
abbrev S8x1024x4096 : Shape := ⟨3, ![8, 1024, 4096]⟩
abbrev S8x4096x256 : Shape := ⟨3, ![8, 4096, 256]⟩
abbrev S8x256x4096 : Shape := ⟨3, ![8, 256, 4096]⟩
abbrev S1x512x1024 : Shape := ⟨3, ![1, 512, 1024]⟩
abbrev S1x3x1024 : Shape := ⟨3, ![1, 3, 1024]⟩
abbrev S1x1024x512 : Shape := ⟨3, ![1, 1024, 512]⟩
abbrev S1x512x256 : Shape := ⟨3, ![1, 512, 256]⟩
abbrev S1x256x512 : Shape := ⟨3, ![1, 256, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2560 : Shape := ⟨2, ![512, 2560]⟩
abbrev S1024x512 : Shape := ⟨2, ![1024, 512]⟩
abbrev S512x256 : Shape := ⟨2, ![512, 256]⟩
abbrev S256x512 : Shape := ⟨2, ![256, 512]⟩
abbrev S16x64x512 : Shape := ⟨3, ![16, 64, 512]⟩
abbrev S16x512 : Shape := ⟨2, ![16, 512]⟩
abbrev S16x1x512 : Shape := ⟨3, ![16, 1, 512]⟩
abbrev S1x64x512 : Shape := ⟨3, ![1, 64, 512]⟩
abbrev S4x64x512 : Shape := ⟨3, ![4, 64, 512]⟩
abbrev S4x512 : Shape := ⟨2, ![4, 512]⟩
abbrev S4x1x512 : Shape := ⟨3, ![4, 1, 512]⟩

abbrev nBuf : Space → Nat
  | .hbm => 19
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64x1, .f32⟩
  | .hbm, ⟨10, _⟩ => ⟨S64x512, .f32⟩
  | .hbm, ⟨11, _⟩ => ⟨S64x1, .f32⟩
  | .hbm, ⟨12, _⟩ => ⟨S64x512, .f32⟩
  | .hbm, ⟨13, _⟩ => ⟨S1x1024, .f32⟩
  | .hbm, ⟨14, _⟩ => ⟨S1024x2560, .bf16⟩
  | .hbm, ⟨15, _⟩ => ⟨S8x1024x4096, .bf16⟩
  | .hbm, ⟨16, _⟩ => ⟨S8x4096x256, .bf16⟩
  | .hbm, ⟨17, _⟩ => ⟨S8x256x4096, .bf16⟩
  | .hbm, ⟨18, _⟩ => ⟨S8x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x2560, .bf16⟩
  | .local _ .vmem, ⟨6, _⟩ => ⟨S64x512, .f32⟩
  | .local _ .vmem, ⟨7, _⟩ => ⟨S64x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x256x512, .bf16⟩
  | .local _ .vmem, ⟨13, _⟩ => ⟨S1x256x512, .bf16⟩
  | .local _ .vmem, ⟨14, _⟩ => ⟨S1x1024x512, .bf16⟩
  | .local _ .vmem, ⟨15, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4096x1024 : Shape := ⟨3, ![8, 4096, 1024]⟩
abbrev S8x3x1024 : Shape := ⟨3, ![8, 3, 1024]⟩
abbrev S1024 : Shape := ⟨1, ![1024]⟩
abbrev S1024x2560 : Shape := ⟨2, ![1024, 2560]⟩
abbrev S64 : Shape := ⟨1, ![64]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x256 : Shape := ⟨3, ![8, 4096, 256]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S8x1024x4096 : Shape := ⟨3, ![8, 1024, 4096]⟩
abbrev S8x256x4096 : Shape := ⟨3, ![8, 256, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x2560, .f32⟩
  | .hbm, ⟨36, _⟩ => ⟨S8x4096x1024, .f32⟩
  | .hbm, ⟨37, _⟩ => ⟨S8x4096x256, .f32⟩
  | .hbm, ⟨38, _⟩ => ⟨S8x4096x256, .f32⟩
  | .hbm, ⟨39, _⟩ => ⟨S8x4096x1024, .f32⟩
  | .hbm, ⟨40, _⟩ => ⟨S8x4096x16x64, .f32⟩
  | .hbm, ⟨41, _⟩ => ⟨S8x4096x16x64, .f32⟩
  | .hbm, ⟨42, _⟩ => ⟨S_, .f32⟩
  | .hbm, ⟨43, _⟩ => ⟨S8x4096x16, .f32⟩
  | .hbm, ⟨44, _⟩ => ⟨S8x4096x16x1, .f32⟩
  | .hbm, ⟨45, _⟩ => ⟨S_, .f32⟩
  | .hbm, ⟨46, _⟩ => ⟨S8x4096x16x1, .f32⟩
  | .hbm, ⟨47, _⟩ => ⟨S8x4096x16x1, .f32⟩
  | .hbm, ⟨48, _⟩ => ⟨S_, .f32⟩
  | .hbm, ⟨49, _⟩ => ⟨S8x4096x16x1, .f32⟩
  | .hbm, ⟨50, _⟩ => ⟨S8x4096x16x1, .f32⟩
  | .hbm, ⟨51, _⟩ => ⟨S8x4096x16x1, .f32⟩
  | .hbm, ⟨52, _⟩ => ⟨S8x4096x16x64, .f32⟩
  | .hbm, ⟨53, _⟩ => ⟨S8x4096x16x64, .f32⟩
  | .hbm, ⟨54, _⟩ => ⟨S1x1x1x64, .f32⟩
  | .hbm, ⟨55, _⟩ => ⟨S8x4096x16x64, .f32⟩
  | .hbm, ⟨56, _⟩ => ⟨S8x4096x16x64, .f32⟩
  | .hbm, ⟨57, _⟩ => ⟨S_, .f32⟩
  | .hbm, ⟨58, _⟩ => ⟨S8x4096x16x64, .f32⟩
  | .hbm, ⟨59, _⟩ => ⟨S8x4096x16x64, .f32⟩
  | .hbm, ⟨60, _⟩ => ⟨S_, .f32⟩
  | .hbm, ⟨61, _⟩ => ⟨S8x4096x16x64, .f32⟩
  | .hbm, ⟨62, _⟩ => ⟨S8x4096x16x64, .f32⟩
  | .hbm, ⟨63, _⟩ => ⟨S8x4096x4x64, .f32⟩
  | .hbm, ⟨64, _⟩ => ⟨S8x4096x4x64, .f32⟩
  | .hbm, ⟨65, _⟩ => ⟨S_, .f32⟩
  | .hbm, ⟨66, _⟩ => ⟨S8x4096x4, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S8x4096x4x1, .f32⟩
  | .hbm, ⟨75, _⟩ => ⟨S8x4096x4x64, .f32⟩
  | .hbm, ⟨76, _⟩ => ⟨S8x4096x4x64, .f32⟩
  | .hbm, ⟨77, _⟩ => ⟨S1x1x1x64, .f32⟩
  | .hbm, ⟨78, _⟩ => ⟨S8x4096x4x64, .f32⟩
  | .hbm, ⟨79, _⟩ => ⟨S8x4096x4x64, .f32⟩
  | .hbm, ⟨80, _⟩ => ⟨S8x4096x1024, .f32⟩
  | .hbm, ⟨81, _⟩ => ⟨S8x4096x256, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x1024x4096, .f32⟩
  | .hbm, ⟨92, _⟩ => ⟨S8x1024x4096, .bf16⟩
  | .hbm, ⟨93, _⟩ => ⟨S8x4096x256, .bf16⟩
  | .hbm, ⟨94, _⟩ => ⟨S8x256x4096, .f32⟩
  | .hbm, ⟨95, _⟩ => ⟨S8x256x4096, .bf16⟩
  | .hbm, ⟨96, _⟩ => ⟨S8x1024x4096, .f32⟩
  | .hbm, ⟨97, _⟩ => ⟨S8x1024x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel6.lean ====
abbrev S16x1024x256 : Shape := ⟨3, ![16, 1024, 256]⟩
abbrev S1024x1024 : Shape := ⟨2, ![1024, 1024]⟩
abbrev S16x256x1024 : Shape := ⟨3, ![16, 256, 1024]⟩
abbrev S1x3x1024 : Shape := ⟨3, ![1, 3, 1024]⟩
abbrev S1024 : Shape := ⟨1, ![1024]⟩
abbrev S1x1024 : Shape := ⟨2, ![1, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16x1024x256, .bf16⟩
  | .hbm, ⟨1, _⟩ => ⟨S1024x1024, .f32⟩
  | .hbm, ⟨2, _⟩ => ⟨S16x256x1024, .f32⟩
  | .hbm, ⟨3, _⟩ => ⟨S1x3x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S16x256x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x3x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S16x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16x1024x256 : Shape := ⟨3, ![16, 1024, 256]⟩
abbrev S1024x1024 : Shape := ⟨2, ![1024, 1024]⟩
abbrev S16x256x1024 : Shape := ⟨3, ![16, 256, 1024]⟩
abbrev S1x3x1024 : Shape := ⟨3, ![1, 3, 1024]⟩
abbrev S1024 : Shape := ⟨1, ![1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x256, .bf16⟩
  | .hbm, ⟨1, _⟩ => ⟨S1024x1024, .f32⟩
  | .hbm, ⟨2, _⟩ => ⟨S16x256x1024, .f32⟩
  | .hbm, ⟨3, _⟩ => ⟨S1x3x1024, .f32⟩
  | .hbm, ⟨4, _⟩ => ⟨S1024, .f32⟩
  | .hbm, ⟨5, _⟩ => ⟨S1x1x1024, .f32⟩
  | .hbm, ⟨6, _⟩ => ⟨S1024, .f32⟩
  | .hbm, ⟨7, _⟩ => ⟨S16x256x1024, .bf16⟩
  | .hbm, ⟨8, _⟩ => ⟨S16x256x1024, .f32⟩
  | .hbm, ⟨9, _⟩ => ⟨S16x256x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S16x256x1024, .f32⟩
  | _, _ => ⟨S16x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel7.lean ====
abbrev S16x1024 : Shape := ⟨2, ![16, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x16x3072 : Shape := ⟨3, ![4, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S4x1024x3072 : Shape := ⟨3, ![4, 1024, 3072]⟩
abbrev S4x3072 : Shape := ⟨2, ![4, 3072]⟩
abbrev S_ : Shape := ⟨0, ![]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x3072x16, .f32⟩
  | .hbm, ⟨13, _⟩ => ⟨S4x16x3072, .f32⟩
  | .hbm, ⟨14, _⟩ => ⟨S4x1x3072, .f32⟩
  | .hbm, ⟨15, _⟩ => ⟨S4x16x3072, .f32⟩
  | .hbm, ⟨16, _⟩ => ⟨S4x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S16x1024x256 : Shape := ⟨3, ![16, 1024, 256]⟩
abbrev S16x256x256 : Shape := ⟨3, ![16, 256, 256]⟩
abbrev S1x512x256 : Shape := ⟨3, ![1, 512, 256]⟩
abbrev S1x256x128 : Shape := ⟨3, ![1, 256, 128]⟩
abbrev S1x128x256 : Shape := ⟨3, ![1, 128, 256]⟩
abbrev S2x4x256x256 : Shape := ⟨4, ![2, 4, 256, 256]⟩
abbrev S2x4x1x256 : Shape := ⟨4, ![2, 4, 1, 256]⟩
abbrev S1x64x256 : Shape := ⟨3, ![1, 64, 256]⟩
abbrev S64x256 : Shape := ⟨2, ![64, 256]⟩
abbrev S128x256 : Shape := ⟨2, ![128, 256]⟩
abbrev S16x256 : Shape := ⟨2, ![16, 256]⟩
abbrev S80x256 : Shape := ⟨2, ![80, 256]⟩
abbrev S1x256 : Shape := ⟨2, ![1, 256]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1x1x1x256 : Shape := ⟨4, ![1, 1, 1, 256]⟩

abbrev nBuf : Space → Nat
  | .hbm => 5
  | .vmem => 12
  | .smem => 0
  | _ => 0

abbrev bufTy : (tb : Table) → Fin (tcTables nBuf tb) → BufTy
  | .hbm, ⟨0, _⟩ => ⟨S16x1024x256, .bf16⟩
  | .hbm, ⟨1, _⟩ => ⟨S16x256x256, .bf16⟩
  | .hbm, ⟨2, _⟩ => ⟨S16x256x256, .bf16⟩
  | .hbm, ⟨3, _⟩ => ⟨S16x1024x256, .bf16⟩
  | .hbm, ⟨4, _⟩ => ⟨S16x1024x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x128, .bf16⟩
  | .local _ .vmem, ⟨3, _⟩ => ⟨S1x256x128, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S2x4x256x256, .f32⟩
  | .local _ .vmem, ⟨11, _⟩ => ⟨S2x4x1x256, .f32⟩
  | _, _ => ⟨S16x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S16x1024x256 : Shape := ⟨3, ![16, 1024, 256]⟩
abbrev S16x256x256 : Shape := ⟨3, ![16, 256, 256]⟩
abbrev S16x256x1024 : Shape := ⟨3, ![16, 256, 1024]⟩
abbrev S16x256x4x4x64 : Shape := ⟨5, ![16, 256, 4, 4, 64]⟩
abbrev S16x256x4x64 : Shape := ⟨4, ![16, 256, 4, 64]⟩
abbrev S_ : Shape := ⟨0, ![]⟩
abbrev S16x4x256x256x4 : Shape := ⟨5, ![16, 4, 256, 256, 4]⟩
abbrev S16x4x4x256x256 : Shape := ⟨5, ![16, 4, 4, 256, 256]⟩
abbrev S16x4x4x256 : Shape := ⟨4, ![16, 4, 4, 256]⟩
abbrev S16x4x4x256x1 : Shape := ⟨5, ![16, 4, 4, 256, 1]⟩
abbrev S16x4x64x4x256 : Shape := ⟨5, ![16, 4, 64, 4, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x1024x256, .bf16⟩
  | .hbm, ⟨1, _⟩ => ⟨S16x256x256, .bf16⟩
  | .hbm, ⟨2, _⟩ => ⟨S16x256x256, .bf16⟩
  | .hbm, ⟨3, _⟩ => ⟨S16x1024x256, .bf16⟩
  | .hbm, ⟨4, _⟩ => ⟨S16x256x1024, .bf16⟩
  | .hbm, ⟨5, _⟩ => ⟨S16x256x1024, .f32⟩
  | .hbm, ⟨6, _⟩ => ⟨S16x256x4x4x64, .f32⟩
  | .hbm, ⟨7, _⟩ => ⟨S16x256x1024, .bf16⟩
  | .hbm, ⟨8, _⟩ => ⟨S16x256x1024, .f32⟩
  | .hbm, ⟨9, _⟩ => ⟨S16x256x256, .f32⟩
  | .hbm, ⟨10, _⟩ => ⟨S16x256x4x64, .f32⟩
  | .hbm, ⟨11, _⟩ => ⟨S16x256x256, .bf16⟩
  | .hbm, ⟨12, _⟩ => ⟨S16x256x256, .f32⟩
  | .hbm, ⟨13, _⟩ => ⟨S16x256x4x64, .f32⟩
  | .hbm, ⟨14, _⟩ => ⟨S_, .f32⟩
  | .hbm, ⟨15, _⟩ => ⟨S_, .f32⟩
  | .hbm, ⟨16, _⟩ => ⟨S16x256x4x4x64, .f32⟩
  | .hbm, ⟨17, _⟩ => ⟨S16x256x4x4x64, .f32⟩
  | .hbm, ⟨18, _⟩ => ⟨S16x4x256x256x4, .f32⟩
  | .hbm, ⟨19, _⟩ => ⟨S16x4x4x256x256, .f32⟩
  | .hbm, ⟨20, _⟩ => ⟨S_, .f32⟩
  | .hbm, ⟨21, _⟩ => ⟨S16x4x4x256, .f32⟩
  | .hbm, ⟨22, _⟩ => ⟨S_, .f32⟩
  | .hbm, ⟨23, _⟩ => ⟨S16x4x4x256, .f32⟩
  | .hbm, ⟨24, _⟩ => ⟨S16x4x4x256, .f32⟩
  | .hbm, ⟨25, _⟩ => ⟨S16x4x4x256x1, .f32⟩
  | .hbm, ⟨26, _⟩ => ⟨S16x4x4x256x256, .f32⟩
  | .hbm, ⟨27, _⟩ => ⟨S16x4x4x256x256, .f32⟩
  | .hbm, ⟨28, _⟩ => ⟨S16x4x4x256x256, .f32⟩
  | .hbm, ⟨29, _⟩ => ⟨S_, .f32⟩
  | .hbm, ⟨30, _⟩ => ⟨S16x4x4x256, .f32⟩
  | .hbm, ⟨31, _⟩ => ⟨S16x4x4x256x1, .f32⟩
  | .hbm, ⟨32, _⟩ => ⟨S16x4x4x256x256, .f32⟩
  | .hbm, ⟨33, _⟩ => ⟨S16x4x4x256x256, .f32⟩
  | .hbm, ⟨34, _⟩ => ⟨S16x4x64x4x256, .f32⟩
  | .hbm, ⟨35, _⟩ => ⟨S16x256x4x4x64, .f32⟩
  | .hbm, ⟨36, _⟩ => ⟨S16x256x1024, .f32⟩
  | .hbm, ⟨37, _⟩ => ⟨S16x256x1024, .f32⟩
  | .hbm, ⟨38, _⟩ => ⟨S16x1024x256, .f32⟩
  | .hbm, ⟨39, _⟩ => ⟨S16x1024x256, .bf16⟩
  | _, _ => ⟨S16x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Dense.Prog.lean ====
/-
  The attention kernel's body, written as what it is: two streams (one per key/value head of the block), each a
  pipeline over seventeen blocks of 256 keys, in which the scores of block `b + 1` are put into one of two scratch
  slots before the scores of block `b` are taken out of the other. Each piece below is a small program over the body's
  seven buffers; `body` is their composition, in the order the kernel runs them.
-/
module

public import proofs.«01_k».proof.Proof.Gen.Kernel

@[expose] public section

noncomputable section

namespace Dense

open Cert.Kernel Cert.Kernel.Gen
open Idealize.ShloMosaic Idealize.SL.Sem

variable {nD : Nat} {τ : Topo} {sig : RefSig} {Λ : Labels}
variable {F : FTy → Type} [FloatOps F]

/-- The seven buffers the body works on: the queries, the keys, the values, the gate, the result, and the two scratch
    buffers (scores, and their maxima over the block's keys), two slots of four heads each. -/
structure Ops (sig : RefSig) where
  qs : Memref sig .tc .vmem S1x512x256 .bf16
  ks : Memref sig .tc .vmem S1x4352x128 .bf16
  vs : Memref sig .tc .vmem S1x128x4352 .bf16
  gs : Memref sig .tc .vmem S1x512x256 .bf16
  os : Memref sig .tc .vmem S1x512x256 .bf16
  ss : Memref sig .tc .vmem S2x4x256x256 .f32
  ms : Memref sig .tc .vmem S2x4x1x256 .f32
  hqs : qs.IsWhole
  hks : ks.IsWhole
  hvs : vs.IsWhole
  hgs : gs.IsWhole
  hos : os.IsWhole
  hss : ss.IsWhole
  hms : ms.IsWhole

/-- A program of the body. -/
abbrev Pr (nD : Nat) (τ : Topo) (sig : RefSig) (Λ : Labels) (F : FTy → Type) (α : Type) := Prog (TpuEff nD τ sig (Elt F) Λ .tc) α

/-- The running maximum (`M`) and the running weighted sum with the running sum of weights beside it (`A`), of one head. -/
abbrev M (F : FTy → Type) := FVec F S1x256 .f32
abbrev A (F : FTy → Type) := FVec F S80x256 .f32
/-- The four heads' running values, in the order the loops carry them. -/
abbrev Car (F : FTy → Type) := M F × A F × M F × A F × M F × A F × M F × A F

/-! ## The pure steps -/

/-- The scores of one block: keys by padded queries. -/
def scoreV (kb : FVec F S256x128 .bf16) (q : FVec F S128x256 .bf16) : FVec F S256x256 .f32 :=
  matmul dot_S256x128_S128x256_S256x256_1_0_0_1_n_n none kb q (constant S256x256 .f32 0x00000000#32)
/-- Their maxima over the block's keys. -/
def maxV (s : FVec F S256x256 .f32) : M F :=
  shapeCast S1x256 (multiReduction .maximumf [0] S256 s 0xFF800000#32 reduces_S256x256_S256 (.inl rfl) rfl) shapeCasts_S256_S1x256
/-- The running sums after a block: the old ones scaled to the new maximum, and the block's own. -/
def accV (va : FVec F S80x256 .bf16) (m m' : M F) (s : FVec F S256x256 .f32) (a : A F) : A F :=
  addf (mulf (broadcastTo S80x256 (exp2 (subf m m')) broadcasts_S1x256_S80x256) a)
    (matmul dot_S80x256_S256x256_S80x256_1_0_0_1_n_n none va
      (exp2 (truncf .bf16 (subf s (broadcastTo S256x256 m' broadcasts_S1x256_S256x256)) bitsLt_bf16_f32))
      (constant S80x256 .f32 0x00000000#32))
/-- The running values before any block. -/
def m0 : M F := broadcast S1x256 (Scalar.ofBits .f32 0xF149F2CA#32)
def a0 : A F := broadcast S80x256 (Scalar.ofBits .f32 0x00000000#32)
def car0 : Car F := (m0, a0, m0, a0, m0, a0, m0, a0)
/-- One head's result rows: the weighted sum by the sum of weights, times the gate. -/
def outV (a : A F) (g : Vec F S1x64x256 .bf16) : FVec F S1x64x256 .bf16 :=
  shapeCast S1x64x256
    (truncf .bf16 (mulf (divf (extractStridedSlice S64x256 ![0, 0] a slices_S80x256_o0_0_S64x256)
        (broadcastTo S64x256 (extractStridedSlice S1x256 ![64, 0] a slices_S80x256_o64_0_S1x256) broadcasts_S1x256_S64x256))
      (extf .f32 (shapeCast S64x256 g shapeCasts_S1x64x256_S64x256) bitsLt_bf16_f32)) bitsLt_bf16_f32)
    shapeCasts_S64x256_S1x64x256
/-- The ones beside the values. -/
def onesV : FVec F S16x256 .bf16 := broadcast S16x256 (Scalar.ofBits .bf16 0x3F80#16)
def zerosV : FVec F S64x256 .bf16 := broadcast S64x256 (Scalar.ofBits .bf16 0x0000#16)
/-- One head's queries in the first (`lo`) or the second (`hi`) half of the 128 lanes the keys have, zeros in the other. -/
def padLo (x : Vec F S1x64x256 .bf16) : FVec F S128x256 .bf16 :=
  concatenate S128x256 0 [⟨S64x256, shapeCast S64x256 x shapeCasts_S1x64x256_S64x256⟩, ⟨S64x256, zerosV⟩] concatenates_S64x256_S64x256_S128x256_d0
def padHi (x : Vec F S1x64x256 .bf16) : FVec F S128x256 .bf16 :=
  concatenate S128x256 0 [⟨S64x256, zerosV⟩, ⟨S64x256, shapeCast S64x256 x shapeCasts_S1x64x256_S64x256⟩] concatenates_S64x256_S64x256_S128x256_d0
/-- The values of one stream in a block (rows `64·t …` of the 128), the ones below them. -/
def augLo (x : Vec F S1x128x256 .bf16) : FVec F S80x256 .bf16 :=
  concatenate S80x256 0 [⟨S64x256, extractStridedSlice S64x256 ![0, 0] (shapeCast S128x256 x shapeCasts_S1x128x256_S128x256) slices_S128x256_o0_0_S64x256⟩, ⟨S16x256, onesV⟩] concatenates_S64x256_S16x256_S80x256_d0
def augHi (x : Vec F S1x128x256 .bf16) : FVec F S80x256 .bf16 :=
  concatenate S80x256 0 [⟨S64x256, extractStridedSlice S64x256 ![64, 0] (shapeCast S128x256 x shapeCasts_S1x128x256_S128x256) slices_S128x256_o64_0_S64x256⟩, ⟨S16x256, onesV⟩] concatenates_S64x256_S16x256_S80x256_d0
/-- A block's keys. -/
def keyV (x : Vec F S1x256x128 .bf16) : FVec F S256x128 .bf16 := shapeCast S256x128 x shapeCasts_S1x256x128_S256x128

/-! ## Where the pieces read and write -/

theorem inbS (s : Fin 2) (n : Fin 4) : ∀ a, (![s.1, n.1, 0, 0] : Fin 4 → ℕ) a + S1x1x256x256.size a ≤ S2x4x256x256.size a := by
  revert s n; decide
theorem inbM (s : Fin 2) (n : Fin 4) : ∀ a, (![s.1, n.1, 0, 0] : Fin 4 → ℕ) a + S1x1x1x256.size a ≤ S2x4x1x256.size a := by
  revert s n; decide
theorem inbQ (j : Fin 8) : ∀ a, (![0, 64 * j.1, 0] : Fin 3 → ℕ) a + S1x64x256.size a ≤ S1x512x256.size a := by
  revert j; decide

/-- Slot `s` of head `n` in either scratch buffer. -/
abbrev recS (s : Fin 2) (n : Fin 4) : Rect S2x4x256x256 := Rect.unit (s := S2x4x256x256) ![s.1, n.1, 0, 0] S1x1x256x256.size (inbS s n)
abbrev recM (s : Fin 2) (n : Fin 4) : Rect S2x4x1x256 := Rect.unit (s := S2x4x1x256) ![s.1, n.1, 0, 0] S1x1x1x256.size (inbM s n)
/-- The rows of head `j` of eight, in the queries, the gate and the result. -/
abbrev recQ (j : Fin 8) : Rect S1x512x256 := Rect.unit (s := S1x512x256) ![0, 64 * j.1, 0] S1x64x256.size (inbQ j)
theorem packedQ (j : Fin 8) : (recQ j).PackedRows (EltTy.packing .bf16) := by revert j; decide
/-- A block of keys, and of values, from where it begins. -/
abbrev recK (off : Fin 3 → ℕ) (h : ∀ a, off a + S1x256x128.size a ≤ S1x4352x128.size a) : Rect S1x4352x128 :=
  Rect.unit (s := S1x4352x128) off S1x256x128.size h
abbrev recV (off : Fin 3 → ℕ) (h : ∀ a, off a + S1x128x256.size a ≤ S1x128x4352.size a) : Rect S1x128x4352 :=
  Rect.unit (s := S1x128x4352) off S1x128x256.size h

/-! ## The pieces -/

section
variable (O : Ops sig)

/-- Put one head's scores and their maxima into a slot. -/
def scoreHead (s : Fin 2) (n : Fin 4) (kb : FVec F S256x128 .bf16) (q : FVec F S128x256 .bf16) : Pr nD τ sig Λ F PUnit := do
  let _ ← Prog.lift (.load O.ss (recS s n).toLoadRect (View.loadsAt_vmem h_S1x1x256x256))
  Prog.lift (.store O.ss (recS s n) (shapeCast S1x1x256x256 (scoreV kb q) shapeCasts_S256x256_S1x1x256x256) Finset.univ
    (View.stores_vmem_bits_univ h_S1x1x256x256 rfl) (.inl rfl))
  let _ ← Prog.lift (.load O.ms (recM s n).toLoadRect (View.loadsAt_vmem h_S1x1x1x256))
  Prog.lift (.store O.ms (recM s n) (shapeCast S1x1x1x256 (maxV (scoreV kb q)) shapeCasts_S1x256_S1x1x1x256) Finset.univ
    (View.stores_vmem_bits_univ h_S1x1x1x256 rfl) (.inl rfl))

/-- A block's scores, all four heads, into a slot. -/
def score (s : Fin 2) (off : Fin 3 → ℕ) (h : ∀ a, off a + S1x256x128.size a ≤ S1x4352x128.size a)
    (q0 q1 q2 q3 : FVec F S128x256 .bf16) : Pr nD τ sig Λ F PUnit := do
  let x ← Prog.lift (.load O.ks (recK off h).toLoadRect (View.loadsAt_vmem h_S1x256x128))
  scoreHead O s 0 (keyV x) q0
  scoreHead O s 1 (keyV x) q1
  scoreHead O s 2 (keyV x) q2
  scoreHead O s 3 (keyV x) q3

/-- Take one head's scores out of a slot, into its running values. -/
def takeHead (s : Fin 2) (n : Fin 4) (va : FVec F S80x256 .bf16) (m : M F) (a : A F) : Pr nD τ sig Λ F (M F × A F) := do
  let y ← Prog.lift (.load O.ms (recM s n).toLoadRect (View.loadsAt_vmem h_S1x1x1x256))
  let x ← Prog.lift (.load O.ss (recS s n).toLoadRect (View.loadsAt_vmem h_S1x1x256x256))
  pure (maximumf m (shapeCast S1x256 y shapeCasts_S1x1x1x256_S1x256),
    accV va m (maximumf m (shapeCast S1x256 y shapeCasts_S1x1x1x256_S1x256)) (shapeCast S256x256 x shapeCasts_S1x1x256x256_S256x256) a)

/-- A block's scores, all four heads, out of a slot; `aug` picks the stream's values. -/
def take (s : Fin 2) (off : Fin 3 → ℕ) (h : ∀ a, off a + S1x128x256.size a ≤ S1x128x4352.size a)
    (aug : Vec F S1x128x256 .bf16 → FVec F S80x256 .bf16) (x : Car F) : Pr nD τ sig Λ F (Car F) := do
  let v ← Prog.lift (.load O.vs (recV off h).toLoadRect (View.loadsAt_vmem h_S1x128x256))
  let r0 ← takeHead O s 0 (aug v) x.1 x.2.1
  let r1 ← takeHead O s 1 (aug v) x.2.2.1 x.2.2.2.1
  let r2 ← takeHead O s 2 (aug v) x.2.2.2.2.1 x.2.2.2.2.2.1
  let r3 ← takeHead O s 3 (aug v) x.2.2.2.2.2.2.1 x.2.2.2.2.2.2.2
  pure (r0.1, r0.2, r1.1, r1.2, r2.1, r2.2, r3.1, r3.2)

/-- One stage: the next block's scores into the other slot, then this block's out of its own. -/
def stage (s : Fin 2) (offK : Fin 3 → ℕ) (hK : ∀ a, offK a + S1x256x128.size a ≤ S1x4352x128.size a)
    (offV : Fin 3 → ℕ) (hV : ∀ a, offV a + S1x128x256.size a ≤ S1x128x4352.size a)
    (aug : Vec F S1x128x256 .bf16 → FVec F S80x256 .bf16) (q0 q1 q2 q3 : FVec F S128x256 .bf16) (x : Car F) : Pr nD τ sig Λ F (Car F) := do
  score O (1 - s) offK hK q0 q1 q2 q3
  take O s offV hV aug x

/-- One head's result rows. -/
def emit (j : Fin 8) (a : A F) : Pr nD τ sig Λ F PUnit := do
  let g ← Prog.lift (.load O.gs (recQ j).toLoadRect (View.loadsAt_vmem h_S1x64x256))
  let _ ← Prog.lift (.load O.os (recQ j).toLoadRect (View.loadsAt_vmem h_S1x64x256))
  Prog.lift (.store O.os (recQ j) (outV a g) Finset.univ
    (View.stores_vmem h_S1x64x256 (O.hos.storeExact_slice rfl _ (packedQ j)) (fun _ => rfl)) (.inl rfl))

/-- One trip of a stream's loop: eight stages, the slots taking turns. -/
def trip (s : Fin 2) (offK : Fin 8 → Fin 3 → ℕ) (hK : ∀ u a, offK u a + S1x256x128.size a ≤ S1x4352x128.size a)
    (offV : Fin 8 → Fin 3 → ℕ) (hV : ∀ u a, offV u a + S1x128x256.size a ≤ S1x128x4352.size a)
    (aug : Vec F S1x128x256 .bf16 → FVec F S80x256 .bf16) (q0 q1 q2 q3 : FVec F S128x256 .bf16) (x : Car F) : Pr nD τ sig Λ F (Car F) := do
  let x ← stage O s (offK 0) (hK 0) (offV 0) (hV 0) aug q0 q1 q2 q3 x
  let x ← stage O (1 - s) (offK 1) (hK 1) (offV 1) (hV 1) aug q0 q1 q2 q3 x
  let x ← stage O s (offK 2) (hK 2) (offV 2) (hV 2) aug q0 q1 q2 q3 x
  let x ← stage O (1 - s) (offK 3) (hK 3) (offV 3) (hV 3) aug q0 q1 q2 q3 x
  let x ← stage O s (offK 4) (hK 4) (offV 4) (hV 4) aug q0 q1 q2 q3 x
  let x ← stage O (1 - s) (offK 5) (hK 5) (offV 5) (hV 5) aug q0 q1 q2 q3 x
  let x ← stage O s (offK 6) (hK 6) (offV 6) (hV 6) aug q0 q1 q2 q3 x
  stage O (1 - s) (offK 7) (hK 7) (offV 7) (hV 7) aug q0 q1 q2 q3 x

/-- One head's queries, loaded. -/
def loadQ (j : Fin 8) : Pr nD τ sig Λ F (Vec F S1x64x256 .bf16) :=
  Prog.lift (.load O.qs (recQ j).toLoadRect (View.loadsAt_vmem h_S1x64x256))

/-- The results of a stream's four heads. -/
def emit4 (j0 j1 j2 j3 : Fin 8) (x : Car F) : Pr nD τ sig Λ F PUnit := do
  emit O j0 x.2.1
  emit O j1 x.2.2.2.1
  emit O j2 x.2.2.2.2.2.1
  emit O j3 x.2.2.2.2.2.2.2

/-- The body: two streams, each put on its way before the other is finished. -/
def body : Pr nD τ sig Λ F PUnit := do
  let x0 ← loadQ O 0
  let x1 ← loadQ O 1
  let x2 ← loadQ O 2
  let x3 ← loadQ O 3
  let x4 ← loadQ O 4
  let x5 ← loadQ O 5
  let x6 ← loadQ O 6
  let x7 ← loadQ O 7
  score O 0 ![0, 0, 0] inb_S1x4352x128_S1x256x128_0_0_0 (padLo x0) (padLo x1) (padLo x2) (padLo x3)
  let (c0, c1, c2, c3, c4, c5, c6, c7) ← Scf.Loop.for k0_t1_loop k0_t1_ok car0 fun k (b0, b1, b2, b3, b4, b5, b6, b7) => trip O 0
    (fun u => k0_off1 k (BitVec.ofNat 32 u)) (fun u => k0_off1_inb k u) (fun u => k0_off2 k (BitVec.ofNat 32 u)) (fun u => k0_off2_inb k u)
    augLo (padLo x0) (padLo x1) (padLo x2) (padLo x3) (b0, b1, b2, b3, b4, b5, b6, b7)
  score O 1 ![0, 0, 0] inb_S1x4352x128_S1x256x128_0_0_0 (padHi x4) (padHi x5) (padHi x6) (padHi x7)
  let c ← take O 0 ![0, 0, 4096] inb_S1x128x4352_S1x128x256_0_0_4096 augLo (c0, c1, c2, c3, c4, c5, c6, c7)
  emit4 O 0 1 2 3 c
  let (c0, c1, c2, c3, c4, c5, c6, c7) ← Scf.Loop.for k0_t2_loop k0_t2_ok car0 fun k (b0, b1, b2, b3, b4, b5, b6, b7) => trip O 1
    (fun u => k0_off3 k (BitVec.ofNat 32 u)) (fun u => k0_off3_inb k u) (fun u => k0_off4 k (BitVec.ofNat 32 u)) (fun u => k0_off4_inb k u)
    augHi (padHi x4) (padHi x5) (padHi x6) (padHi x7) (b0, b1, b2, b3, b4, b5, b6, b7)
  let c ← take O 1 ![0, 0, 4096] inb_S1x128x4352_S1x128x256_0_0_4096 augHi (c0, c1, c2, c3, c4, c5, c6, c7)
  emit4 O 4 5 6 7 c

end

end Dense
end
-- ==== Proof.Dense.Wp.lean ====
/-
  What a load and a store do to a whole buffer owned at contents, and the relation "this program, run from these
  buffers, hands back this value and leaves those buffers" the body's run is stated with.
-/
module

public import proofs.«01_k».proof.Proof.Dense.Prog
public import Idealize.ShloMosaic.Lib.Memref
public import Idealize.ShloMosaic.Lib.Writes
public import Idealize.ShloMosaic.Lib.Scf
public import Idealize.ShloMosaic.Lib.Pipeline.Frame
public import Idealize.ShloMosaic.Lib.Tactic

@[expose] public section

noncomputable section

namespace Dense

open Cert.Kernel (S1x512x256 S1x4352x128 S1x128x4352 S2x4x256x256 S2x4x1x256)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels}
variable {F : FTy → Type} [FloatOps F]
variable {U : Type} [URA U]

local notation "𝕄" => MT nD τ sig Unit (Elt F) ℕ U ℕ

section access
variable {defs : Defs nD τ sig (Elt F) Λ} (𝒱 : Variants) (c : Dev nD) (bd : Option 𝒱.V) (E : Set ℕ)
variable {s : Shape} {e : EltTy} {β : Type}

/-- A store through a rectangle of a memref changes what the memref reads on that rectangle, to the stored values. -/
theorem read_access_write {κ : Kind} {sp : Space} (m : Memref sig κ sp s e) (r : Rect s) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact View.read_slice_write_emb (v := m.view) r f w (Finset.mem_univ i)
  · rw [Rect.overlay_of_not_mem _ _ _ hj]
    exact View.read_slice_write_of_not_mem (v := m.view) r f w Finset.univ (by rwa [Rect.map_emb_univ])

/-- A load from an owned memref continues at its contents on the rectangle. -/
theorem owns_load {m : Memref sig .tc .vmem s e} {r : Rect s} {hl : m.view.LoadsAt r.toLoadRect}
    {k : (r.toLoadRect.shape.Idx → Elt F e) → Prog (TpuEff nD τ sig (Elt F) Λ .tc) β} {Q : β → sProp 𝕄} {X : s.Idx → Elt F e} :
    (owns (c : Thread nD τ) m fullShare X : sProp 𝕄)
      ⊢ iprop((owns (c : Thread nD τ) m fullShare X -∗ wp frame (wpE defs 𝒱 (c : Thread nD τ) bd) E (k (fun i => X (r.emb i))) Q)
        -∗ wp frame (wpE defs 𝒱 (c : Thread nD τ) bd) E (.op (.load m r.toLoadRect hl) k) Q) := by
  unfold owns
  iintro ⟨%f, %hf, H⟩ K
  subst hf
  have hw := wp_load_rect (Γ := ∅) (defs := defs) (Q := Q) (q := fullShare) (m := m) (r := r) (hl := hl) (k := k) (f := f) 𝒱 (c : Thread nD τ) bd E (S := m.view.set) (m.view.set_slice_subset r)
  iapply hw $$ H
  iintro H
  iapply K
  iexists f
  isplitr
  · ipureintro; rfl
  · iexact H

/-- A store to an owned memref continues with its contents on the rectangle replaced. -/
theorem owns_store {m : Memref sig .tc .vmem s e} {r : Rect s} {w : r.shape.Idx → Elt F e}
    {hx : (m.access r).Stores Finset.univ} {hm : Finset.univ = Finset.univ ∨ ∀ a, r.stride a = 1}
    {k : PUnit → Prog (TpuEff nD τ sig (Elt F) Λ .tc) β} {Q : β → sProp 𝕄} {X : s.Idx → Elt F e} :
    (owns (c : Thread nD τ) m fullShare X : sProp 𝕄)
      ⊢ iprop((owns (c : Thread nD τ) m fullShare (r.overlay X w) -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ K
  subst hf
  have hw := wp_store (Γ := ∅) (defs := defs) (Q := Q) (m := m) (r := r) 𝒱 (c : Thread nD τ) bd E (S := m.view.set) (w := w) (hx := hx) (hm := hm) (k := k) (Mk := Finset.univ) (f := f) (m.view.set_slice_subset r)
  iapply hw $$ H
  iintro H
  iapply K
  iexists ((m.access r).write (Elt F) f w Finset.univ)
  isplitr
  · ipureintro; exact read_access_write m r f w
  · iexact H

end access

/-! ## Runs -/

/-- The contents of the buffers the body only reads, -/
structure Ins (F : FTy → Type) where
  q : Vec F S1x512x256 .bf16
  k : Vec F S1x4352x128 .bf16
  v : Vec F S1x128x4352 .bf16
  g : Vec F S1x512x256 .bf16

/-- and of those it writes. -/
structure Outs (F : FTy → Type) where
  o : Vec F S1x512x256 .bf16
  s : Vec F S2x4x256x256 .f32
  m : Vec F S2x4x1x256 .f32

/-- The seven buffers, owned whole at their contents. -/
def St (c : Dev nD) (O : Ops sig) (I : Ins F) (X : Outs F) : sProp 𝕄 :=
  iprop(owns (c : Thread nD τ) O.qs fullShare I.q ∗ owns (c : Thread nD τ) O.ks fullShare I.k
    ∗ owns (c : Thread nD τ) O.vs fullShare I.v ∗ owns (c : Thread nD τ) O.gs fullShare I.g
    ∗ owns (c : Thread nD τ) O.os fullShare X.o ∗ owns (c : Thread nD τ) O.ss fullShare X.s
    ∗ owns (c : Thread nD τ) O.ms fullShare X.m)

section runs
variable (defs : Defs nD τ sig (Elt F) Λ) (𝒱 : Variants) (c : Dev nD) (bd : Option 𝒱.V) (E : Set ℕ) (U)
variable (O : Ops sig) (I : Ins F)

/-- `p`, run on the buffers at `X`, hands back `r` and leaves them at `Y`: whatever may be said after it from `Y` at `r`
    may be said of it from `X`. -/
structure Runs {α : Type} (p : Pr nD τ sig Λ F α) (X Y : Outs F) (r : α) : Prop where
  of : ∀ {β : Type} (k : α → Pr nD τ sig Λ F β) (Q : β → sProp 𝕄),
    iprop(St c O I Y -∗ wp frame (wpE defs 𝒱 (c : Thread nD τ) bd) E (k r) Q) ⊢
      (iprop(St c O I X -∗ wp frame (wpE defs 𝒱 (c : Thread nD τ) bd) E (p >>= k) Q) : sProp 𝕄)

variable {defs 𝒱 c bd E U O I}
variable {α β : Type} {X Y Z : Outs F}

theorem Runs.pure (r : α) : Runs U defs 𝒱 c bd E O I (pure r) X X r := ⟨fun k Q => by rw [pure_bind]⟩

theorem Runs.bind {p : Pr nD τ sig Λ F α} {f : α → Pr nD τ sig Λ F β} {r : α} {r' : β}
    (hp : Runs U defs 𝒱 c bd E O I p X Y r) (hf : Runs U defs 𝒱 c bd E O I (f r) Y Z r') :
    Runs U defs 𝒱 c bd E O I (p >>= f) X Z r' := ⟨fun k Q => by
  rw [bind_assoc]; exact (hf.of k Q).trans (hp.of (fun x => f x >>= k) Q)⟩

theorem Runs.cast {p : Pr nD τ sig Λ F α} {r r' : α} (hp : Runs U defs 𝒱 c bd E O I p X Y r) (h : r = r') (hY : Y = Z) :
    Runs U defs 𝒱 c bd E O I p X Z r' := h ▸ hY ▸ hp

/-- A loop: trip by trip, the carried values `a k` and the buffers `B k`. -/
theorem Runs.for {σ : Type} {L : Scf.Loop 32} {hok : L.OK} {init : σ} {f : Fin L.trips → σ → Pr nD τ sig Λ F σ}
    (a : ℕ → σ) (B : ℕ → Outs F) (n : ℕ) (hn : L.trips = n) (h0 : a 0 = init)
    (h : ∀ k : Fin L.trips, Runs U defs 𝒱 c bd E O I (f k (a k)) (B k) (B (k + 1)) (a (k + 1))) :
    Runs U defs 𝒱 c bd E O I (Scf.Loop.for L hok init f) (B 0) (B n) (a n) := ⟨fun k Q => by
  subst hn
  have hb : ∀ (t : Fin L.trips) (acc : σ), (iprop(⌜acc = a t⌝ ∗ St c O I (B t)) : sProp 𝕄)
      ⊢ wp frame (wpE defs 𝒱 (c : Thread nD τ) bd) E (f t acc) (fun acc' => iprop(⌜acc' = a (t + 1)⌝ ∗ St c O I (B (t + 1)))) := by
    intro t acc
    iintro ⟨%ha, H⟩
    subst ha
    have := (h t).of Pure.pure (fun acc' => iprop(⌜acc' = a (t + 1)⌝ ∗ St c O I (B (t + 1))))
    rw [bind_pure] at this
    iapply this
    · iintro H
      iapply (le_wp_ret frame (wpE defs 𝒱 (c : Thread nD τ) bd) E _ _)
      isplitr
      · ipureintro; rfl
      · iexact H
    · iexact H
  iintro K H
  unfold Scf.Loop.for
  iapply (Scf.wp_for_bind frame (wpE defs 𝒱 (c : Thread nD τ) bd) E L.lb L.ub L.st hok init f
    (fun t acc => iprop(⌜acc = a t⌝ ∗ St c O I (B t))) hb) $$ [H]
  · isplitr
    · ipureintro; exact h0.symm
    · iexact H
  · iintro %acc ⟨%ha, H⟩
    subst ha
    iapply K
    iexact H⟩

end runs

end Dense
end
-- ==== Proof.Dense.Run.lean ====
/-
  The body's run: what each piece of it does to the buffers and what it hands back, and so the whole body's effect, in
  terms of the scores of the seventeen blocks and of the running values after each.
-/
module

public import proofs.«01_k».proof.Proof.Dense.Wp
public import Idealize.ShloMosaic.Lib.Pipeline.Value

@[expose] public section

noncomputable section

namespace Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers' contents, head by head -/

/-- One head's scores and their maxima, put into a slot. -/
def Outs.put (X : Outs F) (s : Fin 2) (n : Fin 4) (v : FVec F S256x256 .f32) : Outs F where
  o := X.o
  s := (recS s n).overlay X.s (shapeCast S1x1x256x256 v shapeCasts_S256x256_S1x1x256x256)
  m := (recM s n).overlay X.m (shapeCast S1x1x1x256 (maxV v) shapeCasts_S1x256_S1x1x1x256)

/-- Four heads' scores. -/
def Outs.put4 (X : Outs F) (s : Fin 2) (v : Fin 4 → FVec F S256x256 .f32) : Outs F :=
  (((X.put s 0 (v 0)).put s 1 (v 1)).put s 2 (v 2)).put s 3 (v 3)

/-- What a slot holds of a head: its scores, -/
def Outs.sAt (X : Outs F) (s : Fin 2) (n : Fin 4) : FVec F S256x256 .f32 :=
  shapeCast S256x256 (fun i => X.s ((recS s n).emb i)) shapeCasts_S1x1x256x256_S256x256
/-- their maxima. -/
def Outs.mAt (X : Outs F) (s : Fin 2) (n : Fin 4) : M F :=
  shapeCast S1x256 (fun i => X.m ((recM s n).emb i)) shapeCasts_S1x1x1x256_S1x256

theorem disjS {s s' : Fin 2} {n n' : Fin 4} (h : s ≠ s' ∨ n ≠ n') (i : (recS s n).shape.Idx) : (recS s n).emb i ∉ (recS s' n').set := by
  have v0 : ((recS s n).emb i 0).val = s.1 := by
    have h0 : (i 0).val < 1 := (i 0).isLt
    change s.1 + 1 * (i 0).val = s.1; omega
  have v1 : ((recS s n).emb i 1).val = n.1 := by
    have h0 : (i 1).val < 1 := (i 1).isLt
    change n.1 + 1 * (i 1).val = n.1; omega
  rcases h with h | h
  · exact Rect.not_mem_set_of_axis _ _ 0 s'.1 1 rfl rfl rfl (by have := Fin.val_ne_of_ne h; rw [v0]; omega)
  · exact Rect.not_mem_set_of_axis _ _ 1 n'.1 1 rfl rfl rfl (by have := Fin.val_ne_of_ne h; rw [v1]; omega)

theorem disjM {s s' : Fin 2} {n n' : Fin 4} (h : s ≠ s' ∨ n ≠ n') (i : (recM s n).shape.Idx) : (recM s n).emb i ∉ (recM s' n').set := by
  have v0 : ((recM s n).emb i 0).val = s.1 := by
    have h0 : (i 0).val < 1 := (i 0).isLt
    change s.1 + 1 * (i 0).val = s.1; omega
  have v1 : ((recM s n).emb i 1).val = n.1 := by
    have h0 : (i 1).val < 1 := (i 1).isLt
    change n.1 + 1 * (i 1).val = n.1; omega
  rcases h with h | h
  · exact Rect.not_mem_set_of_axis _ _ 0 s'.1 1 rfl rfl rfl (by have := Fin.val_ne_of_ne h; rw [v0]; omega)
  · exact Rect.not_mem_set_of_axis _ _ 1 n'.1 1 rfl rfl rfl (by have := Fin.val_ne_of_ne h; rw [v1]; omega)

theorem Outs.sAt_put_self (X : Outs F) (s : Fin 2) (n : Fin 4) (v : FVec F S256x256 .f32) : (X.put s n v).sAt s n = v := by
  unfold Outs.sAt Outs.put
  simp only [Rect.overlay_emb]
  exact shapeCast_shapeCast _ _ _
theorem Outs.mAt_put_self (X : Outs F) (s : Fin 2) (n : Fin 4) (v : FVec F S256x256 .f32) : (X.put s n v).mAt s n = maxV v := by
  unfold Outs.mAt Outs.put
  simp only [Rect.overlay_emb]
  exact shapeCast_shapeCast _ _ _
theorem Outs.sAt_put_of_ne (X : Outs F) {s s' : Fin 2} {n n' : Fin 4} (h : s ≠ s' ∨ n ≠ n') (v : FVec F S256x256 .f32) :
    (X.put s' n' v).sAt s n = X.sAt s n := by
  unfold Outs.sAt Outs.put
  simp only [Rect.overlay_of_not_mem _ _ _ (disjS h _)]
theorem Outs.mAt_put_of_ne (X : Outs F) {s s' : Fin 2} {n n' : Fin 4} (h : s ≠ s' ∨ n ≠ n') (v : FVec F S256x256 .f32) :
    (X.put s' n' v).mAt s n = X.mAt s n := by
  unfold Outs.mAt Outs.put
  simp only [Rect.overlay_of_not_mem _ _ _ (disjM h _)]

/-- Slot `s` holds the scores `v` and their maxima. -/
def Has (X : Outs F) (s : Fin 2) (v : Fin 4 → FVec F S256x256 .f32) : Prop := ∀ n, X.sAt s n = v n ∧ X.mAt s n = maxV (v n)

theorem has_put4 (X : Outs F) (s : Fin 2) (v : Fin 4 → FVec F S256x256 .f32) : Has (X.put4 s v) s v := by
  intro n
  unfold Outs.put4
  fin_cases n <;> refine ⟨?_, ?_⟩ <;>
    simp [Outs.sAt_put_self, Outs.mAt_put_self, Outs.sAt_put_of_ne, Outs.mAt_put_of_ne]
theorem Has.put4_other {X : Outs F} {s s' : Fin 2} {v : Fin 4 → FVec F S256x256 .f32} (h : Has X s v) (hs : s ≠ s')
    (w : Fin 4 → FVec F S256x256 .f32) : Has (X.put4 s' w) s v := by
  intro n
  unfold Outs.put4
  simpa only [Outs.sAt_put_of_ne _ (Or.inl hs), Outs.mAt_put_of_ne _ (Or.inl hs)] using h n

/-! ## The blocks and the running values -/

theorem inbK (b : ℕ) : ∀ a, (![0, 256 * min b 16, 0] : Fin 3 → ℕ) a + S1x256x128.size a ≤ S1x4352x128.size a := by
  have : 256 * min b 16 + 256 ≤ 4352 := by omega
  intro a; fin_cases a
  · exact Nat.le.refl
  · exact this
  · exact Nat.le.refl
theorem inbV (b : ℕ) : ∀ a, (![0, 0, 256 * min b 16] : Fin 3 → ℕ) a + S1x128x256.size a ≤ S1x128x4352.size a := by
  have : 256 * min b 16 + 256 ≤ 4352 := by omega
  intro a; fin_cases a
  · exact Nat.le.refl
  · exact Nat.le.refl
  · exact this

/-- Block `b`'s keys, -/
def Ins.keys (I : Ins F) (b : ℕ) : FVec F S256x128 .bf16 := keyV (fun i => I.k ((recK _ (inbK b)).emb i))
/-- its values, -/
def Ins.vals (I : Ins F) (b : ℕ) : Vec F S1x128x256 .bf16 := fun i => I.v ((recV _ (inbV b)).emb i)
/-- and its scores against a head's queries. -/
def Ins.sc (I : Ins F) (q : FVec F S128x256 .bf16) (b : ℕ) : FVec F S256x256 .f32 := scoreV (I.keys b) q
/-- Head `j`'s queries and gate. -/
def Ins.qh (I : Ins F) (j : Fin 8) : Vec F S1x64x256 .bf16 := fun i => I.q ((recQ j).emb i)
def Ins.gh (I : Ins F) (j : Fin 8) : Vec F S1x64x256 .bf16 := fun i => I.g ((recQ j).emb i)

/-- One head's running values after one more block. -/
def stepH (va : FVec F S80x256 .bf16) (s : FVec F S256x256 .f32) (x : M F × A F) : M F × A F :=
  (maximumf x.1 (maxV s), accV va x.1 (maximumf x.1 (maxV s)) s x.2)

/-- One head's running values after `b` blocks. -/
def Ins.runH (I : Ins F) (aug : Vec F S1x128x256 .bf16 → FVec F S80x256 .bf16) (q : FVec F S128x256 .bf16) : ℕ → M F × A F
  | 0 => (m0, a0)
  | b + 1 => stepH (aug (I.vals b)) (I.sc q b) (Ins.runH I aug q b)

/-- Four heads' running values as the loops carry them. -/
def carOf (f : Fin 4 → M F × A F) : Car F := ((f 0).1, (f 0).2, (f 1).1, (f 1).2, (f 2).1, (f 2).2, (f 3).1, (f 3).2)

/-- The slot of block `b`, of a stream that begins with slot `s`. -/
def slot (s : Fin 2) (b : ℕ) : Fin 2 := if b % 2 = 0 then s else 1 - s

theorem slot_succ (s : Fin 2) (b : ℕ) : slot s (b + 1) = 1 - slot s b := by
  unfold slot
  rcases Nat.mod_two_eq_zero_or_one b with h | h
  · have h' : ¬ (b + 1) % 2 = 0 := by omega
    rw [if_pos h, if_neg h']
  · have h' : (b + 1) % 2 = 0 := by omega
    have h'' : ¬ b % 2 = 0 := by omega
    rw [if_neg h'', if_pos h']; revert s; decide
theorem slot_even (s : Fin 2) (b : ℕ) (h : b % 2 = 0) : slot s b = s := if_pos h
theorem slot_odd (s : Fin 2) (b : ℕ) (h : b % 2 = 1) : slot s b = 1 - s := if_neg (by omega)
theorem ne_one_sub (s : Fin 2) : s ≠ 1 - s := by revert s; decide

/-- The buffers of a stream when `b` blocks have been taken: block `b`'s scores have been put. -/
def Ins.outs (I : Ins F) (Y : Outs F) (s : Fin 2) (q : Fin 4 → FVec F S128x256 .bf16) : ℕ → Outs F
  | 0 => Y
  | b + 1 => (Ins.outs I Y s q b).put4 (slot s (b + 1)) (fun n => I.sc (q n) (b + 1))

theorem Ins.has_outs (I : Ins F) {Y : Outs F} {s : Fin 2} {q : Fin 4 → FVec F S128x256 .bf16} (h : Has Y s (fun n => I.sc (q n) 0)) (b : ℕ) :
    Has (I.outs Y s q b) (slot s b) (fun n => I.sc (q n) b) := by
  cases b with
  | zero => exact h
  | succ b => exact has_put4 _ _ _

theorem Outs.put_o (X : Outs F) (s : Fin 2) (n : Fin 4) (v : FVec F S256x256 .f32) : (X.put s n v).o = X.o := by
  unfold Outs.put; rfl
theorem Outs.put4_o (X : Outs F) (s : Fin 2) (v : Fin 4 → FVec F S256x256 .f32) : (X.put4 s v).o = X.o := by
  unfold Outs.put4 Outs.put; rfl

theorem Ins.outs_o (I : Ins F) (Y : Outs F) (s : Fin 2) (q : Fin 4 → FVec F S128x256 .bf16) (b : ℕ) : (I.outs Y s q b).o = Y.o := by
  induction b with
  | zero => rfl
  | succ b ih => unfold Ins.outs; rw [Outs.put4_o, ih]

/-! ## The pieces' runs -/

variable {nD : Nat} {τ : Topo} {sig : RefSig} {Λ : Labels}
variable {U : Type} [URA U]

local notation "𝕄" => MT nD τ sig Unit (Elt F) ℕ U ℕ

section runs
variable {defs : Defs nD τ sig (Elt F) Λ} {𝒱 : Variants} {c : Dev nD} {bd : Option 𝒱.V} {E : Set ℕ}
variable {O : Ops sig} {I : Ins F}

/-- A load from one of the buffers, the others (`R`) set aside. -/
theorem runs_load {s : Shape} {e : EltTy} {m : Memref sig .tc .vmem s e} {r : Rect s} {hl : m.view.LoadsAt r.toLoadRect}
    {X : Outs F} {V : s.Idx → Elt F e} {R : sProp 𝕄}
    (h : St c O I X ⊢ iprop(owns (c : Thread nD τ) m fullShare V ∗ R)) (h' : iprop(owns (c : Thread nD τ) m fullShare V ∗ R) ⊢ St c O I X) :
    Runs U defs 𝒱 c bd E O I (Prog.lift (.load m r.toLoadRect hl)) X X (fun i => V (r.emb i)) := ⟨fun k Q => by
  iintro K H
  ihave H := h $$ H
  icases H with ⟨Hm, HR⟩
  have hw := owns_load (defs := defs) (r := r) (hl := hl) (k := k) (Q := Q) 𝒱 c bd E (m := m) (X := V)
  iapply hw $$ Hm
  iintro Hm
  iapply K
  iapply h'
  isplitl [Hm]
  · iexact Hm
  · iexact HR⟩

/-- A store to one of the buffers, the others set aside. -/
theorem runs_store {s : Shape} {e : EltTy} {m : Memref sig .tc .vmem s e} {r : Rect s} {w : r.shape.Idx → Elt F e}
    {hx : (m.access r).Stores Finset.univ} {hm : Finset.univ = Finset.univ ∨ ∀ a, r.stride a = 1}
    {X Y : Outs F} {V : s.Idx → Elt F e} {R : sProp 𝕄}
    (h : St c O I X ⊢ iprop(owns (c : Thread nD τ) m fullShare V ∗ R))
    (h' : iprop(owns (c : Thread nD τ) m fullShare (r.overlay V w) ∗ R) ⊢ St c O I Y) :
    Runs U defs 𝒱 c bd E O I (Prog.lift (.store m r w Finset.univ hx hm)) X Y ⟨⟩ := ⟨fun k Q => by
  iintro K H
  ihave H := h $$ H
  icases H with ⟨Hm, HR⟩
  have hw := owns_store (defs := defs) (r := r) (w := w) (hx := hx) (hm := hm) (k := k) (Q := Q) 𝒱 c bd E (m := m) (X := V)
  iapply hw $$ Hm
  iintro Hm
  iapply K
  iapply h'
  isplitl [Hm]
  · iexact Hm
  · iexact HR⟩

/-- The queries' buffer, set apart from the others. -/
theorem St.q {X : Outs F} : (St c O I X : sProp 𝕄) ⊣⊢ iprop(owns (c : Thread nD τ) O.qs fullShare I.q ∗
    (owns (c : Thread nD τ) O.ks fullShare I.k ∗ owns (c : Thread nD τ) O.vs fullShare I.v ∗ owns (c : Thread nD τ) O.gs fullShare I.g
    ∗ owns (c : Thread nD τ) O.os fullShare X.o ∗ owns (c : Thread nD τ) O.ss fullShare X.s ∗ owns (c : Thread nD τ) O.ms fullShare X.m)) := .rfl
/-- The keys', -/
theorem St.k {X : Outs F} : (St c O I X : sProp 𝕄) ⊣⊢ iprop(owns (c : Thread nD τ) O.ks fullShare I.k ∗
    (owns (c : Thread nD τ) O.qs fullShare I.q ∗ owns (c : Thread nD τ) O.vs fullShare I.v ∗ owns (c : Thread nD τ) O.gs fullShare I.g
    ∗ owns (c : Thread nD τ) O.os fullShare X.o ∗ owns (c : Thread nD τ) O.ss fullShare X.s ∗ owns (c : Thread nD τ) O.ms fullShare X.m)) := sep_left_comm
/-- the values', -/
theorem St.v {X : Outs F} : (St c O I X : sProp 𝕄) ⊣⊢ iprop(owns (c : Thread nD τ) O.vs fullShare I.v ∗
    (owns (c : Thread nD τ) O.qs fullShare I.q ∗ owns (c : Thread nD τ) O.ks fullShare I.k ∗ owns (c : Thread nD τ) O.gs fullShare I.g
    ∗ owns (c : Thread nD τ) O.os fullShare X.o ∗ owns (c : Thread nD τ) O.ss fullShare X.s ∗ owns (c : Thread nD τ) O.ms fullShare X.m)) := by
  unfold St
  constructor
  · iintro ⟨H1, H2, H3, H4⟩; iframe
  · iintro ⟨H1, H2, H3, H4⟩; iframe
/-- the gate's, -/
theorem St.g {X : Outs F} : (St c O I X : sProp 𝕄) ⊣⊢ iprop(owns (c : Thread nD τ) O.gs fullShare I.g ∗
    (owns (c : Thread nD τ) O.qs fullShare I.q ∗ owns (c : Thread nD τ) O.ks fullShare I.k ∗ owns (c : Thread nD τ) O.vs fullShare I.v
    ∗ owns (c : Thread nD τ) O.os fullShare X.o ∗ owns (c : Thread nD τ) O.ss fullShare X.s ∗ owns (c : Thread nD τ) O.ms fullShare X.m)) := by
  unfold St
  constructor
  · iintro ⟨H1, H2, H3, H4, H5⟩; iframe
  · iintro ⟨H1, H2, H3, H4, H5⟩; iframe
/-- the result's, -/
theorem St.o {X : Outs F} : (St c O I X : sProp 𝕄) ⊣⊢ iprop(owns (c : Thread nD τ) O.os fullShare X.o ∗
    (owns (c : Thread nD τ) O.qs fullShare I.q ∗ owns (c : Thread nD τ) O.ks fullShare I.k ∗ owns (c : Thread nD τ) O.vs fullShare I.v
    ∗ owns (c : Thread nD τ) O.gs fullShare I.g ∗ owns (c : Thread nD τ) O.ss fullShare X.s ∗ owns (c : Thread nD τ) O.ms fullShare X.m)) := by
  unfold St
  constructor
  · iintro ⟨H1, H2, H3, H4, H5, H6⟩; iframe
  · iintro ⟨H1, H2, H3, H4, H5, H6⟩; iframe
/-- the scores', -/
theorem St.s {X : Outs F} : (St c O I X : sProp 𝕄) ⊣⊢ iprop(owns (c : Thread nD τ) O.ss fullShare X.s ∗
    (owns (c : Thread nD τ) O.qs fullShare I.q ∗ owns (c : Thread nD τ) O.ks fullShare I.k ∗ owns (c : Thread nD τ) O.vs fullShare I.v
    ∗ owns (c : Thread nD τ) O.gs fullShare I.g ∗ owns (c : Thread nD τ) O.os fullShare X.o ∗ owns (c : Thread nD τ) O.ms fullShare X.m)) := by
  unfold St
  constructor
  · iintro ⟨H1, H2, H3, H4, H5, H6, H7⟩; iframe
  · iintro ⟨H1, H2, H3, H4, H5, H6, H7⟩; iframe
/-- the maxima's. -/
theorem St.m {X : Outs F} : (St c O I X : sProp 𝕄) ⊣⊢ iprop(owns (c : Thread nD τ) O.ms fullShare X.m ∗
    (owns (c : Thread nD τ) O.qs fullShare I.q ∗ owns (c : Thread nD τ) O.ks fullShare I.k ∗ owns (c : Thread nD τ) O.vs fullShare I.v
    ∗ owns (c : Thread nD τ) O.gs fullShare I.g ∗ owns (c : Thread nD τ) O.os fullShare X.o ∗ owns (c : Thread nD τ) O.ss fullShare X.s)) := by
  unfold St
  constructor
  · iintro ⟨H1, H2, H3, H4, H5, H6, H7⟩; iframe
  · iintro ⟨H1, H2, H3, H4, H5, H6, H7⟩; iframe

end runs
end Dense
end
-- ==== Proof.Dense.Steps.lean ====
/-
  The runs of the body's pieces, one on top of the other, up to the whole body's.
-/
module

public import proofs.«01_k».proof.Proof.Dense.Run

@[expose] public section

noncomputable section

namespace Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {nD : Nat} {τ : Topo} {sig : RefSig} {Λ : Labels}
variable {U : Type} [URA U]

local notation "𝕄" => MT nD τ sig Unit (Elt F) ℕ U ℕ

section runs
variable {defs : Defs nD τ sig (Elt F) Λ} {𝒱 : Variants} {c : Dev nD} {bd : Option 𝒱.V} {E : Set ℕ}
variable {O : Ops sig} {I : Ins F}

variable {o : Vec F S1x512x256 .bf16} {x : Vec F S2x4x256x256 .f32} {y : Vec F S2x4x1x256 .f32}

theorem run_storeS (r : Rect S2x4x256x256) (w : r.shape.Idx → Elt F .f32) {hx : (O.ss.access r).Stores Finset.univ} {hm} :
    Runs U defs 𝒱 c bd E O I (Prog.lift (.store O.ss r w Finset.univ hx hm)) ⟨o, x, y⟩ ⟨o, r.overlay x w, y⟩ ⟨⟩ :=
  runs_store St.s.1 (St.s (X := ⟨o, r.overlay x w, y⟩)).2
theorem run_storeM (r : Rect S2x4x1x256) (w : r.shape.Idx → Elt F .f32) {hx : (O.ms.access r).Stores Finset.univ} {hm} :
    Runs U defs 𝒱 c bd E O I (Prog.lift (.store O.ms r w Finset.univ hx hm)) ⟨o, x, y⟩ ⟨o, x, r.overlay y w⟩ ⟨⟩ :=
  runs_store St.m.1 (St.m (X := ⟨o, x, r.overlay y w⟩)).2
theorem run_storeO (r : Rect S1x512x256) (w : r.shape.Idx → Elt F .bf16) {hx : (O.os.access r).Stores Finset.univ} {hm} :
    Runs U defs 𝒱 c bd E O I (Prog.lift (.store O.os r w Finset.univ hx hm)) ⟨o, x, y⟩ ⟨r.overlay o w, x, y⟩ ⟨⟩ :=
  runs_store St.o.1 (St.o (X := ⟨r.overlay o w, x, y⟩)).2

theorem run_scoreHead (X : Outs F) (s : Fin 2) (n : Fin 4) (kb : FVec F S256x128 .bf16) (q : FVec F S128x256 .bf16) :
    Runs U defs 𝒱 c bd E O I (scoreHead O s n kb q) X (X.put s n (scoreV kb q)) ⟨⟩ := by
  unfold scoreHead Outs.put
  refine (runs_load St.s.1 St.s.2).bind ?_
  refine Runs.bind (run_storeS (recS s n) _) ?_
  refine (runs_load St.m.1 St.m.2).bind ?_
  exact run_storeM (recM s n) _

/-- A block's scores put into a slot. -/
theorem run_score (X : Outs F) (s : Fin 2) (q : Fin 4 → FVec F S128x256 .bf16) (b : ℕ) (off : Fin 3 → ℕ) (h) (ho : off = ![0, 256 * min b 16, 0]) :
    Runs U defs 𝒱 c bd E O I (score O s off h (q 0) (q 1) (q 2) (q 3)) X (X.put4 s (fun n => I.sc (q n) b)) ⟨⟩ := by
  subst ho
  unfold score
  refine (runs_load St.k.1 St.k.2).bind ?_
  exact (run_scoreHead _ _ _ _ _).bind ((run_scoreHead _ _ _ _ _).bind ((run_scoreHead _ _ _ _ _).bind (run_scoreHead _ _ _ _ _)))

theorem run_takeHead {X : Outs F} {s : Fin 2} {v : Fin 4 → FVec F S256x256 .f32} (hX : Has X s v) (n : Fin 4) (va : FVec F S80x256 .bf16) (x : M F × A F) :
    Runs U defs 𝒱 c bd E O I (takeHead O s n va x.1 x.2) X X (stepH va (v n) x) := by
  unfold takeHead
  refine (runs_load St.m.1 St.m.2).bind ((runs_load St.s.1 St.s.2).bind ((Runs.pure _).cast ?_ rfl))
  have h1 := (hX n).1
  have h2 := (hX n).2
  unfold Outs.sAt at h1
  unfold Outs.mAt at h2
  rw [h1, h2]
  rfl

/-- A block's scores taken out of a slot. -/
theorem run_take {X : Outs F} {s : Fin 2} {v : Fin 4 → FVec F S256x256 .f32} (hX : Has X s v) (aug : Vec F S1x128x256 .bf16 → FVec F S80x256 .bf16)
    (f : Fin 4 → M F × A F) (b : ℕ) (off : Fin 3 → ℕ) (h) (ho : off = ![0, 0, 256 * min b 16]) :
    Runs U defs 𝒱 c bd E O I (take O s off h aug (carOf f)) X X (carOf fun n => stepH (aug (I.vals b)) (v n) (f n)) := by
  subst ho
  unfold take
  refine (runs_load St.v.1 St.v.2).bind ?_
  exact (run_takeHead hX 0 _ (f 0)).bind ((run_takeHead hX 1 _ (f 1)).bind ((run_takeHead hX 2 _ (f 2)).bind ((run_takeHead hX 3 _ (f 3)).bind (Runs.pure _))))

/-- The values the loops carry after `b` blocks. -/
def Ins.car (I : Ins F) (aug : Vec F S1x128x256 .bf16 → FVec F S80x256 .bf16) (q : Fin 4 → FVec F S128x256 .bf16) (b : ℕ) : Car F :=
  carOf fun n => I.runH aug (q n) b

section stream
variable {Y : Outs F} {s : Fin 2} {q : Fin 4 → FVec F S128x256 .bf16}

theorem run_stage (hY : Has Y s (fun n => I.sc (q n) 0)) (aug : Vec F S1x128x256 .bf16 → FVec F S80x256 .bf16) (b : ℕ)
    (s' : Fin 2) (hs : s' = slot s b) (offK : Fin 3 → ℕ) (hK) (hoK : offK = ![0, 256 * min (b + 1) 16, 0])
    (offV : Fin 3 → ℕ) (hV) (hoV : offV = ![0, 0, 256 * min b 16]) :
    Runs U defs 𝒱 c bd E O I (stage O s' offK hK offV hV aug (q 0) (q 1) (q 2) (q 3) (I.car aug q b))
      (I.outs Y s q b) (I.outs Y s q (b + 1)) (I.car aug q (b + 1)) := by
  subst hs
  unfold stage
  refine Runs.bind (run_score _ _ q (b + 1) offK hK hoK) ?_
  have h2 : Has ((I.outs Y s q b).put4 (1 - slot s b) fun n => I.sc (q n) (b + 1)) (slot s b) (fun n => I.sc (q n) b) :=
    (I.has_outs hY b).put4_other (ne_one_sub _) _
  refine (run_take h2 aug (fun n => I.runH aug (q n) b) b offV hV hoV).cast rfl ?_
  rw [← slot_succ]; rfl

/-- A loop's trip. -/
theorem run_trip (hY : Has Y s (fun n => I.sc (q n) 0)) (aug : Vec F S1x128x256 .bf16 → FVec F S80x256 .bf16) (t : ℕ)
    (offK : Fin 8 → Fin 3 → ℕ) (hK) (hoK : ∀ u, offK u = ![0, 256 * min (8 * t + u + 1) 16, 0])
    (offV : Fin 8 → Fin 3 → ℕ) (hV) (hoV : ∀ u, offV u = ![0, 0, 256 * min (8 * t + u) 16]) :
    Runs U defs 𝒱 c bd E O I (trip O s offK hK offV hV aug (q 0) (q 1) (q 2) (q 3) (I.car aug q (8 * t)))
      (I.outs Y s q (8 * t)) (I.outs Y s q (8 * (t + 1))) (I.car aug q (8 * (t + 1))) := by
  unfold trip
  refine Runs.bind (run_stage hY aug (8 * t) _ (slot_even s _ (by omega)).symm _ _ (hoK 0) _ _ (hoV 0)) ?_
  refine Runs.bind (run_stage hY aug (8 * t + 1) _ (slot_odd s _ (by omega)).symm _ _ (hoK 1) _ _ (hoV 1)) ?_
  refine Runs.bind (run_stage hY aug (8 * t + 2) _ (slot_even s _ (by omega)).symm _ _ (hoK 2) _ _ (hoV 2)) ?_
  refine Runs.bind (run_stage hY aug (8 * t + 3) _ (slot_odd s _ (by omega)).symm _ _ (hoK 3) _ _ (hoV 3)) ?_
  refine Runs.bind (run_stage hY aug (8 * t + 4) _ (slot_even s _ (by omega)).symm _ _ (hoK 4) _ _ (hoV 4)) ?_
  refine Runs.bind (run_stage hY aug (8 * t + 5) _ (slot_odd s _ (by omega)).symm _ _ (hoK 5) _ _ (hoV 5)) ?_
  refine Runs.bind (run_stage hY aug (8 * t + 6) _ (slot_even s _ (by omega)).symm _ _ (hoK 6) _ _ (hoV 6)) ?_
  exact run_stage hY aug (8 * t + 7) _ (slot_odd s _ (by omega)).symm _ _ (hoK 7) _ _ (hoV 7)

end stream

theorem run_emit (j : Fin 8) (a : A F) :
    Runs U defs 𝒱 c bd E O I (emit O j a) ⟨o, x, y⟩ ⟨(recQ j).overlay o (outV a (I.gh j)), x, y⟩ ⟨⟩ := by
  unfold emit
  refine (runs_load St.g.1 St.g.2).bind ?_
  refine (runs_load St.o.1 St.o.2).bind ?_
  exact run_storeO (recQ j) _

theorem run_loadQ (X : Outs F) (j : Fin 8) : Runs U defs 𝒱 c bd E O I (loadQ O j) X X (I.qh j) :=
  runs_load St.q.1 St.q.2

/-- The padded queries of the two streams' heads. -/
def Ins.pq (I : Ins F) (n : Fin 4) : FVec F S128x256 .bf16 := padLo (I.qh (n.castLE (by omega)))
def Ins.pq' (I : Ins F) (n : Fin 4) : FVec F S128x256 .bf16 := padHi (I.qh (n.addNat 4))

/-- Head `j`'s running sums after all the blocks. -/
def Ins.acc (I : Ins F) (j : Fin 8) : A F :=
  if j.1 < 4 then (I.runH augLo (padLo (I.qh j)) 17).2 else (I.runH augHi (padHi (I.qh j)) 17).2
/-- Its result rows, -/
def Ins.res (I : Ins F) (j : Fin 8) : FVec F S1x64x256 .bf16 := outV (I.acc j) (I.gh j)
/-- and the block of the result: rows `64·j …` are head `j`'s. -/
def Ins.blk (I : Ins F) : Vec F S1x512x256 .bf16 := fun i =>
  I.res ⟨(i 1).val / 64, by have : (i 1).val < 512 := (i 1).isLt; omega⟩
    (fun a => match a with
      | ⟨0, _⟩ => ⟨0, Nat.one_pos⟩
      | ⟨1, _⟩ => ⟨(i 1).val % 64, Nat.mod_lt _ (by decide)⟩
      | ⟨2, _⟩ => ⟨(i 2).val, (i 2).isLt⟩)

/-- The eight heads' rows written one after another leave the block, whatever was there. -/
theorem overlay_blk (x : Vec F S1x512x256 .bf16) :
    (recQ 7).overlay ((recQ 6).overlay ((recQ 5).overlay ((recQ 4).overlay ((recQ 3).overlay ((recQ 2).overlay ((recQ 1).overlay
      ((recQ 0).overlay x (I.res 0)) (I.res 1)) (I.res 2)) (I.res 3)) (I.res 4)) (I.res 5)) (I.res 6)) (I.res 7) = I.blk := by
  funext i
  have hi : (i 1).val < 512 := (i 1).isLt
  have hin : ∀ (j : Fin 8), (i 1).val / 64 = j.1 → ∀ (X : Vec F S1x512x256 .bf16), (recQ j).overlay X (I.res j) i = I.blk i := by
    have hlt : (i 1).val / 64 < 8 := by omega
    intro j hj X
    have hj' : (⟨(i 1).val / 64, hlt⟩ : Fin 8) = j := Fin.ext hj
    clear hj
    subst hj'
    have h0 : (i 0).val < 1 := (i 0).isLt
    have := Rect.overlay_emb (recQ ⟨(i 1).val / 64, hlt⟩) X (I.res ⟨(i 1).val / 64, hlt⟩)
      (fun a => match a with
      | ⟨0, _⟩ => ⟨0, Nat.one_pos⟩
      | ⟨1, _⟩ => ⟨(i 1).val % 64, Nat.mod_lt _ (by decide)⟩
      | ⟨2, _⟩ => ⟨(i 2).val, (i 2).isLt⟩)
    rw [Rect.emb_eq_of_coords _ _ i] at this
    · exact this
    · intro a
      match a with
      | ⟨0, _⟩ => change (i 0).val = 0 + 1 * 0; omega
      | ⟨1, _⟩ => change (i 1).val = 64 * ((i 1).val / 64) + 1 * ((i 1).val % 64); omega
      | ⟨2, _⟩ => change (i 2).val = 0 + 1 * (i 2).val; omega
  have hout : ∀ (j : Fin 8), (i 1).val / 64 ≠ j.1 → ∀ (X : Vec F S1x512x256 .bf16), (recQ j).overlay X (I.res j) i = X i := by
    intro j hj X
    exact Rect.overlay_of_not_mem _ _ _ (Rect.not_mem_set_of_axis _ _ 1 (64 * j.1) 64 rfl rfl rfl (by omega))
  by_cases h7 : (i 1).val / 64 = 7
  · exact hin 7 h7 _
  rw [hout 7 h7]
  by_cases h6 : (i 1).val / 64 = 6
  · exact hin 6 h6 _
  rw [hout 6 h6]
  by_cases h5 : (i 1).val / 64 = 5
  · exact hin 5 h5 _
  rw [hout 5 h5]
  by_cases h4 : (i 1).val / 64 = 4
  · exact hin 4 h4 _
  rw [hout 4 h4]
  by_cases h3 : (i 1).val / 64 = 3
  · exact hin 3 h3 _
  rw [hout 3 h3]
  by_cases h2 : (i 1).val / 64 = 2
  · exact hin 2 h2 _
  rw [hout 2 h2]
  by_cases h1 : (i 1).val / 64 = 1
  · exact hin 1 h1 _
  rw [hout 1 h1]
  exact hin 0 (show (i 1).val / 64 = 0 by omega) _

end runs
end Dense
end
-- ==== Proof.Dense.BodyRun.lean ====
module

public import proofs.«01_k».proof.Proof.Dense.Steps

@[expose] public section

noncomputable section

namespace Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {nD : Nat} {τ : Topo} {sig : RefSig} {Λ : Labels}
variable {U : Type} [URA U]

local notation "𝕄" => MT nD τ sig Unit (Elt F) ℕ U ℕ

section runs
variable {defs : Defs nD τ sig (Elt F) Λ} {𝒱 : Variants} {c : Dev nD} {bd : Option 𝒱.V} {E : Set ℕ}
variable {O : Ops sig} {I : Ins F}

theorem off1_eq : ∀ (k : Fin k0_t1_loop.trips) (u : Fin 8), k0_off1 k (BitVec.ofNat 32 u.1) = ![0, 256 * min (8 * k.1 + u.1 + 1) 16, 0] := by decide
theorem off2_eq : ∀ (k : Fin k0_t1_loop.trips) (u : Fin 8), k0_off2 k (BitVec.ofNat 32 u.1) = ![0, 0, 256 * min (8 * k.1 + u.1) 16] := by decide
theorem off3_eq : ∀ (k : Fin k0_t2_loop.trips) (u : Fin 8), k0_off3 k (BitVec.ofNat 32 u.1) = ![0, 256 * min (8 * k.1 + u.1 + 1) 16, 0] := by decide
theorem off4_eq : ∀ (k : Fin k0_t2_loop.trips) (u : Fin 8), k0_off4 k (BitVec.ofNat 32 u.1) = ![0, 0, 256 * min (8 * k.1 + u.1) 16] := by decide
theorem trips1 : k0_t1_loop.trips = 2 := by decide
theorem trips2 : k0_t2_loop.trips = 2 := by decide

/-- The four heads' results written. -/
theorem run_emit4 {o : Vec F S1x512x256 .bf16} {x : Vec F S2x4x256x256 .f32} {y : Vec F S2x4x1x256 .f32} (j0 j1 j2 j3 : Fin 8) (f : Fin 4 → M F × A F)
    (h0 : (f 0).2 = I.acc j0) (h1 : (f 1).2 = I.acc j1) (h2 : (f 2).2 = I.acc j2) (h3 : (f 3).2 = I.acc j3) :
    Runs U defs 𝒱 c bd E O I (emit4 O j0 j1 j2 j3 (carOf f)) ⟨o, x, y⟩
      ⟨(recQ j3).overlay ((recQ j2).overlay ((recQ j1).overlay ((recQ j0).overlay o (I.res j0)) (I.res j1)) (I.res j2)) (I.res j3), x, y⟩ ⟨⟩ := by
  unfold emit4 carOf Ins.res
  rw [← h0, ← h1, ← h2, ← h3]
  exact (run_emit _ _).bind ((run_emit _ _).bind ((run_emit _ _).bind (run_emit _ _)))

/-- The body writes the block of the result, from whatever the buffers it writes held. -/
theorem run_body (X : Outs F) : ∃ Y : Outs F, Y.o = I.blk ∧ Runs U defs 𝒱 c bd E O I (body O) X Y ⟨⟩ := by
  refine ⟨?_, ?_, ?_⟩
  rotate_left 2
  · unfold body
    refine (run_loadQ X 0).bind ((run_loadQ X 1).bind ((run_loadQ X 2).bind ((run_loadQ X 3).bind ?_)))
    refine (run_loadQ X 4).bind ((run_loadQ X 5).bind ((run_loadQ X 6).bind ((run_loadQ X 7).bind ?_)))
    refine Runs.bind (run_score X 0 I.pq 0 _ _ rfl) ?_
    have hs := has_put4 X 0 (fun n => I.sc (I.pq n) 0)
    refine Runs.bind (Runs.for (fun k => I.car augLo I.pq (8 * k)) (fun k => I.outs _ 0 I.pq (8 * k)) 2 trips1 rfl fun k =>
      run_trip hs augLo k _ _ (off1_eq k) _ _ (off2_eq k)) ?_
    refine Runs.bind (run_score _ 1 I.pq' 0 _ _ rfl) ?_
    have hs' := (I.has_outs hs 16).put4_other (s' := 1) (by decide) (fun n => I.sc (I.pq' n) 0)
    refine Runs.bind (run_take hs' augLo (fun n => I.runH augLo (I.pq n) 16) 16 _ _ rfl) ?_
    refine Runs.bind (run_emit4 0 1 2 3 _ ?_ ?_ ?_ ?_) ?_
    · rfl
    · rfl
    · rfl
    · rfl
    have ht : Has _ 1 (fun n => I.sc (I.pq' n) 0) := has_put4 (I.outs (X.put4 0 fun n => I.sc (I.pq n) 0) 0 I.pq 16) 1 (fun n => I.sc (I.pq' n) 0)
    have ht' : ∀ o, Has ⟨o, _, _⟩ 1 (fun n => I.sc (I.pq' n) 0) := fun o => ht
    refine Runs.bind (Runs.for (fun k => I.car augHi I.pq' (8 * k)) (fun k => I.outs _ 1 I.pq' (8 * k)) 2 trips2 rfl fun k =>
      run_trip (ht' _) augHi k _ _ (off3_eq k) _ _ (off4_eq k)) ?_
    refine Runs.bind (run_take (I.has_outs (ht' _) 16) augHi (fun n => I.runH augHi (I.pq' n) 16) 16 _ _ rfl) ?_
    exact run_emit4 (U := U) 4 5 6 7 (fun n => I.runH augHi (I.pq' n) 17) rfl rfl rfl rfl
  · simp only [Outs.put_o, Ins.outs_o]
    exact overlay_blk _

end runs
end Dense
end
-- ==== Proof.Dense.BodyK.lean ====
/-
  The printed body of the attention kernel is `body`: the same operations in the same order.
-/
module

public import proofs.«01_k».proof.Proof.Dense.Prog

@[expose] public section

noncomputable section

namespace Dense

open Cert.Kernel Cert.Kernel.Gen
open Idealize.ShloMosaic Idealize.SL.Sem

variable {F : FTy → Type} [FloatOps F]

set_option maxHeartbeats 4000000 in
set_option maxRecDepth 1000000 in
theorem body_eq (i : grid0.Coords) (O : Ops sig) :
    cc0_dense_attn (F := F) i O.qs O.hqs O.ks O.hks O.vs O.hvs O.gs O.hgs O.os O.hos O.ss O.hss O.ms O.hms = body O := by
  simp only [cc0_dense_attn, k0_part65, k0_part62, k0_part58, body, bind_assoc]
  rfl

end Dense
end
-- ==== Proof.Dense.BodyKI.lean ====
/-
  The printed body of the attention kernel over the reals is the same `body`.
-/
module

public import proofs.«01_k».proof.Proof.Dense.Prog
public import proofs.«01_k».proof.Proof.Gen.KernelIdeal

@[expose] public section

noncomputable section

namespace Dense

open Cert.KernelIdeal Cert.KernelIdeal.Gen
open Idealize.ShloMosaic Idealize.SL.Sem

variable {F : FTy → Type} [FloatOps F]

set_option maxHeartbeats 4000000 in
set_option maxRecDepth 1000000 in
theorem bodyI_eq (i : grid0.Coords) (O : Ops sig) :
    cc0_dense_attn (F := F) i O.qs O.hqs O.ks O.hks O.vs O.hvs O.gs O.hgs O.os O.hos O.ss O.hss O.ms O.hms = body O := by
  simp only [cc0_dense_attn, k0_part65, k0_part62, k0_part58, body, bind_assoc]
  rfl

end Dense
end
-- ==== Proof.Dense.FrameKI.lean ====
/-
  The frame of the kernel, for its ideal reading: its launch, with the body's obligation discharged by the body's run, leaves the result's array
  at what the pipeline computes from `blkAt` and every other array as it was.
-/
module

public import proofs.«01_k».proof.Proof.Dense.BodyRun
public import proofs.«01_k».proof.Proof.Dense.BodyKI
public import proofs.«01_k».proof.Proof.Gen.KernelIdeal.Frame

@[expose] public section

set_option maxRecDepth 16384

noncomputable section

namespace Dense.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body works on at a grid point. -/
def opsAt (t : Fin cfg0.N) : Ops sig where
  qs := win0_0.stage (cfg0.slots t 0)
  ks := win0_1.stage (cfg0.slots t 1)
  vs := win0_2.stage (cfg0.slots t 2)
  gs := win0_3.stage (cfg0.slots t 3)
  os := win0_4.stage (cfg0.slots t 4)
  ss := Memref.whole cc0_scratch0
  ms := Memref.whole cc0_scratch1
  hqs := hstage0_0 ((cfg0.slots t 0).cast nbuf0_0)
  hks := hstage0_1 ((cfg0.slots t 1).cast nbuf0_1)
  hvs := hstage0_2 ((cfg0.slots t 2).cast nbuf0_2)
  hgs := hstage0_3 ((cfg0.slots t 3).cast nbuf0_3)
  hos := hstage0_4 ((cfg0.slots t 4).cast nbuf0_4)
  hss := Memref.isWhole_whole _
  hms := Memref.isWhole_whole _

/-- The blocks it reads there. -/
def insAt (c : Dev nD) (t : Fin cfg0.N) : Ins F := ⟨iblk m c 0 t, iblk m c 1 t, iblk m c 2 t, iblk m c 3 t⟩

/-- The arrays as the launch finds them; each input's buffer left at its block, the result's at the block the body
    writes; the scratch at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (insAt m c t).blk
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (insAt m c t).blk := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  have hb : (bodyAt0 (F := F) t : Pr nD τ sig Λ₀ F PUnit) = body (opsAt t) := bodyI_eq (grid0.coords t) (opsAt t)
  rw [hb]
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA
  rw [scopedRest0_eq]
  iintro ⟨⟨⟨⟨%fs, Hs⟩, ⟨%fm, Hm⟩⟩, Hp⟩, Ho, ⟨%d0, H0⟩, ⟨%d1, H1⟩, ⟨%d2, H2⟩, ⟨%d3, H3⟩, ⟨%d4, H4⟩⟩
  obtain ⟨Y, hY, hr⟩ := run_body (U := UR sig nD τ) (defs := defs₀ (F := F)) (𝒱 := Variants.none) (c := c) (bd := none) (E := Set.univ)
    (O := opsAt t) (I := insAt m c t) ⟨(dats m 0 c).before 4 t d4, fs, fm⟩
  have hk := fun Q => hr.of Pure.pure Q
  simp only [bind_pure] at hk
  iapply (hk _) $$ [Hp Ho] [Hs Hm H0 H1 H2 H3 H4]
  · unfold St
    rw [hY]
    iintro ⟨H0, H1, H2, H3, H4, Hs, Hm⟩
    iapply (le_wp_ret frame (wpE (defs₀ (F := F)) Variants.none (c : Thread nD τ) none) _ _)
    isplitl [Hs Hm Hp]
    · isplitl [Hs Hm]
      · isplitl [Hs]
        · iexists _; iapply (Entails.of_eq (owns_whole (c : Thread nD τ) cc0_scratch0 fullShare Y.s)); iexact Hs
        · iexists _; iapply (Entails.of_eq (owns_whole (c : Thread nD τ) cc0_scratch1 fullShare Y.m)); iexact Hm
      · iexact Hp
    isplitl [Ho]; · iexact Ho
    isplitl [H0]; · iexact H0
    isplitl [H1]; · iexact H1
    isplitl [H2]; · iexact H2
    isplitl [H3]; · iexact H3
    iexact H4
  · unfold St
    isplitl [H0]; · iexact H0
    isplitl [H1]; · iexact H1
    isplitl [H2]; · iexact H2
    isplitl [H3]; · iexact H3
    isplitl [H4]; · iexact H4
    isplitl [Hs]
    · iapply (Entails.of_eq (owns_whole (c : Thread nD τ) cc0_scratch0 fullShare fs).symm); iexact Hs
    · iapply (Entails.of_eq (owns_whole (c : Thread nD τ) cc0_scratch1 fullShare fm).symm); iexact Hm

/-- The body table's row at the kernel's entry. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run of the launch ends with the arrays the pipeline stages at what it computes from `dats`, the others as
    they were, and every semaphore counter at zero. -/
theorem run_quiet : θ_run defs (onTc (τ := τ) (main (F := F))) (s₀ m ρ)
    (fun r => Pipeline.FramePost cfgs (dats m) 0 (V m) r ∧ r.2.sem = fun _ => 0) :=
  Pipeline.θ_run_frame (Q' := _) cfgs (dats m) 0 launch0 defs₀ Variants.none m ρ main (hbody := fun c => (body_obligation m c).loose)
    (hshare := fun c => (dats m 0 c).share_full fun _ => rfl) (howed := fun _ _ => rfl) (V := V m) (hmain := hmain m Variants.none)
    (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

end Dense.KI
end
-- ==== Proof.Dense.Read.lean ====
/-
  The pure steps of the attention body, read at an index over the extended reals.
-/
module

public import proofs.«01_k».proof.Proof.Dense.Prog
public import Idealize.ShloMosaic.Lib.Pointwise
public import Idealize.ShloMosaic.Lib.ValueLayout

@[expose] public section

noncomputable section

namespace Dense

open Cert.Kernel Cert.Kernel.Gen
open Idealize.ShloMosaic

theorem scoreV_apply (kb : FVec Ideal S256x128 .bf16) (q : FVec Ideal S128x256 .bf16) (k c : Fin 256) :
    scoreV kb q (ix2 k c) = ∑ l : Fin 128, kb (ix2 k l) * q (ix2 l c) := by
  unfold scoreV
  pointwise

theorem ofBits_negInf : Ideal.ofBits .f32 0xFF800000#32 = ⊥ := by simp [Ideal.ofBits, Ideal.ieee]

theorem maxV_apply (s : FVec Ideal S256x256 .f32) (u : Fin 1) (c : Fin 256) :
    maxV s (ix2 u c) = Finset.univ.fold max ⊥ fun k : Fin 256 => s (ix2 k c) := by
  unfold maxV
  pointwise
  rw [ofBits_negInf]

theorem accV_apply (va : FVec Ideal S80x256 .bf16) (m m' : M Ideal) (s : FVec Ideal S256x256 .f32) (a : A Ideal) (n : Fin 80) (c : Fin 256) :
    accV va m m' s a (ix2 n c) = Ideal.exp2 (m (ix2 0 c) - m' (ix2 0 c)) * a (ix2 n c)
      + ∑ k : Fin 256, va (ix2 n k) * Ideal.exp2 (s (ix2 k c) - m' (ix2 0 c)) := by
  unfold accV
  pointwise
  rfl

theorem outV_apply (a : A Ideal) (g : Vec Ideal S1x64x256 .bf16) (n : Fin 64) (c : Fin 256) :
    outV a g (ix3 0 n c) = Ideal.div (a (ix2 ⟨n.1, by omega⟩ c)) (a (ix2 64 c)) * g (ix3 0 n c) := by
  unfold outV
  pointwise

theorem augLo_apply (x : Vec Ideal S1x128x256 .bf16) (n : Fin 80) (c : Fin 256) :
    augLo x (ix2 n c) = if h : n.1 < 64 then x (ix3 0 ⟨n.1, by omega⟩ c) else 1 := by
  unfold augLo onesV
  pointwise

theorem augHi_apply (x : Vec Ideal S1x128x256 .bf16) (n : Fin 80) (c : Fin 256) :
    augHi x (ix2 n c) = if h : n.1 < 64 then x (ix3 0 ⟨64 + n.1, by omega⟩ c) else 1 := by
  unfold augHi onesV
  pointwise

theorem padLo_apply (x : Vec Ideal S1x64x256 .bf16) (l : Fin 128) (c : Fin 256) :
    padLo x (ix2 l c) = if h : l.1 < 64 then x (ix3 0 ⟨l.1, h⟩ c) else 0 := by
  unfold padLo zerosV
  pointwise

theorem padHi_apply (x : Vec Ideal S1x64x256 .bf16) (l : Fin 128) (c : Fin 256) :
    padHi x (ix2 l c) = if h : l.1 < 64 then 0 else x (ix3 0 ⟨l.1 - 64, by omega⟩ c) := by
  unfold padHi zerosV
  pointwise

theorem keyV_apply (x : Vec Ideal S1x256x128 .bf16) (k : Fin 256) (l : Fin 128) : keyV x (ix2 k l) = x (ix3 0 k l) := by
  unfold keyV
  pointwise

/-- The scores of padded queries are the products over the 64 lanes the head has. -/
theorem scoreLo_apply (kb : FVec Ideal S256x128 .bf16) (x : Vec Ideal S1x64x256 .bf16) (k c : Fin 256) :
    scoreV kb (padLo x) (ix2 k c) = ∑ d : Fin 64, kb (ix2 k ⟨d.1, by omega⟩) * x (ix3 0 d c) := by
  rw [scoreV_apply]
  rw [Fin.sum_univ_add (a := 64) (b := 64)]
  simp only [padLo_apply]
  simp
  rfl

theorem scoreHi_apply (kb : FVec Ideal S256x128 .bf16) (x : Vec Ideal S1x64x256 .bf16) (k c : Fin 256) :
    scoreV kb (padHi x) (ix2 k c) = ∑ d : Fin 64, kb (ix2 k ⟨64 + d.1, by omega⟩) * x (ix3 0 d c) := by
  rw [scoreV_apply]
  rw [Fin.sum_univ_add (a := 64) (b := 64)]
  simp only [padHi_apply]
  simp
  refine Finset.sum_congr rfl fun d _ => ?_
  rw [show d.addNat 64 = ⟨64 + d.1, by omega⟩ from Fin.ext (Nat.add_comm _ _)]

theorem m0_apply (c : Fin 256) : ∃ r : ℝ, (m0 : M Ideal) (ix2 0 c) = r := by
  change ∃ r : ℝ, Ideal.ofBits .f32 0xF149F2CA#32 = r
  refine ⟨-(13234890 * 2 ^ 76), ?_⟩
  simp [Ideal.ofBits, Ideal.ieee]

theorem a0_apply (n : Fin 80) (c : Fin 256) : (a0 : A Ideal) (ix2 n c) = 0 := by
  unfold a0
  pointwise

end Dense
end
-- ==== Proof.Dense.Softmax.lean ====
/-
  The softmax-weighted sum over the extended reals, with real scores and any values, and the two ways it is computed
  here: all at once with the natural exponential of the scores times `log 2`, and block by block, with a running maximum,
  the base-two exponential and the division at the end. The maximum subtracted cancels, whatever real number it is.
-/
module

public import Idealize.ShloMosaic.PureOps.Ideal
public import Mathlib.Analysis.SpecialFunctions.Pow.Real

@[expose] public section

noncomputable section

namespace Dense

open Idealize.ShloMosaic

/-- A sum of extended reals times a nonnegative real is the sum of the products. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax-weighted sum of `v` under the base-two scores `S`. -/
def soft {n : ℕ} (S : Fin n → ℝ) (v : Fin n → EReal) : EReal :=
  ∑ k, v k * (((2 : ℝ) ^ S k / ∑ i, (2 : ℝ) ^ S i : ℝ) : EReal)

theorem sum_pos' {n : ℕ} [NeZero n] (f : Fin n → ℝ) (h : ∀ i, 0 < f i) : 0 < ∑ i, f i :=
  Finset.sum_pos (fun i _ => h i) ⟨0, Finset.mem_univ _⟩

/-- Weighted by `2 ^ (S k - m)` and divided by the sum of the weights at the end: the softmax-weighted sum. -/
theorem soft_of_shifted {n : ℕ} [NeZero n] (S : Fin n → ℝ) (v : Fin n → EReal) (m : ℝ) :
    Ideal.div (∑ k, v k * (((2 : ℝ) ^ (S k - m) : ℝ) : EReal)) (∑ k, 1 * (((2 : ℝ) ^ (S k - m) : ℝ) : EReal)) = soft S v := by
  have hL : 0 < ∑ k, (2 : ℝ) ^ (S k - m) := sum_pos' _ fun _ => by positivity
  have hm : (2 : ℝ) ^ m ≠ 0 := by positivity
  simp only [one_mul]
  rw [← coe_sum, Ideal.div_coe hL.ne', sum_mul_coe _ _ (by positivity)]
  unfold soft
  refine Finset.sum_congr rfl fun k _ => ?_
  rw [mul_assoc, ← EReal.coe_mul]
  congr 2
  simp only [Real.rpow_sub (two_pos : (0 : ℝ) < 2), ← Finset.sum_div]
  field_simp

/-- Weighted by the normalised natural exponentials of `S k * log 2 - M`: the same. -/
theorem soft_of_exp {n : ℕ} [NeZero n] (S : Fin n → ℝ) (v : Fin n → EReal) (M : ℝ) :
    ∑ k, v k * Ideal.div (Ideal.exp (((S k * Real.log 2 - M : ℝ)) : EReal))
        (∑ i, Ideal.exp (((S i * Real.log 2 - M : ℝ)) : EReal)) = soft S v := by
  have hL : 0 < ∑ k, Real.exp (S k * Real.log 2 - M) := sum_pos' _ fun _ => Real.exp_pos _
  have hM : Real.exp M ≠ 0 := (Real.exp_pos M).ne'
  simp only [Ideal.exp_coe]
  rw [← coe_sum]
  unfold soft
  refine Finset.sum_congr rfl fun k _ => ?_
  rw [Ideal.div_coe hL.ne', ← EReal.coe_mul]
  congr 2
  have h : ∀ i, Real.exp (S i * Real.log 2 - M) = (2 : ℝ) ^ S i / Real.exp M := fun i => by
    rw [Real.exp_sub, Real.rpow_def_of_pos two_pos, mul_comm]
  simp only [h, ← Finset.sum_div]
  field_simp

/-- The running sum over blocks of `w` keys: scaled to the new shift, and the block's own terms added. -/
theorem running (w B : ℕ) (S : ℕ → ℝ) (v : ℕ → EReal) (m : ℕ → ℝ) (a : ℕ → EReal) (h0 : a 0 = 0)
    (hs : ∀ b < B, a (b + 1) = (((2 : ℝ) ^ (m b - m (b + 1)) : ℝ) : EReal) * a b
      + ∑ r ∈ Finset.range w, v (w * b + r) * (((2 : ℝ) ^ (S (w * b + r) - m (b + 1)) : ℝ) : EReal)) :
    ∀ b ≤ B, a b = ∑ k ∈ Finset.range (w * b), v k * (((2 : ℝ) ^ (S k - m b) : ℝ) : EReal) := by
  intro b
  induction b with
  | zero => intro _; simpa using h0
  | succ b ih =>
    intro hb
    rw [hs b (by omega), ih (by omega), mul_comm, sum_mul_coe _ _ (by positivity), Nat.mul_succ, Finset.sum_range_add]
    congr 1
    refine Finset.sum_congr rfl fun k _ => ?_
    rw [mul_assoc, ← EReal.coe_mul, ← Real.rpow_add two_pos]
    congr 3; ring

/-- A maximum over finitely many reals, begun at −∞, is −∞ or a real; begun at a real, it is a real. -/
theorem fold_max_real {ι : Type*} (s : Finset ι) (f : ι → EReal) (hf : ∀ i, ∃ r : ℝ, f i = r) (a : ℝ) :
    ∃ r : ℝ, max (a : EReal) (s.fold max ⊥ f) = r := by
  classical
  have : s.fold max ⊥ f = ⊥ ∨ ∃ r : ℝ, s.fold max ⊥ f = r := by
    induction s using Finset.induction_on with
    | empty => exact .inl (by simp)
    | insert b s hb ih =>
      obtain ⟨x, hx⟩ := hf b
      rw [Finset.fold_insert hb, hx]
      rcases ih with h | ⟨r, h⟩
      · exact .inr ⟨x, by rw [h]; simp⟩
      · exact .inr ⟨max x r, by rw [h, EReal.coe_strictMono.monotone.map_max]⟩
  rcases this with h | ⟨r, h⟩
  · exact ⟨a, by rw [h]; simp⟩
  · exact ⟨max a r, by rw [h, EReal.coe_strictMono.monotone.map_max]⟩

/-- The maximum over a nonempty finite set of reals, begun at −∞, is a real. -/
theorem fold_max_real' {ι : Type*} (s : Finset ι) (hs : s.Nonempty) (f : ι → EReal) (hf : ∀ i, ∃ r : ℝ, f i = r) :
    ∃ r : ℝ, s.fold max ⊥ f = r := by
  classical
  obtain ⟨i, hi⟩ := hs
  obtain ⟨x, hx⟩ := hf i
  rw [← Finset.insert_erase hi, Finset.fold_insert (Finset.notMem_erase i s), hx]
  exact fold_max_real _ f hf x

end Dense
end
-- ==== Proof.Dense.Column.lean ====
/-
  One head's column of the attention body over the extended reals: the running values after the seventeen blocks, and the
  result rows, as the softmax-weighted sum of the values over all 4352 keys.
-/
module

public import proofs.«01_k».proof.Proof.Dense.Read
public import proofs.«01_k».proof.Proof.Dense.Softmax
public import proofs.«01_k».proof.Proof.Dense.Steps

@[expose] public section

noncomputable section

namespace Dense

open Cert.Kernel Cert.Kernel.Gen
open Idealize.ShloMosaic

variable (I : Ins Ideal)

/-- Block `b`'s keys and values, of the arrays. -/
theorem keys_apply (b : ℕ) (hb : b < 17) (r : Fin 256) (l : Fin 128) :
    I.keys b (ix2 r l) = I.k (ix3 0 ⟨256 * b + r.1, by omega⟩ l) := by
  unfold Ins.keys
  rw [keyV_apply]
  congr 1
  funext a
  apply Fin.ext
  fin_cases a
  · rfl
  · change 256 * min b 16 + 1 * r.1 = 256 * b + r.1; omega
  · change 0 + 1 * l.1 = l.1; omega

theorem vals_apply (b : ℕ) (hb : b < 17) (l : Fin 128) (r : Fin 256) :
    I.vals b (ix3 0 l r) = I.v (ix3 0 l ⟨256 * b + r.1, by omega⟩) := by
  unfold Ins.vals
  congr 1
  funext a
  apply Fin.ext
  fin_cases a
  · rfl
  · change 0 + 1 * l.1 = l.1; omega
  · change 256 * min b 16 + 1 * r.1 = 256 * b + r.1; omega

theorem qh_apply (j : Fin 8) (d : Fin 64) (c : Fin 256) : I.qh j (ix3 0 d c) = I.q (ix3 0 ⟨64 * j.1 + d.1, by omega⟩ c) := by
  unfold Ins.qh
  congr 1
  funext a
  apply Fin.ext
  fin_cases a
  · rfl
  · change 64 * j.1 + 1 * d.1 = 64 * j.1 + d.1; omega
  · change 0 + 1 * c.1 = c.1; omega

theorem gh_apply (j : Fin 8) (d : Fin 64) (c : Fin 256) : I.gh j (ix3 0 d c) = I.g (ix3 0 ⟨64 * j.1 + d.1, by omega⟩ c) := by
  unfold Ins.gh
  congr 1
  funext a
  apply Fin.ext
  fin_cases a
  · rfl
  · change 64 * j.1 + 1 * d.1 = 64 * j.1 + d.1; omega
  · change 0 + 1 * c.1 = c.1; omega

section run
variable {aug : Vec Ideal S1x128x256 .bf16 → FVec Ideal S80x256 .bf16} {q : FVec Ideal S128x256 .bf16} {c : Fin 256} {S : ℕ → ℝ}

/-- With real scores the running maximum is a real, -/
theorem runH_max (hS : ∀ b < 17, ∀ r : Fin 256, I.sc q b (ix2 r c) = (S (256 * b + r.1) : EReal)) :
    ∀ b ≤ 17, ∃ m : ℝ, (I.runH aug q b).1 (ix2 0 c) = m := by
  intro b
  induction b with
  | zero => intro _; exact m0_apply c
  | succ b ih =>
    intro hb
    obtain ⟨m, hm⟩ := ih (by omega)
    change ∃ r : ℝ, max ((I.runH aug q b).1 (ix2 0 c)) (maxV (I.sc q b) (ix2 0 c)) = r
    rw [hm, maxV_apply]
    exact fold_max_real _ _ (fun k => ⟨_, hS b (by omega) k⟩) m

/-- and the running sums are the sums over the keys seen, weighted from that maximum. -/
theorem runH_acc (hS : ∀ b < 17, ∀ r : Fin 256, I.sc q b (ix2 r c) = (S (256 * b + r.1) : EReal)) :
    ∃ m : ℝ, ∀ (n : Fin 80) (v : ℕ → EReal), (∀ b < 17, ∀ r : Fin 256, aug (I.vals b) (ix2 n r) = v (256 * b + r.1)) →
      (I.runH aug q 17).2 (ix2 n c) = ∑ k ∈ Finset.range 4352, v k * (((2 : ℝ) ^ (S k - m) : ℝ) : EReal) := by
  have hm : ∀ b ≤ 17, ((I.runH aug q b).1 (ix2 0 c)) = ((((I.runH aug q b).1 (ix2 0 c)).toReal : ℝ) : EReal) := fun b hb => by
    obtain ⟨m, h⟩ := runH_max I (aug := aug) hS b hb
    rw [h, EReal.toReal_coe]
  refine ⟨((I.runH aug q 17).1 (ix2 0 c)).toReal, fun n v hv => ?_⟩
  refine running 256 17 S v (fun b => ((I.runH aug q b).1 (ix2 0 c)).toReal) (fun b => (I.runH aug q b).2 (ix2 n c))
    (a0_apply n c) (fun b hb => ?_) 17 le_rfl
  change accV (aug (I.vals b)) (I.runH aug q b).1 (I.runH aug q (b + 1)).1 (I.sc q b) (I.runH aug q b).2 (ix2 n c) = _
  rw [accV_apply, hm b (by omega), hm (b + 1) (by omega), ← EReal.coe_sub, Ideal.exp2_coe]
  simp only [EReal.toReal_coe]
  congr 1
  rw [Finset.sum_range]
  refine Finset.sum_congr rfl fun r _ => ?_
  rw [hv b hb r, hS b hb r, ← EReal.coe_sub, Ideal.exp2_coe]
  rfl

end run

/-- The scores of head `j` at query column `c`, as reals. -/
def Ins.S (j : Fin 8) (c : Fin 256) (k : Fin 4352) : ℝ :=
  ∑ d : Fin 64, (I.k (ix3 0 k ⟨64 * (j.1 / 4) + d.1, by omega⟩)).toReal * (I.q (ix3 0 ⟨64 * j.1 + d.1, by omega⟩ c)).toReal

/-- A function of the keys continued past them. -/
def ext {α : Type} [Zero α] (f : Fin 4352 → α) (k : ℕ) : α := if h : k < 4352 then f ⟨k, h⟩ else 0

theorem ext_val {α : Type} [Zero α] (f : Fin 4352 → α) (k : Fin 4352) : ext f k.1 = f k := dif_pos k.2
theorem ext_at {α : Type} [Zero α] (f : Fin 4352 → α) (k : ℕ) (h : k < 4352) : ext f k = f ⟨k, h⟩ := dif_pos h

/-- The queries and keys are real numbers. -/
structure Ins.Fin : Prop where
  q : ∀ i, I.q i = ((I.q i).toReal : EReal)
  k : ∀ i, I.k i = ((I.k i).toReal : EReal)

variable {I}

theorem res_of_run (hn : Fin 64) {j : Fin 8} {c : Fin 256} {aug : Vec Ideal S1x128x256 .bf16 → FVec Ideal S80x256 .bf16}
    {q : FVec Ideal S128x256 .bf16} (hacc : I.acc j = (I.runH aug q 17).2)
    (hS : ∀ b < 17, ∀ r : Fin 256, I.sc q b (ix2 r c) = ((ext (I.S j c) (256 * b + r.1) : ℝ) : EReal))
    (hv : ∀ b < 17, ∀ r : Fin 256, aug (I.vals b) (ix2 ⟨hn.1, by omega⟩ r)
      = ext (fun k => I.v (ix3 0 ⟨64 * (j.1 / 4) + hn.1, by omega⟩ k)) (256 * b + r.1))
    (h1 : ∀ b < 17, ∀ r : Fin 256, aug (I.vals b) (ix2 64 r) = ext (fun _ => (1 : EReal)) (256 * b + r.1)) :
    I.res j (ix3 0 hn c) = soft (I.S j c) (fun k => I.v (ix3 0 ⟨64 * (j.1 / 4) + hn.1, by omega⟩ k))
      * I.g (ix3 0 ⟨64 * j.1 + hn.1, by omega⟩ c) := by
  obtain ⟨m, h⟩ := runH_acc I hS
  unfold Ins.res
  rw [outV_apply, hacc, h _ _ hv, h _ _ h1, gh_apply, Finset.sum_range, Finset.sum_range]
  simp only [ext_val]
  rw [soft_of_shifted]

/-- The result rows of head `j`. -/
theorem res_apply (hI : I.Fin) (j : Fin 8) (n : Fin 64) (c : Fin 256) :
    I.res j (ix3 0 n c) = soft (I.S j c) (fun k => I.v (ix3 0 ⟨64 * (j.1 / 4) + n.1, by omega⟩ k))
      * I.g (ix3 0 ⟨64 * j.1 + n.1, by omega⟩ c) := by
  by_cases hj : j.1 < 4
  · refine res_of_run n (aug := augLo) (q := padLo (I.qh j)) (if_pos hj) (fun b hb r => ?_) (fun b hb r => ?_) (fun b hb r => ?_)
    · rw [ext_at _ _ (by omega)]
      unfold Ins.sc Ins.S
      rw [scoreLo_apply, coe_sum]
      refine Finset.sum_congr rfl fun d _ => ?_
      rw [keys_apply I b hb, qh_apply, EReal.coe_mul, ← hI.k, ← hI.q]
      congr 3
      simp [Nat.div_eq_of_lt hj]
    · rw [ext_at _ _ (by omega), augLo_apply, dif_pos n.2, vals_apply I b hb]
      congr 2
      simp [Nat.div_eq_of_lt hj]
    · rw [ext_at _ _ (by omega), augLo_apply]
      rfl
  · have h4 : j.1 / 4 = 1 := by omega
    refine res_of_run n (aug := augHi) (q := padHi (I.qh j)) (if_neg hj) (fun b hb r => ?_) (fun b hb r => ?_) (fun b hb r => ?_)
    · rw [ext_at _ _ (by omega)]
      unfold Ins.sc Ins.S
      rw [scoreHi_apply, coe_sum]
      refine Finset.sum_congr rfl fun d _ => ?_
      rw [keys_apply I b hb, qh_apply, EReal.coe_mul, ← hI.k, ← hI.q]
      congr 3
      simp [h4]
    · rw [ext_at _ _ (by omega), augHi_apply, dif_pos n.2, vals_apply I b hb]
      congr 2
      simp [h4]
    · rw [ext_at _ _ (by omega), augHi_apply]
      rfl

/-- The block of the result, at row `r` and column `c`. -/
theorem blk_apply (hI : I.Fin) (r : Fin 512) (c : Fin 256) :
    I.blk (ix3 0 r c) = soft (I.S ⟨r.1 / 64, by omega⟩ c) (fun k => I.v (ix3 0 ⟨64 * (r.1 / 256) + r.1 % 64, by omega⟩ k))
      * I.g (ix3 0 r c) := by
  refine (res_apply hI ⟨r.1 / 64, by omega⟩ ⟨r.1 % 64, by omega⟩ c).trans ?_
  have h : r.1 / 64 / 4 = r.1 / 256 := by omega
  have h' : 64 * (r.1 / 64) + r.1 % 64 = r.1 := by omega
  simp only [h, h']

end Dense
end
-- ==== Proof.Dense.Att.lean ====
/-
  The attention both programs compute, over the extended reals: at batch `b`, row `row` (head `row / 64`) and position
  `col`, the average of the head's values over the 4096 + 256 keys, weighted by two to the power of the score, times the gate.
-/
module

public import proofs.«01_k».proof.Proof.Dense.Softmax
public import Idealize.ShloMosaic.Lib.Pointwise

@[expose] public section

noncomputable section

namespace Dense

open Idealize.ShloMosaic

/-- The arguments: queries, keys, values, gate, and the context's keys and values. -/
structure Args where
  q : FVec Ideal ⟨3, ![8, 1024, 4096]⟩ .bf16
  k : FVec Ideal ⟨3, ![8, 4096, 256]⟩ .bf16
  v : FVec Ideal ⟨3, ![8, 256, 4096]⟩ .bf16
  g : FVec Ideal ⟨3, ![8, 1024, 4096]⟩ .bf16
  kc : FVec Ideal ⟨3, ![8, 256, 256]⟩ .bf16
  vc : FVec Ideal ⟨3, ![8, 256, 256]⟩ .bf16

namespace Args

/-- Queries and keys are finite. -/
structure Finite (A : Args) : Prop where
  q : ∀ i, A.q i = ((A.q i).toReal : EReal)
  k : ∀ i, A.k i = ((A.k i).toReal : EReal)
  kc : ∀ i, A.kc i = ((A.kc i).toReal : EReal)

variable (A : Args)

/-- Key `n` of all, the context's after the sequence's, -/
def key (b : Fin 8) (n : Fin 4352) (l : Fin 256) : EReal :=
  if h : n.1 < 4096 then A.k (ix3 b ⟨n.1, h⟩ l) else A.kc (ix3 b ⟨n.1 - 4096, by omega⟩ l)

/-- and its value. -/
def val (b : Fin 8) (l : Fin 256) (n : Fin 4352) : EReal :=
  if h : n.1 < 4096 then A.v (ix3 b l ⟨n.1, h⟩) else A.vc (ix3 b l ⟨n.1 - 4096, by omega⟩)

/-- The score of key `n` for the head of `row` at position `col`. Four heads in a row share their keys and values. -/
def score (b : Fin 8) (row : Fin 1024) (col : Fin 4096) (n : Fin 4352) : ℝ :=
  ∑ d : Fin 64, (A.key b n ⟨64 * (row.1 / 256) + d.1, by omega⟩).toReal
    * (A.q (ix3 b ⟨64 * (row.1 / 64) + d.1, by omega⟩ col)).toReal

/-- The result at an index, -/
def at3 (b : Fin 8) (row : Fin 1024) (col : Fin 4096) : EReal :=
  soft (A.score b row col) (A.val b ⟨64 * (row.1 / 256) + row.1 % 64, by omega⟩) * A.g (ix3 b row col)

/-- and whole. -/
def att : FVec Ideal ⟨3, ![8, 1024, 4096]⟩ .bf16 := fun i => A.at3 (i 0) (i 1) (i 2)

variable {A}

theorem Finite.key (h : A.Finite) (b : Fin 8) (n : Fin 4352) (l : Fin 256) : A.key b n l = ((A.key b n l).toReal : EReal) := by
  unfold Args.key
  split
  · exact h.k _
  · exact h.kc _

end Args
end Dense
end
-- ==== Proof.Dense.ArrayKI.lean ====
/-
  What the launch leaves in the result's array: the attention of the arguments.
-/
module

public import proofs.«01_k».proof.Proof.Dense.FrameKI
public import proofs.«01_k».proof.Proof.Dense.Column
public import proofs.«01_k».proof.Proof.Dense.Att
public import Idealize.ShloMosaic.Lib.Pipeline.ValueKit.Point
public import Idealize.ShloMosaic.Lib.Pipeline.Covers

@[expose] public section

noncomputable section

namespace Dense.KI

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- The arguments on a device. -/
def args : Args where
  q := m ((c : Thread nD τ).loc main_arg0)
  k := m ((c : Thread nD τ).loc main_arg1)
  v := m ((c : Thread nD τ).loc main_arg2)
  g := m ((c : Thread nD τ).loc main_arg3)
  kc := m ((c : Thread nD τ).loc main_arg4)
  vc := m ((c : Thread nD τ).loc main_arg5)

/-- The arrays of keys and of values the launch finds. -/
theorem V_keys (b : Fin 8) (n : Fin 4352) (l : Fin 256) : V m c main_v0 (ix3 b n l) = (args m c).key b n l := by
  have h : V m c main_v0 = concatenate S8x4352x256 1 [⟨S8x4096x256, m ((c : Thread nD τ).loc main_arg1)⟩, ⟨S8x256x256, m ((c : Thread nD τ).loc main_arg4)⟩] concatenates_S8x4096x256_S8x256x256_S8x4352x256_d1 := by
    unfold V
    after_results_simp <;> rfl
  rw [h]
  unfold Args.key args
  pointwise

theorem V_vals (b : Fin 8) (l : Fin 256) (n : Fin 4352) : V m c main_v1 (ix3 b l n) = (args m c).val b l n := by
  have h : V m c main_v1 = concatenate S8x256x4352 2 [⟨S8x256x4096, m ((c : Thread nD τ).loc main_arg2)⟩, ⟨S8x256x256, m ((c : Thread nD τ).loc main_arg5)⟩] concatenates_S8x256x4096_S8x256x256_S8x256x4352_d2 := by
    unfold V
    after_results_simp <;> rfl
  rw [h]
  unfold Args.val args
  pointwise

/-- The blocks at a grid point, by the point's coordinates. -/
theorem coord_lt (t : Fin cfg0.N) : ((grid0.coords t) 0 : ℕ) < 8 ∧ ((grid0.coords t) 1 : ℕ) < 2 ∧ ((grid0.coords t) 2 : ℕ) < 16 :=
  ⟨((grid0.coords t) 0).2, ((grid0.coords t) 1).2, ((grid0.coords t) 2).2⟩

theorem idx0 (t : Fin cfg0.N) : win0_0.index t = ![((grid0.coords t) 0 : ℕ), ((grid0.coords t) 1 : ℕ), ((grid0.coords t) 2 : ℕ)] := by
  obtain ⟨h0, h1, h2⟩ := coord_lt t
  funext a
  change cc0_transform_0 (grid0.coords t) a = _
  unfold cc0_transform_0
  fin_cases a
  · change (BitVec.ofNat 32 _).toNat = _; simp; omega
  · change (BitVec.ofNat 32 _).toNat = _; simp; omega
  · change (BitVec.ofNat 32 _).toNat = _; simp; omega

theorem idx1 (t : Fin cfg0.N) : win0_1.index t = ![((grid0.coords t) 0 : ℕ), 0, ((grid0.coords t) 1 : ℕ)] := by
  obtain ⟨h0, h1, h2⟩ := coord_lt t
  funext a
  change cc0_transform_1 (grid0.coords t) a = _
  unfold cc0_transform_1
  fin_cases a
  · change (BitVec.ofNat 32 _).toNat = _; simp; omega
  · rfl
  · change (BitVec.ofNat 32 _).toNat = _; simp; omega

theorem idx2 (t : Fin cfg0.N) : win0_2.index t = ![((grid0.coords t) 0 : ℕ), ((grid0.coords t) 1 : ℕ), 0] := by
  obtain ⟨h0, h1, h2⟩ := coord_lt t
  funext a
  change cc0_transform_2 (grid0.coords t) a = _
  unfold cc0_transform_2
  fin_cases a
  · change (BitVec.ofNat 32 _).toNat = _; simp; omega
  · change (BitVec.ofNat 32 _).toNat = _; simp; omega
  · rfl

theorem idx3 (t : Fin cfg0.N) : win0_3.index t = ![((grid0.coords t) 0 : ℕ), ((grid0.coords t) 1 : ℕ), ((grid0.coords t) 2 : ℕ)] := idx0 t
theorem idx4 (t : Fin cfg0.N) : win0_4.index t = ![((grid0.coords t) 0 : ℕ), ((grid0.coords t) 1 : ℕ), ((grid0.coords t) 2 : ℕ)] := idx0 t

/-- A point's batch, -/
def bat (t : Fin cfg0.N) : Fin 8 := ⟨(grid0.coords t) 0, (coord_lt t).1⟩
/-- a row of the result in its block -/
def rowOf (t : Fin cfg0.N) (r : Fin 512) : Fin 1024 :=
  ⟨512 * ((grid0.coords t) 1 : ℕ) + r.1, by have := (coord_lt t).2.1; omega⟩
/-- and a position. -/
def colOf (t : Fin cfg0.N) (x : Fin 256) : Fin 4096 :=
  ⟨256 * ((grid0.coords t) 2 : ℕ) + x.1, by have := (coord_lt t).2.2; omega⟩
/-- A column of the keys, or row of the values, in its block. -/
def laneOf (t : Fin cfg0.N) (l : Fin 128) : Fin 256 :=
  ⟨128 * ((grid0.coords t) 1 : ℕ) + l.1, by have := (coord_lt t).2.1; omega⟩

theorem q_apply (t : Fin cfg0.N) (r : Fin 512) (x : Fin 256) :
    (insAt m c t).q (ix3 0 r x) = (args m c).q (ix3 (bat t) (rowOf t r) (colOf t x)) := by
  change iblk m c 0 t (ix3 0 r x) = m ((c : Thread nD τ).loc main_arg0) _
  unfold bat rowOf colOf
  blk_ext! [iblk, V_main_arg0, idx0 t]

theorem g_apply (t : Fin cfg0.N) (r : Fin 512) (x : Fin 256) :
    (insAt m c t).g (ix3 0 r x) = (args m c).g (ix3 (bat t) (rowOf t r) (colOf t x)) := by
  change iblk m c 3 t (ix3 0 r x) = m ((c : Thread nD τ).loc main_arg3) _
  unfold bat rowOf colOf
  blk_ext! [iblk, V_main_arg3, idx3 t]

theorem k_apply (t : Fin cfg0.N) (n : Fin 4352) (l : Fin 128) :
    (insAt m c t).k (ix3 0 n l) = (args m c).key (bat t) n (laneOf t l) := by
  rw [← V_keys]
  change iblk m c 1 t (ix3 0 n l) = V m c main_v0 _
  unfold iblk bat laneOf
  change V m c main_v0 _ = V m c main_v0 _
  generalize V m c main_v0 = A
  blk_ext! [idx1 t]

theorem v_apply (t : Fin cfg0.N) (l : Fin 128) (n : Fin 4352) :
    (insAt m c t).v (ix3 0 l n) = (args m c).val (bat t) (laneOf t l) n := by
  rw [← V_vals]
  change iblk m c 2 t (ix3 0 l n) = V m c main_v1 _
  unfold iblk bat laneOf
  change V m c main_v1 _ = V m c main_v1 _
  generalize V m c main_v1 = A
  blk_ext! [idx2 t]

theorem ins_fin (h : (args m c).Finite) (t : Fin cfg0.N) : (insAt m c t).Fin where
  q i := by
    obtain ⟨a, r, x, rfl⟩ : ∃ a r x, i = ix3 a r x := ⟨i 0, i 1, i 2, by funext a; fin_cases a <;> rfl⟩
    rw [Subsingleton.elim a 0, q_apply]
    exact h.q _
  k i := by
    obtain ⟨a, r, x, rfl⟩ : ∃ a r x, i = ix3 a r x := ⟨i 0, i 1, i 2, by funext a; fin_cases a <;> rfl⟩
    rw [Subsingleton.elim a 0, k_apply]
    exact h.key _ _ _

/-- The block the body writes is the attention's. -/
theorem blk_eq (h : (args m c).Finite) (t : Fin cfg0.N) (r : Fin 512) (x : Fin 256) :
    (insAt m c t).blk (ix3 0 r x) = (args m c).at3 (bat t) (rowOf t r) (colOf t x) := by
  have hc := coord_lt t
  rw [blk_apply (ins_fin m c h t), g_apply]
  unfold Args.at3
  congr 2
  · funext n
    unfold Ins.S Args.score
    refine Finset.sum_congr rfl fun d _ => ?_
    rw [k_apply, q_apply]
    congr 4
    · apply Fin.ext
      change 128 * _ + (64 * (r.1 / 64 / 4) + d.1) = 64 * ((512 * _ + r.1) / 256) + d.1
      omega
    · congr 1
      apply Fin.ext
      change 512 * _ + (64 * (r.1 / 64) + d.1) = 64 * ((512 * _ + r.1) / 64) + d.1
      omega
  · funext n
    rw [v_apply]
    congr 1
    apply Fin.ext
    change 128 * _ + (64 * (r.1 / 256) + r.1 % 64) = 64 * ((512 * _ + r.1) / 256) + (512 * _ + r.1) % 64
    omega

/-- The array of the result after the launch. -/
theorem final (h : (args m c).Finite) : (dats m 0 c).arrAt 4 cfg0.N = (args m c).att := by
  refine (dats m 0 c).arrAt_eq_of_covers 4 _ ((cfg0.win 4).covers_of_indexMap_surj rfl (by decide) fun β => ?_) fun t hf y => ?_
  · have h0 : (β 0 : ℕ) < 8 := (β 0).2
    have h1 : (β 1 : ℕ) < 2 := (β 1).2
    have h2 : (β 2 : ℕ) < 16 := (β 2).2
    refine ⟨fun | ⟨0, _⟩ => ⟨β 0, h0⟩ | ⟨1, _⟩ => ⟨β 1, h1⟩ | ⟨2, _⟩ => ⟨β 2, h2⟩, fun a => ?_⟩
    change cc0_transform_4 (fun | ⟨0, _⟩ => ⟨β 0, h0⟩ | ⟨1, _⟩ => ⟨β 1, h1⟩ | ⟨2, _⟩ => ⟨β 2, h2⟩) a = _
    unfold cc0_transform_4
    fin_cases a
    · change (BitVec.ofNat 32 (β 0)).toNat = _; simp; omega
    · change (BitVec.ofNat 32 (β 1)).toNat = _; simp; omega
    · change (BitVec.ofNat 32 (β 2)).toNat = _; simp; omega
  · blk_simp
    rw [after0_4]
    obtain ⟨a, r, x, rfl⟩ : ∃ (a : Fin 1) (r : Fin 512) (x : Fin 256), y = ix3 a r x := ⟨y 0, y 1, y 2, by funext a; fin_cases a <;> rfl⟩
    rw [Subsingleton.elim a 0]
    refine (blk_eq m c h t r x).trans ?_
    unfold Args.att bat rowOf colOf
    congr 1
    all_goals
      apply Fin.ext
      blk_simp [idx4 t]
    · rfl
    · change 512 * _ + _ = _; omega
    · change 256 * _ + _ = _; omega

end Dense.KI
end
-- ==== Proof.Dense.RefValue.lean ====
/-
  The reference's result, read at an index, stage by stage.
-/
module

public import proofs.«01_k».proof.Proof.Dense.Att
public import proofs.«01_k».proof.Proof.Dense.Read
public import proofs.«01_k».proof.Proof.Gen.ReferenceIdeal.Run
public import Idealize.ShloMosaic.Lib.Tactic.CleanTypes
public import Idealize.ShloMosaic.Lib.Pointwise

@[expose] public section

noncomputable section

namespace Dense.R

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The arguments on a device. -/
def args : Args where
  q := m ((c : Thread nD τ).loc main_arg0)
  k := m ((c : Thread nD τ).loc main_arg1)
  v := m ((c : Thread nD τ).loc main_arg2)
  g := m ((c : Thread nD τ).loc main_arg3)
  kc := m ((c : Thread nD τ).loc main_arg4)
  vc := m ((c : Thread nD τ).loc main_arg5)

variable (A : Args)

/-- The keys by head, -/
def keysH : FVec Ideal S8x4352x4x64 .f32 :=
  shapeCast _ (extf .f32 (concatenate S8x4352x256 1 [⟨S8x4096x256, A.k⟩, ⟨S8x256x256, A.kc⟩] concatenates_S8x4096x256_S8x256x256_S8x4352x256_d1) bitsLt_bf16_f32) shapeCasts_S8x4352x256_S8x4352x4x64

/-- the values by head, -/
def valsH : FVec Ideal S8x4352x4x64 .f32 :=
  shapeCast _ (extf .f32 (concatenate S8x4352x256 1 [⟨S8x4096x256, (transpose S8x4096x256 [0, 2, 1] A.v transposes_S8x256x4096_S8x4096x256_0_2_1)⟩, ⟨S8x256x256, (transpose S8x256x256 [0, 2, 1] A.vc transposes_S8x256x256_S8x256x256_0_2_1)⟩] concatenates_S8x4096x256_S8x256x256_S8x4352x256_d1) bitsLt_bf16_f32) shapeCasts_S8x4352x256_S8x4352x4x64

/-- and the queries by head, times the logarithm of two. -/
def queriesH : FVec Ideal S8x4096x4x4x64 .f32 :=
  mulf (shapeCast _ (extf .f32 (transpose S8x4096x1024 [0, 2, 1] A.q transposes_S8x1024x4096_S8x4096x1024_0_2_1) bitsLt_bf16_f32) shapeCasts_S8x4096x1024_S8x4096x4x4x64) (broadcastInDim S8x4096x4x4x64 ![] bcast_S_S8x4096x4x4x64 (Host.log (constant S_ .f32 0x40000000#32)))

/-- The scores, -/
def scores (K : FVec Ideal S8x4352x4x64 .f32) (Q : FVec Ideal S8x4096x4x4x64 .f32) : FVec Ideal S8x4x4x4096x4352 .f32 :=
  transpose S8x4x4x4096x4352 [0, 1, 4, 3, 2] (Host.dotGeneral dot_S8x4352x4x64_S8x4096x4x4x64_S8x4x4352x4096x4_3_4_1_13_02_02 none K Q) transposes_S8x4x4352x4096x4_S8x4x4x4096x4352_0_1_4_3_2

/-- their maximum over the keys, -/
def top (s : FVec Ideal S8x4x4x4096x4352 .f32) : FVec Ideal S8x4x4x4096 .f32 :=
  maximumf (broadcastInDim S8x4x4x4096 ![] bcast_S_S8x4x4x4096 (constant S_ .f32 0xFF800000#32)) (Host.reduce FloatOps.maximumf s (constant S_ .f32 0xFF800000#32) reducesTo_S8x4x4x4096x4352_S8x4x4x4096_d4 h_S_)

/-- one value for every key, -/
def spread (x : FVec Ideal S8x4x4x4096 .f32) : FVec Ideal S8x4x4x4096x4352 .f32 :=
  broadcastInDim S8x4x4x4096x4352 ![0, 1, 2, 3, 4] bcast_S8x4x4x4096x1_S8x4x4x4096x4352_0_1_2_3_4 (broadcastInDim S8x4x4x4096x1 ![0, 1, 2, 3] bcast_S8x4x4x4096_S8x4x4x4096x1_0_1_2_3 x)

/-- the shifted scores' exponentials, -/
def expo (s : FVec Ideal S8x4x4x4096x4352 .f32) : FVec Ideal S8x4x4x4096x4352 .f32 := Host.exp (subf s (spread (top s)))

/-- their sum over the keys, -/
def total (e : FVec Ideal S8x4x4x4096x4352 .f32) : FVec Ideal S8x4x4x4096 .f32 :=
  Host.reduceAdd e (constant S_ .f32 0x00000000#32) reducesTo_S8x4x4x4096x4352_S8x4x4x4096_d4 h_S_

/-- the weights, -/
def weights (e : FVec Ideal S8x4x4x4096x4352 .f32) : FVec Ideal S8x4x4x4096x4352 .f32 := Host.divf e (spread (total e))

/-- and the gated average of the values. -/
def gated (V : FVec Ideal S8x4352x4x64 .f32) (w : FVec Ideal S8x4x4x4096x4352 .f32) : FVec Ideal S8x1024x4096 .bf16 :=
  truncf .bf16 (transpose S8x1024x4096 [0, 2, 1] (mulf (shapeCast _ (transpose S8x4096x4x4x64 [0, 4, 1, 3, 2] (Host.dotGeneral dot_S8x4352x4x64_S8x4x4x4096x4352_S8x4x64x4x4096_1_4_3_23_02_01 none V w) transposes_S8x4x64x4x4096_S8x4096x4x4x64_0_4_1_3_2) shapeCasts_S8x4096x4x4x64_S8x4096x1024) (extf .f32 (transpose S8x4096x1024 [0, 2, 1] A.g transposes_S8x1024x4096_S8x4096x1024_0_2_1) bitsLt_bf16_f32)) transposes_S8x4096x1024_S8x1024x4096_0_2_1) bitsLt_bf16_f32

theorem res_eq : res_main_v34 m c
    = gated (args m c) (valsH (args m c)) (weights (expo (scores (keysH (args m c)) (queriesH (args m c))))) := by
  unfold res_main_v34
  rfl

theorem keysH_apply (b : Fin 8) (n : Fin 4352) (h : Fin 4) (d : Fin 64) :
    keysH A (ix4 b n h d) = A.key b n ⟨64 * h.1 + d.1, by omega⟩ := by
  unfold keysH Args.key
  pointwise
  simp only [Nat.mul_comm]

theorem valsH_apply (b : Fin 8) (n : Fin 4352) (h : Fin 4) (d : Fin 64) :
    valsH A (ix4 b n h d) = A.val b ⟨64 * h.1 + d.1, by omega⟩ n := by
  unfold valsH Args.val
  pointwise
  simp only [Nat.mul_comm]

theorem log_two : Ideal.log (Ideal.ofBits .f32 1073741824#32) = ((Real.log 2 : ℝ) : EReal) := by
  have h : Ideal.ofBits .f32 1073741824#32 = ((2 : ℝ) : EReal) := by
    simp [Ideal.ofBits, Ideal.ieee]
    rw [← EReal.coe_mul]
    norm_num
  rw [h, Ideal.log_coe, if_neg (by norm_num)]

theorem queriesH_apply (b : Fin 8) (x : Fin 4096) (h g : Fin 4) (d : Fin 64) :
    queriesH A (ix5 b x h g d) = A.q (ix3 b ⟨64 * (4 * h.1 + g.1) + d.1, by omega⟩ x) * ((Real.log 2 : ℝ) : EReal) := by
  unfold queriesH
  pointwise
  rw [log_two]
  congr 3
  apply Fin.ext
  change h.1 * 256 + g.1 * 64 + d.1 = 64 * (4 * h.1 + g.1) + d.1
  omega

theorem scores_apply (K : FVec Ideal S8x4352x4x64 .f32) (Q : FVec Ideal S8x4096x4x4x64 .f32) (b : Fin 8) (h g : Fin 4)
    (x : Fin 4096) (n : Fin 4352) : scores K Q (ix5 b h g x n) = ∑ d : Fin 64, K (ix4 b n h d) * Q (ix5 b x h g d) := by
  unfold scores
  clean_types
  pointwise

/-- A maximum over the last of five axes. -/
theorem reduce_max {a b c d n : ℕ} {u : Shape} (s : FVec Ideal ⟨5, ![a, b, c, d, n]⟩ .f32) (init : FVec Ideal u .f32)
    (h : (⟨5, ![a, b, c, d, n]⟩ : Shape).ReducesTo [4] ⟨4, ![a, b, c, d]⟩) (hu : 0 < u.numel)
    (hi : init (Shape.Idx.first hu) = ⊥) (i : Fin a) (j : Fin b) (k : Fin c) (l : Fin d) :
    Host.reduce FloatOps.maximumf s init h hu (ix4 i j k l) = Finset.univ.fold max ⊥ fun x : Fin n => s (ix5 i j k l x) := by
  rw [Host.reduce_eq_fold, hi]
  exact h.fold_fiber_r5_a4 (ix4 i j k l) _ _ _

theorem max_apply (T : FVec Ideal S8x4x4x4096 .f32) (i : S8x4x4x4096.Idx) :
    maximumf (broadcastInDim S8x4x4x4096 ![] bcast_S_S8x4x4x4096 (constant S_ .f32 0xFF800000#32)) T i = max ⊥ (T i) := by
  rw [← ofBits_negInf]
  rfl

theorem top_apply (s : FVec Ideal S8x4x4x4096x4352 .f32) (b : Fin 8) (h g : Fin 4) (x : Fin 4096) :
    top s (ix4 b h g x) = max ⊥ (Finset.univ.fold max ⊥ fun n : Fin 4352 => s (ix5 b h g x n)) := by
  have e := reduce_max s (constant S_ .f32 0xFF800000#32) reducesTo_S8x4x4x4096x4352_S8x4x4x4096_d4 h_S_ ofBits_negInf b h g x
  unfold top
  rw [max_apply, e]

theorem expo_apply (s : FVec Ideal S8x4x4x4096x4352 .f32) (b : Fin 8) (h g : Fin 4) (x : Fin 4096) (n : Fin 4352) :
    expo s (ix5 b h g x n) = Ideal.exp (s (ix5 b h g x n) - top s (ix4 b h g x)) := by
  unfold expo spread
  generalize top s = T
  pointwise

theorem weights_apply (e : FVec Ideal S8x4x4x4096x4352 .f32) (b : Fin 8) (h g : Fin 4) (x : Fin 4096) (n : Fin 4352) :
    weights e (ix5 b h g x n) = Ideal.div (e (ix5 b h g x n)) (∑ i : Fin 4352, e (ix5 b h g x i)) := by
  unfold weights spread total
  clean_types
  pointwise

theorem gated_apply (V : FVec Ideal S8x4352x4x64 .f32) (w : FVec Ideal S8x4x4x4096x4352 .f32) (b : Fin 8) (row : Fin 1024)
    (col : Fin 4096) : gated A V w (ix3 b row col)
      = (∑ n : Fin 4352, V (ix4 b n ⟨row.1 / 256, by omega⟩ ⟨row.1 % 64, by omega⟩)
          * w (ix5 b ⟨row.1 / 256, by omega⟩ ⟨row.1 / 64 % 4, by omega⟩ col n)) * A.g (ix3 b row col) := by
  unfold gated
  clean_types
  pointwise

variable {A}

/-- A score, with the logarithm of two taken out. -/
theorem score_apply (hA : A.Finite) (b : Fin 8) (row : Fin 1024) (col : Fin 4096) (n : Fin 4352) :
    scores (keysH A) (queriesH A) (ix5 b ⟨row.1 / 256, by omega⟩ ⟨row.1 / 64 % 4, by omega⟩ col n)
      = ((A.score b row col n * Real.log 2 : ℝ) : EReal) := by
  rw [scores_apply]
  unfold Args.score
  rw [Finset.sum_mul, coe_sum]
  refine Finset.sum_congr rfl fun d _ => ?_
  have hq : queriesH A (ix5 b col ⟨row.1 / 256, by omega⟩ ⟨row.1 / 64 % 4, by omega⟩ d)
      = A.q (ix3 b ⟨64 * (row.1 / 64) + d.1, by omega⟩ col) * ((Real.log 2 : ℝ) : EReal) := by
    rw [queriesH_apply]
    congr 3
    apply Fin.ext
    change 64 * (4 * (row.1 / 256) + row.1 / 64 % 4) + d.1 = 64 * (row.1 / 64) + d.1
    omega
  have hm : ∀ (k q : EReal) (L : ℝ), k = (k.toReal : EReal) → q = (q.toReal : EReal)
      → k * (q * (L : EReal)) = ((k.toReal * q.toReal * L : ℝ) : EReal) := fun k q L hk hq => by
    rw [EReal.coe_mul, EReal.coe_mul, ← hk, ← hq, mul_assoc]
  rw [keysH_apply, hq]
  exact hm _ _ _ (hA.key _ _ _) (hA.q _)

/-- The reference's result is the attention of the arguments. -/
theorem res_att (h : (args m c).Finite) : res_main_v34 m c = (args m c).att := by
  rw [res_eq]
  generalize args m c = A at h ⊢
  funext i
  obtain ⟨b, row, col, rfl⟩ : ∃ (b : Fin 8) (row : Fin 1024) (col : Fin 4096), i = ix3 b row col :=
    ⟨i 0, i 1, i 2, by funext a; fin_cases a <;> rfl⟩
  refine (gated_apply A _ _ b row col).trans ?_
  change _ = A.at3 b row col
  unfold Args.at3
  congr 1
  obtain ⟨M, hM⟩ := fold_max_real' (Finset.univ : Finset (Fin 4352)) ⟨0, Finset.mem_univ _⟩
    (fun n => ((A.score b row col n * Real.log 2 : ℝ) : EReal)) (fun n => ⟨_, rfl⟩)
  have hT : top (scores (keysH A) (queriesH A)) (ix4 b ⟨row.1 / 256, by omega⟩ ⟨row.1 / 64 % 4, by omega⟩ col) = (M : EReal) := by
    rw [top_apply, max_eq_right bot_le]
    simp only [score_apply h]
    exact hM
  rw [← soft_of_exp _ _ M]
  refine Finset.sum_congr rfl fun n _ => ?_
  rw [valsH_apply, weights_apply]
  simp only [expo_apply, hT, score_apply h, EReal.coe_sub]

end Dense.R
end
-- ==== Proof.Dense.Pre.lean ====
/-
  The precondition: finite queries and keys, read as real numbers.
-/
module

public import proofs.«01_k».proof.Defs
public import proofs.«01_k».proof.Proof.Dense.Att
public import proofs.«01_k».proof.Proof.Dense.ArrayKI

@[expose] public section

noncomputable section

namespace Dense

open Idealize.ShloMosaic Idealize.ShloMosaic.TcCoe

/-- The shape facts the predicate is stated over. -/
theorem preFacts : Cert.Pre_finite_scores.Facts where
  bitsLt_bf16_f32 := by decide
  bcast_S_S8x1024x4096 := by decide
  bcast_S_S8x4096x256 := by decide
  bcast_S_S8x256x256 := by decide

/-- An extended real whose absolute value is below infinity is a real number. -/
theorem real_of_abs_lt (x : EReal) (h : Ideal.cmp .olt (max x (-x)) (Ideal.ofBits .f32 0x7F800000#32) = 1#1) :
    x = (x.toReal : EReal) := by
  have ht : Ideal.ofBits .f32 0x7F800000#32 = ⊤ := by simp [Ideal.ofBits, Ideal.ieee]
  rw [ht] at h
  have hx : max x (-x) < ⊤ := by
    by_contra hn
    simp [Ideal.cmp, hn] at h
  refine (EReal.coe_toReal ?_ ?_).symm
  · rintro rfl; simp at hx
  · rintro rfl; simp at hx

theorem finite_of_pre (m : (ℓ : Loc Cert.KernelIdeal.nD Cert.KernelIdeal.τ Cert.KernelIdeal.sig) → Buf (Elt Ideal) ℓ)
    (h : Cert.Pre_KernelIdeal_finite_scores (hPre_finite_scores := preFacts) m) (c : Dev Cert.KernelIdeal.nD) : (KI.args m c).Finite := by
  obtain ⟨h0, h1, h2⟩ := h c
  refine ⟨fun i => ?_, fun i => ?_, fun i => ?_⟩
  · exact real_of_abs_lt _ (congrFun h0 i)
  · exact real_of_abs_lt _ (congrFun h1 i)
  · exact real_of_abs_lt _ (congrFun h2 i)

end Dense
end
-- ==== Proof.Out.Spec.lean ====
/-
  The output projection both programs compute, over the extended reals: at batch `b`, position `t` and column `n` the
  product of the position's gated attention with the weights, divided by its root mean square, times the gain and the
  gate, added to what the layer started from.
-/
module

public import Idealize.ShloMosaic.PureOps.Ideal
public import Idealize.ShloMosaic.Lib.Pointwise

@[expose] public section

noncomputable section

namespace Out

open Idealize.ShloMosaic

/-- The arguments, of `B` batches of `T` tokens: the gated attention (transposed), the weights, the layer's input, shift,
    scale and gate of every batch, and the gain. -/
structure Args (B T : ℕ) where
  o : FVec Ideal ⟨3, ![B, 1024, T]⟩ .bf16
  w : FVec Ideal ⟨2, ![1024, 1024]⟩ .f32
  h : FVec Ideal ⟨3, ![B, T, 1024]⟩ .f32
  md : FVec Ideal ⟨3, ![B, 3, 1024]⟩ .f32
  g : FVec Ideal ⟨1, ![1024]⟩ .f32

/-- Shift, scale and gate that all batches share, given to each of them. -/
def shared {B : ℕ} (md : FVec Ideal ⟨3, ![1, 3, 1024]⟩ .f32) : FVec Ideal ⟨3, ![B, 3, 1024]⟩ .f32 := fun i => md (ix3 0 (i 1) (i 2))

/-- One over the root of the mean square of 1024 numbers, with the small constant under the root. -/
def irms (x : Fin 1024 → EReal) : EReal :=
  Ideal.rsqrt (Ideal.div (∑ n, x n * x n) (Ideal.ofBits .f32 0x44800000#32) + Ideal.ofBits .f32 0x358637BD#32)

namespace Args
variable {B T : ℕ} (A : Args B T)

/-- The product at a position. -/
def prod (b : Fin B) (t : Fin T) (n : Fin 1024) : EReal := ∑ d : Fin 1024, A.o (ix3 b d t) * A.w (ix2 d n)

/-- The result at an index, -/
def at3 (b : Fin B) (t : Fin T) (n : Fin 1024) : EReal :=
  A.h (ix3 b t n) + A.md (ix3 b 2 n) * (A.prod b t n * irms (A.prod b t) * A.g (ix1 n))

/-- and whole. -/
def out : FVec Ideal ⟨3, ![B, T, 1024]⟩ .f32 := fun i => A.at3 (i 0) (i 1) (i 2)

end Args
end Out
end
-- ==== Proof.Out.ArrayKI.lean ====
/-
  What the launch leaves in the result's array: the output projection of the arguments.
-/
module

public import proofs.«01_k».proof.Proof.Out.Spec
public import proofs.«01_k».proof.Proof.Gen.Kernel2Ideal.Value
public import Idealize.ShloMosaic.Lib.Pipeline.ValueKit.Point
public import Idealize.ShloMosaic.Lib.Pipeline.Covers

@[expose] public section

noncomputable section

namespace Out.KI

open Cert.Kernel2Ideal Cert.Kernel2Ideal.Gen
open Idealize.ShloMosaic Idealize.ShloMosaic.TcCoe
open Idealize.ShloMosaic.Pipeline (Dat Cfg Window)

/-- The body's product, -/
def prodV (o : Vec Ideal S1x1024x1024 .bf16) (w : Vec Ideal S1024x1024 .bf16) : FVec Ideal S1024x1024 .f32 :=
  matmul dot_S1024x1024_S1024x1024_S1024x1024_0_0_1_1_n_n none (shapeCast S1024x1024 o shapeCasts_S1x1024x1024_S1024x1024 : FVec Ideal S1024x1024 .bf16)
    (shapeCast S1024x1024 w shapeCasts_S1024x1024_S1024x1024 : FVec Ideal S1024x1024 .bf16) (constant S1024x1024 .f32 0x00000000#32)

/-- one over its root mean square in every row, -/
def irmsV (y : FVec Ideal S1024x1024 .f32) : FVec Ideal S1024x1 .f32 :=
  rsqrt (addf (divf (shapeCast S1024x1 (multiReduction .add [1] S1024 (mulf y y) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))

/-- and what it stores. -/
def outV (y : FVec Ideal S1024x1024 .f32) (r : FVec Ideal S1024x1 .f32) (g : Vec Ideal S1x1024 .f32) (h : Vec Ideal S1x1024x1024 .f32) (z : Vec Ideal S1x1x1024 .f32) :
    FVec Ideal S1x1024x1024 .f32 :=
  shapeCast S1x1024x1024 (addf (shapeCast S1024x1024 h shapeCasts_S1x1024x1024_S1024x1024)
    (mulf (broadcastTo S1024x1024 (shapeCast S1x1024 z shapeCasts_S1x1x1024_S1x1024) broadcasts_S1x1024_S1024x1024)
      (mulf (mulf y (broadcastTo S1024x1024 r broadcasts_S1024x1_S1024x1024))
        (broadcastTo S1024x1024 (shapeCast S1x1024 g shapeCasts_S1x1024_S1x1024) broadcasts_S1x1024_S1024x1024)))) shapeCasts_S1024x1024_S1x1024x1024

theorem pay_eq (o : Vec Ideal S1x1024x1024 .bf16) (w : Vec Ideal S1024x1024 .bf16) (g : Vec Ideal S1x1024 .f32) (h : Vec Ideal S1x1024x1024 .f32) (z : Vec Ideal S1x1x1024 .f32) :
    k0_pay1 o w g h z = outV (prodV o w) (irmsV (prodV o w)) g h z := rfl

theorem prodV_apply (o : Vec Ideal S1x1024x1024 .bf16) (w : Vec Ideal S1024x1024 .bf16) (t n : Fin 1024) :
    prodV o w (ix2 t n) = ∑ d : Fin 1024, o (ix3 0 d t) * w (ix2 d n) := by
  unfold prodV
  pointwise

theorem irmsV_apply (y : FVec Ideal S1024x1024 .f32) (t : Fin 1024) (u : Fin 1) :
    irmsV y (ix2 t u) = irms fun n => y (ix2 t n) := by
  unfold irmsV irms
  pointwise

theorem outV_apply (y : FVec Ideal S1024x1024 .f32) (r : FVec Ideal S1024x1 .f32) (g : Vec Ideal S1x1024 .f32) (h : Vec Ideal S1x1024x1024 .f32) (z : Vec Ideal S1x1x1024 .f32)
    (t n : Fin 1024) : outV y r g h z (ix3 0 t n) = h (ix3 0 t n) + z (ix3 0 0 n) * (y (ix2 t n) * r (ix2 t 0) * g (ix2 0 n)) := by
  unfold outV
  pointwise

/-- The block the body leaves, at an index. -/
theorem out_apply (o : Vec Ideal S1x1024x1024 .bf16) (w : Vec Ideal S1024x1024 .bf16) (h : Vec Ideal S1x1024x1024 .f32)
    (z : Vec Ideal S1x3x1024 .f32) (g : Vec Ideal S1x1024 .f32) (t n : Fin 1024) :
    out0_5 o w h z g (ix3 0 t n) = h (ix3 0 t n) + z (ix3 0 2 n)
      * ((∑ d : Fin 1024, o (ix3 0 d t) * w (ix2 d n)) * irms (fun n => ∑ d : Fin 1024, o (ix3 0 d t) * w (ix2 d n)) * g (ix2 0 n)) := by
  unfold out0_5
  rw [View.canon_unit_zero (by decide), View.ld_unit_zero (by decide), View.ld_unit_zero (by decide), View.ld_unit_zero (by decide),
    View.ld_unit_zero (by decide), pay_eq, outV_apply, irmsV_apply]
  simp only [prodV_apply]
  have hz : View.ld z r0_3 (ix3 0 0 n) = z (ix3 0 2 n) := by
    rw [View.ld_unit]
    pointwise
  rw [hz]

variable (m : (ℓ : Loc nD τ sig) → Buf (Elt Ideal) ℓ) (c : Dev nD)

/-- The arguments on a device. -/
def args : Args 8 4096 where
  o := m ((c : Thread nD τ).loc main_arg0)
  w := m ((c : Thread nD τ).loc main_arg1)
  h := m ((c : Thread nD τ).loc main_arg2)
  md := m ((c : Thread nD τ).loc main_arg3)
  g := m ((c : Thread nD τ).loc main_arg4)

/-- The weights and the gain as the launch finds them. -/
theorem V_w (d n : Fin 1024) : V m c main_v0 (ix2 d n) = (args m c).w (ix2 d n) := by
  have h : V m c main_v0 = (truncf .bf16 (m ((c : Thread nD τ).loc main_arg1) : FVec Ideal S1024x1024 .f32) bitsLt_bf16_f32 : FVec Ideal S1024x1024 .bf16) := by
    unfold V
    after_results_simp <;> rfl
  rw [h]
  rfl

theorem V_g (u : Fin 1) (n : Fin 1024) : V m c main_v1 (ix2 u n) = (args m c).g (ix1 n) := by
  have h : V m c main_v1 = broadcastInDim S1x1024 ![1] bcast_S1024_S1x1024_1 (m ((c : Thread nD τ).loc main_arg4)) := by
    unfold V
    after_results_simp <;> rfl
  rw [h]
  unfold args
  pointwise

theorem coord_lt (t : Fin cfg0.N) : ((grid0.coords t) 0 : ℕ) < 8 ∧ ((grid0.coords t) 1 : ℕ) < 4 :=
  ⟨((grid0.coords t) 0).2, ((grid0.coords t) 1).2⟩

/-- The windows' places at a grid point, by the point's coordinates. -/
theorem idx0 (t : Fin cfg0.N) : win0_0.index t = ![((grid0.coords t) 0 : ℕ), 0, ((grid0.coords t) 1 : ℕ)] := by
  obtain ⟨h0, h1⟩ := coord_lt t
  funext a
  change cc0_transform_0 (grid0.coords t) a = _
  unfold cc0_transform_0
  fin_cases a
  · change (BitVec.ofNat 32 _).toNat = _; simp; omega
  · rfl
  · change (BitVec.ofNat 32 _).toNat = _; simp; omega

theorem idx1 (t : Fin cfg0.N) : win0_1.index t = ![0, 0] := rfl

theorem idx2 (t : Fin cfg0.N) : win0_2.index t = ![((grid0.coords t) 0 : ℕ), ((grid0.coords t) 1 : ℕ), 0] := by
  obtain ⟨h0, h1⟩ := coord_lt t
  funext a
  change cc0_transform_2 (grid0.coords t) a = _
  unfold cc0_transform_2
  fin_cases a
  · change (BitVec.ofNat 32 _).toNat = _; simp; omega
  · change (BitVec.ofNat 32 _).toNat = _; simp; omega
  · rfl

theorem idx3 (t : Fin cfg0.N) : win0_3.index t = ![((grid0.coords t) 0 : ℕ), 0, 0] := by
  obtain ⟨h0, h1⟩ := coord_lt t
  funext a
  change cc0_transform_3 (grid0.coords t) a = _
  unfold cc0_transform_3
  fin_cases a
  · change (BitVec.ofNat 32 _).toNat = _; simp; omega
  · rfl
  · rfl

theorem idx4 (t : Fin cfg0.N) : win0_4.index t = ![0, 0] := rfl
theorem idx5 (t : Fin cfg0.N) : win0_5.index t = ![((grid0.coords t) 0 : ℕ), ((grid0.coords t) 1 : ℕ), 0] := idx2 t

/-- A point's batch, and a position of its block. -/
def bat (t : Fin cfg0.N) : Fin 8 := ⟨(grid0.coords t) 0, (coord_lt t).1⟩
def posOf (t : Fin cfg0.N) (x : Fin 1024) : Fin 4096 :=
  ⟨1024 * ((grid0.coords t) 1 : ℕ) + x.1, by have := (coord_lt t).2; omega⟩

theorem o_apply (t : Fin cfg0.N) (d x : Fin 1024) : iblk m c 0 t (ix3 0 d x) = (args m c).o (ix3 (bat t) d (posOf t x)) := by
  unfold bat posOf args
  blk_ext! [iblk, V_main_arg0, idx0 t]

theorem w_apply (t : Fin cfg0.N) (d n : Fin 1024) : iblk m c 1 t (ix2 d n) = (args m c).w (ix2 d n) := by
  rw [← V_w]
  unfold iblk
  change V m c main_v0 _ = V m c main_v0 _
  generalize V m c main_v0 = A
  blk_ext! [idx1 t]

theorem h_apply (t : Fin cfg0.N) (x n : Fin 1024) : iblk m c 2 t (ix3 0 x n) = (args m c).h (ix3 (bat t) (posOf t x) n) := by
  unfold bat posOf args
  blk_ext! [iblk, V_main_arg2, idx2 t]

theorem md_apply (t : Fin cfg0.N) (k : Fin 3) (n : Fin 1024) : iblk m c 3 t (ix3 0 k n) = (args m c).md (ix3 (bat t) k n) := by
  unfold bat args
  blk_ext! [iblk, V_main_arg3, idx3 t]

theorem g_apply (t : Fin cfg0.N) (n : Fin 1024) : iblk m c 4 t (ix2 0 n) = (args m c).g (ix1 n) := by
  rw [← V_g m c 0]
  unfold iblk
  change V m c main_v1 _ = V m c main_v1 _
  generalize V m c main_v1 = A
  blk_ext! [idx4 t]

/-- The block the body leaves is the projection's. -/
theorem blk_eq (t : Fin cfg0.N) (x n : Fin 1024) :
    out0_5 (iblk m c 0 t) (iblk m c 1 t) (iblk m c 2 t) (iblk m c 3 t) (iblk m c 4 t) (ix3 0 x n)
      = (args m c).at3 (bat t) (posOf t x) n := by
  refine (out_apply _ _ _ _ _ x n).trans ?_
  rw [h_apply, md_apply, g_apply]
  simp only [o_apply, w_apply]
  rfl

/-- The array of the result after the launch. -/
theorem final : (dats m 0 c).arrAt 5 cfg0.N = (args m c).out := by
  refine (dats m 0 c).arrAt_eq_of_covers 5 _ ((cfg0.win 5).covers_of_indexMap_surj rfl (by decide) fun β => ?_) fun t hf y => ?_
  · have h0 : (β 0 : ℕ) < 8 := (β 0).2
    have h1 : (β 1 : ℕ) < 4 := (β 1).2
    have h2 : (β 2 : ℕ) < 1 := (β 2).2
    refine ⟨fun | ⟨0, _⟩ => ⟨β 0, h0⟩ | ⟨1, _⟩ => ⟨β 1, h1⟩, fun a => ?_⟩
    change cc0_transform_5 (fun | ⟨0, _⟩ => ⟨β 0, h0⟩ | ⟨1, _⟩ => ⟨β 1, h1⟩) a = _
    unfold cc0_transform_5
    fin_cases a
    · change (BitVec.ofNat 32 (β 0)).toNat = _; simp; omega
    · change (BitVec.ofNat 32 (β 1)).toNat = _; simp; omega
    · change 0 = (β 2 : ℕ); omega
  · blk_simp
    rw [after0_5]
    obtain ⟨a, x, n, rfl⟩ : ∃ (a : Fin 1) (x : Fin 1024) (n : Fin 1024), y = ix3 a x n := ⟨y 0, y 1, y 2, by funext a; fin_cases a <;> rfl⟩
    rw [Subsingleton.elim a 0]
    refine (blk_eq m c t x n).trans ?_
    unfold Args.out bat posOf
    congr 1
    all_goals
      apply Fin.ext
      blk_simp [idx5 t]
    · rfl
    · change 1024 * _ + _ = _; omega

end Out.KI
end
-- ==== Proof.Out.RefValue.lean ====
/-
  The reference's result, read at an index.
-/
module

public import proofs.«01_k».proof.Proof.Out.Spec
public import proofs.«01_k».proof.Proof.Gen.Reference2Ideal.Run
public import Idealize.ShloMosaic.Lib.Tactic.CleanTypes

@[expose] public section

noncomputable section

namespace Out.R

open Cert.Reference2Ideal Cert.Reference2Ideal.Gen
open Idealize.ShloMosaic Idealize.ShloMosaic.TcCoe

variable (A : Args 8 4096)

/-- The product, -/
def prodV : FVec Ideal S8x4096x1024 .f32 :=
  Host.dotGeneral dot_S8x4096x1024_S1024x1024_S8x4096x1024_2_0_01_1_n_n none (extf .f32 (transpose S8x4096x1024 [0, 2, 1] A.o transposes_S8x1024x4096_S8x4096x1024_0_2_1 : FVec Ideal S8x4096x1024 .bf16) bitsLt_bf16_f32 : FVec Ideal S8x4096x1024 .f32) A.w

/-- one over its root mean square at every position, -/
def irmsV (y : FVec Ideal S8x4096x1024 .f32) : FVec Ideal S8x4096x1 .f32 :=
  Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- and the layer's output. -/
def outV (y : FVec Ideal S8x4096x1024 .f32) (r : FVec Ideal S8x4096x1 .f32) : FVec Ideal S8x4096x1024 .f32 :=
  addf A.h (mulf (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 2, 0] A.md slices_S8x3x1024_S8x1x1024_0_2_0) shapeCasts_S8x1x1024_S8x1024))) (mulf (mulf y (broadcastInDim S8x4096x1024 ![0, 1, 2] bcast_S8x4096x1_S8x4096x1024_0_1_2 r)) (broadcastInDim S8x4096x1024 ![0, 1, 2] bcast_S1x1x1024_S8x4096x1024_0_1_2 (broadcastInDim S1x1x1024 ![2] bcast_S1024_S1x1x1024_2 A.g))))

theorem prodV_apply (b : Fin 8) (t : Fin 4096) (n : Fin 1024) : prodV A (ix3 b t n) = A.prod b t n := by
  unfold prodV Args.prod
  clean_types
  pointwise

theorem irmsV_apply (y : FVec Ideal S8x4096x1024 .f32) (b : Fin 8) (t : Fin 4096) (u : Fin 1) :
    irmsV y (ix3 b t u) = irms fun n => y (ix3 b t n) := by
  unfold irmsV irms
  clean_types
  pointwise

theorem outV_apply (y : FVec Ideal S8x4096x1024 .f32) (r : FVec Ideal S8x4096x1 .f32) (b : Fin 8) (t : Fin 4096)
    (n : Fin 1024) : outV A y r (ix3 b t n)
      = A.h (ix3 b t n) + A.md (ix3 b 2 n) * (y (ix3 b t n) * r (ix3 b t 0) * A.g (ix1 n)) := by
  unfold outV
  pointwise

/-- The reference's result is the projection of the arguments. -/
theorem out_eq : outV A (prodV A) (irmsV (prodV A)) = A.out := by
  funext i
  obtain ⟨b, t, n, rfl⟩ : ∃ (b : Fin 8) (t : Fin 4096) (n : Fin 1024), i = ix3 b t n :=
    ⟨i 0, i 1, i 2, by funext a; fin_cases a <;> rfl⟩
  rw [outV_apply, irmsV_apply]
  simp only [prodV_apply]
  rfl

variable (m : (ℓ : Loc nD τ sig) → Buf (Elt Ideal) ℓ) (c : Dev nD)

/-- The arguments on a device. -/
def args : Args 8 4096 where
  o := m ((c : Thread nD τ).loc main_arg0)
  w := m ((c : Thread nD τ).loc main_arg1)
  h := m ((c : Thread nD τ).loc main_arg2)
  md := m ((c : Thread nD τ).loc main_arg3)
  g := m ((c : Thread nD τ).loc main_arg4)

end Out.R
end
-- ==== Proof.In.Spec.lean ====
/-
  The input projection both programs compute, over the extended reals. At batch `b` and position `t` the layer's input is
  divided by its root mean square, times the gain, scaled and shifted, and multiplied by the weights. Of the product's
  2560 columns the first 1024 are the queries of 16 heads, then come 256 for the keys of 4 heads, 256 for the values and
  1024 for the gate. Queries and keys are divided by their root mean square head by head, times a gain, and where
  the layer has rotary positions turned by the position's angles; the gate passes through `x / (1 + e^(-x))`.
-/
module

public import Idealize.ShloMosaic.PureOps.Ideal
public import Idealize.ShloMosaic.Lib.Pointwise

@[expose] public section

noncomputable section

namespace In

open Idealize.ShloMosaic

/-- The arguments without the positions, of `B` batches of `T` tokens: the layer's input, shift, scale and gate of every
    batch, the gain, the weights, and the gains of queries and keys. -/
structure Base (B T : ℕ) where
  h : FVec Ideal ⟨3, ![B, T, 1024]⟩ .f32
  md : FVec Ideal ⟨3, ![B, 3, 1024]⟩ .f32
  g : FVec Ideal ⟨1, ![1024]⟩ .f32
  w : FVec Ideal ⟨2, ![1024, 2560]⟩ .f32
  gq : FVec Ideal ⟨1, ![64]⟩ .f32
  gk : FVec Ideal ⟨1, ![64]⟩ .f32

/-- With them, for the latent tokens, the cosines and sines of the positions. -/
structure Args extends Base 8 4096 where
  cs : FVec Ideal ⟨2, ![32, 4096]⟩ .f32
  sn : FVec Ideal ⟨2, ![32, 4096]⟩ .f32

/-- One over the root of the mean square of 1024 numbers, with the small constant under the root, -/
def irms (x : Fin 1024 → EReal) : EReal :=
  Ideal.rsqrt (Ideal.div (∑ n, x n * x n) (Ideal.ofBits .f32 0x44800000#32) + Ideal.ofBits .f32 0x358637BD#32)

/-- and of the 64 numbers of a head. -/
def hirms (x : Fin 64 → EReal) : EReal :=
  Ideal.rsqrt (Ideal.div (∑ n, x n * x n) (Ideal.ofBits .f32 0x42800000#32) + Ideal.ofBits .f32 0x358637BD#32)

/-- A head's numbers over their root mean square, times the gain. -/
def normed (x g : Fin 64 → EReal) (j : Fin 64) : EReal := x j * hirms x * g j

/-- The first half of a head turned against the second. -/
def turn (y : Fin 64 → EReal) (cs sn : Fin 32 → EReal) (j : Fin 64) : EReal :=
  if h : j.1 < 32 then y j * cs ⟨j.1, h⟩ - y ⟨32 + j.1, by omega⟩ * sn ⟨j.1, h⟩
  else y j * cs ⟨j.1 - 32, by omega⟩ + y ⟨j.1 - 32, by omega⟩ * sn ⟨j.1 - 32, by omega⟩

/-- The gate of a number. -/
def gate (x : EReal) : EReal := x * Ideal.div 1 (1 + Ideal.exp (-x))

namespace Base
variable {B T : ℕ} (A : Base B T)

/-- What the weights multiply, -/
def u (b : Fin B) (t : Fin T) (d : Fin 1024) : EReal :=
  A.h (ix3 b t d) * irms (fun n => A.h (ix3 b t n)) * A.g (ix1 d) * (1 + A.md (ix3 b 1 d)) + A.md (ix3 b 0 d)

/-- and the product. -/
def prod (b : Fin B) (t : Fin T) (n : Fin 2560) : EReal := ∑ d : Fin 1024, A.u b t d * A.w (ix2 d n)

/-- A query head and a key head over their root mean square, times the gain, -/
def qh (b : Fin B) (t : Fin T) (i : Fin 16) : Fin 64 → EReal :=
  normed (fun j => A.prod b t ⟨i.1 * 64 + j.1, by omega⟩) fun j => A.gq (ix1 j)
def kh (b : Fin B) (t : Fin T) (i : Fin 4) : Fin 64 → EReal :=
  normed (fun j => A.prod b t ⟨1024 + (i.1 * 64 + j.1), by omega⟩) fun j => A.gk (ix1 j)

/-- the values, -/
def v3 (b : Fin B) (r : Fin 256) (t : Fin T) : EReal := A.prod b t ⟨1280 + r.1, by omega⟩

/-- and the gate. -/
def z3 (b : Fin B) (r : Fin 1024) (t : Fin T) : EReal := gate (A.prod b t ⟨1536 + r.1, by omega⟩)

/-- Without positions, queries (scaled) and keys are the heads; by row or column, -/
def qAt (b : Fin B) (r : Fin 1024) (t : Fin T) : EReal :=
  A.qh b t ⟨r.1 / 64, by omega⟩ ⟨r.1 % 64, by omega⟩ * Ideal.ofBits .f32 0x3E000000#32 * Ideal.ofBits .f32 0x3FB8AA3B#32
def kAt (b : Fin B) (t : Fin T) (r : Fin 256) : EReal := A.kh b t ⟨r.1 / 64, by omega⟩ ⟨r.1 % 64, by omega⟩

/-- and the results whole; keys and values also in the orientation and the type of the cache. -/
def q : FVec Ideal ⟨3, ![B, 1024, T]⟩ .bf16 := fun i => A.qAt (i 0) (i 1) (i 2)
def k : FVec Ideal ⟨3, ![B, T, 256]⟩ .bf16 := fun i => A.kAt (i 0) (i 1) (i 2)
def v : FVec Ideal ⟨3, ![B, 256, T]⟩ .bf16 := fun i => A.v3 (i 0) (i 1) (i 2)
def z : FVec Ideal ⟨3, ![B, 1024, T]⟩ .bf16 := fun i => A.z3 (i 0) (i 1) (i 2)
def kc : FVec Ideal ⟨3, ![B, T, 256]⟩ .f32 := fun i => A.kAt (i 0) (i 1) (i 2)
def vc : FVec Ideal ⟨3, ![B, T, 256]⟩ .f32 := fun i => A.v3 (i 0) (i 2) (i 1)

end Base

namespace Args
variable (A : Args)

/-- With positions queries and keys are turned; by row or column, -/
def rqAt (b : Fin 8) (r : Fin 1024) (t : Fin 4096) : EReal :=
  turn (A.qh b t ⟨r.1 / 64, by omega⟩) (fun j => A.cs (ix2 j t)) (fun j => A.sn (ix2 j t)) ⟨r.1 % 64, by omega⟩
    * Ideal.ofBits .f32 0x3E000000#32 * Ideal.ofBits .f32 0x3FB8AA3B#32
def rkAt (b : Fin 8) (t : Fin 4096) (r : Fin 256) : EReal :=
  turn (A.kh b t ⟨r.1 / 64, by omega⟩) (fun j => A.cs (ix2 j t)) (fun j => A.sn (ix2 j t)) ⟨r.1 % 64, by omega⟩

/-- and whole. -/
def rq : FVec Ideal ⟨3, ![8, 1024, 4096]⟩ .bf16 := fun i => A.rqAt (i 0) (i 1) (i 2)
def rk : FVec Ideal ⟨3, ![8, 4096, 256]⟩ .bf16 := fun i => A.rkAt (i 0) (i 1) (i 2)

end Args
end In
end
-- ==== Proof.In.BlockKI.lean ====
/-
  The blocks one run of the kernel's body leaves, read at an index of what it loaded.
-/
module

public import proofs.«01_k».proof.Proof.In.Spec
public import proofs.«01_k».proof.Proof.Gen.Kernel3Ideal.Value
public import Idealize.ShloMosaic.Lib.Pipeline.ValueKit.Point

@[expose] public section

noncomputable section

namespace In.KI

open Cert.Kernel3Ideal Cert.Kernel3Ideal.Gen
open Idealize.ShloMosaic

/-- One over the root mean square of every row, -/
def irmsV (h : Vec Ideal S1x512x1024 .f32) : FVec Ideal S512x1 .f32 :=
  rsqrt (addf (divf (shapeCast S512x1 (multiReduction .add [1] S512 (mulf (shapeCast S512x1024 h shapeCasts_S1x512x1024_S512x1024 : FVec Ideal S512x1024 .f32)
      (shapeCast S512x1024 h shapeCasts_S1x512x1024_S512x1024)) 0x00000000#32 reduces_S512x1024_S512 (.inl rfl) rfl) shapeCasts_S512_S512x1)
    (broadcast S512x1 (Scalar.ofBits .f32 0x44800000#32))) (broadcast S512x1 (Scalar.ofBits .f32 0x358637BD#32)))

/-- what the weights multiply, -/
def uV (h : Vec Ideal S1x512x1024 .f32) (r : FVec Ideal S512x1 .f32) (sh sc : Vec Ideal S1x1x1024 .f32) (g : Vec Ideal S1x1024 .f32) : FVec Ideal S512x1024 .bf16 :=
  truncf .bf16 (addf (mulf (mulf (mulf (shapeCast S512x1024 h shapeCasts_S1x512x1024_S512x1024) (broadcastTo S512x1024 r broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024) : FVec Ideal S512x1024 .f32) bitsLt_bf16_f32

/-- and the product. -/
def prodV (u : FVec Ideal S512x1024 .bf16) (w : Vec Ideal S1024x2560 .bf16) : FVec Ideal S512x2560 .f32 :=
  matmul dot_S512x1024_S1024x2560_S512x2560_1_0_0_1_n_n none u (shapeCast S1024x2560 w shapeCasts_S1024x2560_S1024x2560 : FVec Ideal S1024x2560 .bf16)
    (constant S512x2560 .f32 0x00000000#32)

/-- The queries by heads, -/
def q3 (p : FVec Ideal S512x2560 .f32) : FVec Ideal S16x64x512 .f32 :=
  shapeCast S16x64x512 (transpose S1024x512 [1, 0] (extractStridedSlice S512x1024 ![0, 0] p slices_S512x2560_o0_0_S512x1024) transposes_S512x1024_p1_0_S1024x512) shapeCasts_S1024x512_S16x64x512

/-- over their root mean square, -/
def qn (x : FVec Ideal S16x64x512 .f32) (g : Vec Ideal S64x512 .f32) : FVec Ideal S16x64x512 .f32 :=
  mulf (mulf x (broadcastTo S16x64x512 (rsqrt (addf (mulf (shapeCast S16x1x512 (multiReduction .add [1] S16x512 (mulf x x) 0x00000000#32 reduces_S16x64x512_S16x512 (.inl rfl) rfl) shapeCasts_S16x512_S16x1x512)
      (broadcast S16x1x512 (Scalar.ofBits .f32 0x3C800000#32))) (broadcast S16x1x512 (Scalar.ofBits .f32 0x358637BD#32)))) broadcasts_S16x1x512_S16x64x512))
    (broadcastTo S16x64x512 (shapeCast S1x64x512 (shapeCast S64x512 g shapeCasts_S64x512_S64x512) shapeCasts_S64x512_S1x64x512) broadcasts_S1x64x512_S16x64x512)

/-- and turned. -/
def qt (y : FVec Ideal S16x64x512 .f32) (cs sn : Vec Ideal S32x512 .f32) : FVec Ideal S16x64x512 .f32 :=
  concatenate S16x64x512 1 [⟨S16x32x512, (subf (mulf (extractStridedSlice S16x32x512 ![0, 0, 0] y slices_S16x64x512_o0_0_0_S16x32x512) (broadcastTo S16x32x512 (shapeCast S1x32x512 cs shapeCasts_S32x512_S1x32x512) broadcasts_S1x32x512_S16x32x512))
      (mulf (extractStridedSlice S16x32x512 ![0, 32, 0] y slices_S16x64x512_o0_32_0_S16x32x512) (broadcastTo S16x32x512 (shapeCast S1x32x512 sn shapeCasts_S32x512_S1x32x512) broadcasts_S1x32x512_S16x32x512)) : FVec Ideal S16x32x512 .f32)⟩,
    ⟨S16x32x512, (addf (mulf (extractStridedSlice S16x32x512 ![0, 32, 0] y slices_S16x64x512_o0_32_0_S16x32x512) (broadcastTo S16x32x512 (shapeCast S1x32x512 cs shapeCasts_S32x512_S1x32x512) broadcasts_S1x32x512_S16x32x512))
      (mulf (extractStridedSlice S16x32x512 ![0, 0, 0] y slices_S16x64x512_o0_0_0_S16x32x512) (broadcastTo S16x32x512 (shapeCast S1x32x512 sn shapeCasts_S32x512_S1x32x512) broadcasts_S1x32x512_S16x32x512)) : FVec Ideal S16x32x512 .f32)⟩] concatenates_S16x32x512_S16x32x512_S16x64x512_d1

def qo (y : FVec Ideal S16x64x512 .f32) : FVec Ideal S1x1024x512 .bf16 :=
  shapeCast S1x1024x512 (truncf .bf16 (shapeCast S1024x512 y shapeCasts_S16x64x512_S1024x512 : FVec Ideal S1024x512 .f32) bitsLt_bf16_f32 : FVec Ideal S1024x512 .bf16) shapeCasts_S1024x512_S1x1024x512

/-- The keys likewise. -/
def k3 (p : FVec Ideal S512x2560 .f32) : FVec Ideal S4x64x512 .f32 :=
  shapeCast S4x64x512 (transpose S256x512 [1, 0] (extractStridedSlice S512x256 ![0, 1024] p slices_S512x2560_o0_1024_S512x256) transposes_S512x256_p1_0_S256x512) shapeCasts_S256x512_S4x64x512

def kn (x : FVec Ideal S4x64x512 .f32) (g : Vec Ideal S64x512 .f32) : FVec Ideal S4x64x512 .f32 :=
  mulf (mulf x (broadcastTo S4x64x512 (rsqrt (addf (mulf (shapeCast S4x1x512 (multiReduction .add [1] S4x512 (mulf x x) 0x00000000#32 reduces_S4x64x512_S4x512 (.inl rfl) rfl) shapeCasts_S4x512_S4x1x512)
      (broadcast S4x1x512 (Scalar.ofBits .f32 0x3C800000#32))) (broadcast S4x1x512 (Scalar.ofBits .f32 0x358637BD#32)))) broadcasts_S4x1x512_S4x64x512))
    (broadcastTo S4x64x512 (shapeCast S1x64x512 (shapeCast S64x512 g shapeCasts_S64x512_S64x512) shapeCasts_S64x512_S1x64x512) broadcasts_S1x64x512_S4x64x512)

def kt (y : FVec Ideal S4x64x512 .f32) (cs sn : Vec Ideal S32x512 .f32) : FVec Ideal S4x64x512 .f32 :=
  concatenate S4x64x512 1 [⟨S4x32x512, (subf (mulf (extractStridedSlice S4x32x512 ![0, 0, 0] y slices_S4x64x512_o0_0_0_S4x32x512) (broadcastTo S4x32x512 (shapeCast S1x32x512 cs shapeCasts_S32x512_S1x32x512) broadcasts_S1x32x512_S4x32x512))
      (mulf (extractStridedSlice S4x32x512 ![0, 32, 0] y slices_S4x64x512_o0_32_0_S4x32x512) (broadcastTo S4x32x512 (shapeCast S1x32x512 sn shapeCasts_S32x512_S1x32x512) broadcasts_S1x32x512_S4x32x512)) : FVec Ideal S4x32x512 .f32)⟩,
    ⟨S4x32x512, (addf (mulf (extractStridedSlice S4x32x512 ![0, 32, 0] y slices_S4x64x512_o0_32_0_S4x32x512) (broadcastTo S4x32x512 (shapeCast S1x32x512 cs shapeCasts_S32x512_S1x32x512) broadcasts_S1x32x512_S4x32x512))
      (mulf (extractStridedSlice S4x32x512 ![0, 0, 0] y slices_S4x64x512_o0_0_0_S4x32x512) (broadcastTo S4x32x512 (shapeCast S1x32x512 sn shapeCasts_S32x512_S1x32x512) broadcasts_S1x32x512_S4x32x512)) : FVec Ideal S4x32x512 .f32)⟩] concatenates_S4x32x512_S4x32x512_S4x64x512_d1

def ko (y : FVec Ideal S4x64x512 .f32) : FVec Ideal S1x512x256 .bf16 :=
  shapeCast S1x512x256 (truncf .bf16 (transpose S512x256 [1, 0] (shapeCast S256x512 y shapeCasts_S4x64x512_S256x512) transposes_S256x512_p1_0_S512x256 : FVec Ideal S512x256 .f32) bitsLt_bf16_f32 : FVec Ideal S512x256 .bf16) shapeCasts_S512x256_S1x512x256

/-- The values, -/
def vo (p : FVec Ideal S512x2560 .f32) : FVec Ideal S1x256x512 .bf16 :=
  shapeCast S1x256x512 (truncf .bf16 (transpose S256x512 [1, 0] (extractStridedSlice S512x256 ![0, 1280] p slices_S512x2560_o0_1280_S512x256) transposes_S512x256_p1_0_S256x512 : FVec Ideal S256x512 .f32) bitsLt_bf16_f32 : FVec Ideal S256x512 .bf16) shapeCasts_S256x512_S1x256x512

/-- the gate's columns, and the gate. -/
def z2 (p : FVec Ideal S512x2560 .f32) : FVec Ideal S512x1024 .f32 := extractStridedSlice S512x1024 ![0, 1536] p slices_S512x2560_o0_1536_S512x1024

def zo (x : FVec Ideal S512x1024 .f32) : FVec Ideal S1x1024x512 .bf16 :=
  shapeCast S1x1024x512 (truncf .bf16 (transpose S1024x512 [1, 0] (mulf x (divf (broadcast S512x1024 (Scalar.ofBits .f32 0x3F800000#32))
    (addf (broadcast S512x1024 (Scalar.ofBits .f32 0x3F800000#32)) (exp (subf (broadcast S512x1024 (Scalar.ofBits .f32 0x00000000#32)) x))))) transposes_S512x1024_p1_0_S1024x512 : FVec Ideal S1024x512 .f32) bitsLt_bf16_f32 : FVec Ideal S1024x512 .bf16) shapeCasts_S1024x512_S1x1024x512

theorem irmsV_apply (h : Vec Ideal S1x512x1024 .f32) (t : Fin 512) (u : Fin 1) : irmsV h (ix2 t u) = irms fun n => h (ix3 0 t n) := by
  unfold irmsV irms
  pointwise

theorem uV_apply (h : Vec Ideal S1x512x1024 .f32) (r : FVec Ideal S512x1 .f32) (sh sc : Vec Ideal S1x1x1024 .f32) (g : Vec Ideal S1x1024 .f32) (t : Fin 512) (d : Fin 1024) :
    uV h r sh sc g (ix2 t d) = h (ix3 0 t d) * r (ix2 t 0) * g (ix2 0 d) * (1 + sc (ix3 0 0 d)) + sh (ix3 0 0 d) := by
  unfold uV
  pointwise

theorem prodV_apply (u : FVec Ideal S512x1024 .bf16) (w : Vec Ideal S1024x2560 .bf16) (t : Fin 512) (n : Fin 2560) :
    prodV u w (ix2 t n) = ∑ d : Fin 1024, u (ix2 t d) * w (ix2 d n) := by
  unfold prodV
  pointwise

/-- Dividing by 64 is multiplying with a 64th. -/
theorem div64 (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee]; rw [← EReal.coe_mul]; norm_num
  have h' : Ideal.ofBits .f32 0x3C800000#32 = ((1 / 64 : ℝ) : EReal) := by simp [Ideal.ofBits, Ideal.ieee]; rw [← EReal.coe_mul]; norm_num
  rw [h, h', Ideal.div_coe (by norm_num)]

theorem q3_apply (p : FVec Ideal S512x2560 .f32) (i : Fin 16) (j : Fin 64) (t : Fin 512) :
    q3 p (ix3 i j t) = p (ix2 t ⟨i.1 * 64 + j.1, by omega⟩) := by
  unfold q3
  pointwise

theorem qn_apply (x : FVec Ideal S16x64x512 .f32) (g : Vec Ideal S64x512 .f32) (i : Fin 16) (j : Fin 64) (t : Fin 512) :
    qn x g (ix3 i j t) = normed (fun j => x (ix3 i j t)) (fun j => g (ix2 j t)) j := by
  unfold qn normed hirms
  rw [div64]
  pointwise

theorem qt_apply (y : FVec Ideal S16x64x512 .f32) (cs sn : Vec Ideal S32x512 .f32) (i : Fin 16) (j : Fin 64) (t : Fin 512) :
    qt y cs sn (ix3 i j t) = turn (fun j => y (ix3 i j t)) (fun j => cs (ix2 j t)) (fun j => sn (ix2 j t)) j := by
  unfold qt turn
  pointwise
  split
  · rfl
  · have hj : (⟨32 + (j.1 - 32), by omega⟩ : Fin 64) = j := Fin.ext (by change 32 + (j.1 - 32) = j.1; omega)
    rw [hj]

theorem qo_apply (y : FVec Ideal S16x64x512 .f32) (r : Fin 1024) (t : Fin 512) :
    qo y (ix3 0 r t) = y (ix3 ⟨r.1 / 64, by omega⟩ ⟨r.1 % 64, by omega⟩ t) := by
  unfold qo
  pointwise

theorem k3_apply (p : FVec Ideal S512x2560 .f32) (i : Fin 4) (j : Fin 64) (t : Fin 512) :
    k3 p (ix3 i j t) = p (ix2 t ⟨1024 + (i.1 * 64 + j.1), by omega⟩) := by
  unfold k3
  pointwise

theorem kn_apply (x : FVec Ideal S4x64x512 .f32) (g : Vec Ideal S64x512 .f32) (i : Fin 4) (j : Fin 64) (t : Fin 512) :
    kn x g (ix3 i j t) = normed (fun j => x (ix3 i j t)) (fun j => g (ix2 j t)) j := by
  unfold kn normed hirms
  rw [div64]
  pointwise

theorem kt_apply (y : FVec Ideal S4x64x512 .f32) (cs sn : Vec Ideal S32x512 .f32) (i : Fin 4) (j : Fin 64) (t : Fin 512) :
    kt y cs sn (ix3 i j t) = turn (fun j => y (ix3 i j t)) (fun j => cs (ix2 j t)) (fun j => sn (ix2 j t)) j := by
  unfold kt turn
  pointwise
  split
  · rfl
  · have hj : (⟨32 + (j.1 - 32), by omega⟩ : Fin 64) = j := Fin.ext (by change 32 + (j.1 - 32) = j.1; omega)
    rw [hj]

theorem ko_apply (y : FVec Ideal S4x64x512 .f32) (t : Fin 512) (r : Fin 256) :
    ko y (ix3 0 t r) = y (ix3 ⟨r.1 / 64, by omega⟩ ⟨r.1 % 64, by omega⟩ t) := by
  unfold ko
  pointwise

theorem vo_apply (p : FVec Ideal S512x2560 .f32) (r : Fin 256) (t : Fin 512) : vo p (ix3 0 r t) = p (ix2 t ⟨1280 + r.1, by omega⟩) := by
  unfold vo
  pointwise

theorem z2_apply (p : FVec Ideal S512x2560 .f32) (t : Fin 512) (r : Fin 1024) : z2 p (ix2 t r) = p (ix2 t ⟨1536 + r.1, by omega⟩) := by
  unfold z2
  pointwise

theorem zo_apply (x : FVec Ideal S512x1024 .f32) (r : Fin 1024) (t : Fin 512) : zo x (ix3 0 r t) = gate (x (ix2 t r)) := by
  unfold zo gate
  pointwise
  rw [zero_sub]

/-- A common factor of the gains comes out of a head, -/
theorem normed_mul (x g : Fin 64 → EReal) (r : EReal) (j : Fin 64) : normed x (fun j => g j * r) j = normed x g j * r := by
  unfold normed
  exact (mul_assoc _ _ _).symm

/-- and a common real factor of a turned head. -/
theorem turn_mul (x g : Fin 64 → EReal) (cs sn : Fin 32 → EReal) (r : ℝ) (hr : 0 ≤ r) (j : Fin 64) :
    turn (normed x fun j => g j * (r : EReal)) cs sn j = turn (normed x g) cs sn j * (r : EReal) := by
  have h0 : (0 : EReal) ≤ (r : EReal) := EReal.coe_nonneg.mpr hr
  have hm : ∀ a b : EReal, a * b * (r : EReal) = a * (r : EReal) * b := fun a b => by rw [mul_assoc, mul_comm b, ← mul_assoc]
  unfold turn normed
  split
  · rw [sub_eq_add_neg, sub_eq_add_neg, EReal.right_distrib_of_nonneg_of_ne_top h0 (EReal.coe_ne_top r), EReal.neg_mul]
    rw [hm _ (cs _), hm _ (sn _), mul_assoc _ _ (r : EReal), mul_assoc _ _ (r : EReal)]
  · rw [EReal.right_distrib_of_nonneg_of_ne_top h0 (EReal.coe_ne_top r)]
    rw [hm _ (cs _), hm _ (sn _), mul_assoc _ _ (r : EReal), mul_assoc _ _ (r : EReal)]

/-- The two constants of the reference's queries are the one of the kernel's gain. -/
theorem scale_eq : ∃ r : ℝ, 0 ≤ r ∧ Ideal.ofBits .f32 0x3E38AA3B#32 = (r : EReal)
    ∧ ∀ x : EReal, x * Ideal.ofBits .f32 0x3E000000#32 * Ideal.ofBits .f32 0x3FB8AA3B#32 = x * (r : EReal) := by
  have h1 : Ideal.ofBits .f32 0x3E38AA3B#32 = ((12102203 / 67108864 : ℝ) : EReal) := by simp [Ideal.ofBits, Ideal.ieee]; rw [← EReal.coe_mul]; norm_num
  have h2 : Ideal.ofBits .f32 0x3E000000#32 = ((1 / 8 : ℝ) : EReal) := by simp [Ideal.ofBits, Ideal.ieee]; rw [← EReal.coe_mul]; norm_num
  have h3 : Ideal.ofBits .f32 0x3FB8AA3B#32 = ((12102203 / 8388608 : ℝ) : EReal) := by simp [Ideal.ofBits, Ideal.ieee]; rw [← EReal.coe_mul]; norm_num
  refine ⟨12102203 / 67108864, by norm_num, h1, fun x => ?_⟩
  rw [h2, h3, mul_assoc, ← EReal.coe_mul]
  norm_num

/-- What the body loads, and its product at an index. -/
def pV (h : Vec Ideal S1x512x1024 .f32) (md : Vec Ideal S1x3x1024 .f32) (g : Vec Ideal S1x1024 .f32) (w : Vec Ideal S1024x2560 .bf16) : FVec Ideal S512x2560 .f32 :=
  prodV (uV h (irmsV h) (View.ld md r0_1) (View.ld md r0_2) g) w

theorem pV_apply (h : Vec Ideal S1x512x1024 .f32) (md : Vec Ideal S1x3x1024 .f32) (g : Vec Ideal S1x1024 .f32) (w : Vec Ideal S1024x2560 .bf16) (t : Fin 512) (n : Fin 2560) :
    pV h md g w (ix2 t n) = ∑ d : Fin 1024, (h (ix3 0 t d) * irms (fun n => h (ix3 0 t n)) * g (ix2 0 d) * (1 + md (ix3 0 1 d)) + md (ix3 0 0 d)) * w (ix2 d n) := by
  unfold pV
  have h0 : ∀ d : Fin 1024, View.ld md r0_1 (ix3 0 0 d) = md (ix3 0 0 d) := fun d => by rw [View.ld_unit]; pointwise
  have h1 : ∀ d : Fin 1024, View.ld md r0_2 (ix3 0 0 d) = md (ix3 0 1 d) := fun d => by rw [View.ld_unit]; pointwise
  rw [prodV_apply]
  simp only [uV_apply, irmsV_apply, h0, h1]

variable (h : Vec Ideal S1x512x1024 .f32) (md : Vec Ideal S1x3x1024 .f32) (g : Vec Ideal S1x1024 .f32) (w : Vec Ideal S1024x2560 .bf16)
  (gq gk : Vec Ideal S64x512 .f32) (cs sn : Vec Ideal S32x512 .f32)

theorem pay17_eq : k0_pay17 h md g w gq gk cs sn = pV h md g w := by
  unfold k0_pay17
  rw [View.ld_unit_zero (by decide), View.ld_unit_zero (by decide), View.ld_unit_zero (by decide)]
  rfl

/-- The four blocks. -/
theorem out_q : out0_8 h md g w gq gk cs sn = qo (qt (qn (q3 (pV h md g w)) gq) cs sn) := by
  unfold out0_8
  rw [View.canon_unit_zero (by decide), pay17_eq, View.ld_unit_zero (by decide), View.ld_unit_zero (by decide), View.ld_unit_zero (by decide)]
  rfl

theorem out_k : out0_9 h md g w gq gk cs sn = ko (kt (kn (k3 (pV h md g w)) gk) cs sn) := by
  unfold out0_9
  rw [View.canon_unit_zero (by decide), pay17_eq, View.ld_unit_zero (by decide), View.ld_unit_zero (by decide), View.ld_unit_zero (by decide)]
  rfl

theorem out_v : out0_10 h md g w gq gk cs sn = vo (pV h md g w) := by
  unfold out0_10
  rw [View.canon_unit_zero (by decide), pay17_eq]
  rfl

theorem out_z : out0_11 h md g w gq gk cs sn = zo (z2 (pV h md g w)) := by
  unfold out0_11
  rw [View.canon_unit_zero (by decide), View.ld_unit_zero (by decide), View.ld_unit_zero (by decide), View.ld_unit_zero (by decide)]
  rfl

end In.KI
end
-- ==== Proof.In.ArrayKI.lean ====
/-
  What the launch leaves in the arrays of its four results: the input projection of the arguments.
-/
module

public import proofs.«01_k».proof.Proof.In.BlockKI
public import Idealize.ShloMosaic.Lib.Pipeline.Covers

@[expose] public section

noncomputable section

namespace In.KI

open Cert.Kernel3Ideal Cert.Kernel3Ideal.Gen
open Idealize.ShloMosaic Idealize.ShloMosaic.TcCoe
open Idealize.ShloMosaic.Pipeline (Dat Cfg Window)

variable (m : (ℓ : Loc nD τ sig) → Buf (Elt Ideal) ℓ) (c : Dev nD)

/-- The arguments on a device. -/
def args : Args where
  h := m ((c : Thread nD τ).loc main_arg0)
  md := m ((c : Thread nD τ).loc main_arg1)
  g := m ((c : Thread nD τ).loc main_arg2)
  w := m ((c : Thread nD τ).loc main_arg3)
  gq := m ((c : Thread nD τ).loc main_arg4)
  gk := m ((c : Thread nD τ).loc main_arg5)
  cs := m ((c : Thread nD τ).loc main_arg6)
  sn := m ((c : Thread nD τ).loc main_arg7)

/-- The gains and the weights as the launch finds them: the queries' gain with the scores' scale. -/
theorem V_gq (j : Fin 64) (t : Fin 512) : V m c main_v3 (ix2 j t) = (args m c).gq (ix1 j) * Ideal.ofBits .f32 0x3E38AA3B#32 := by
  have h : V m c main_v3 = broadcastInDim S64x512 ![0, 1] bcast_S64x1_S64x512_0_1 (broadcastInDim S64x1 ![0] bcast_S64_S64x1_0
      (mulf (m ((c : Thread nD τ).loc main_arg4) : FVec Ideal S64 .f32) (broadcastInDim S64 ![] bcast_S_S64 (constant S_ .f32 0x3E38AA3B#32) : FVec Ideal S64 .f32))) := by
    unfold V
    after_results_simp <;> rfl
  rw [h]
  unfold args
  pointwise

theorem V_gk (j : Fin 64) (t : Fin 512) : V m c main_v5 (ix2 j t) = (args m c).gk (ix1 j) := by
  have h : V m c main_v5 = broadcastInDim S64x512 ![0, 1] bcast_S64x1_S64x512_0_1 (broadcastInDim S64x1 ![0] bcast_S64_S64x1_0
      (m ((c : Thread nD τ).loc main_arg5))) := by
    unfold V
    after_results_simp <;> rfl
  rw [h]
  unfold args
  pointwise

theorem V_g (u : Fin 1) (n : Fin 1024) : V m c main_v6 (ix2 u n) = (args m c).g (ix1 n) := by
  have h : V m c main_v6 = broadcastInDim S1x1024 ![1] bcast_S1024_S1x1024_1 (m ((c : Thread nD τ).loc main_arg2)) := by
    unfold V
    after_results_simp <;> rfl
  rw [h]
  unfold args
  pointwise

theorem V_w (d : Fin 1024) (n : Fin 2560) : V m c main_v7 (ix2 d n) = (args m c).w (ix2 d n) := by
  have h : V m c main_v7 = (truncf .bf16 (m ((c : Thread nD τ).loc main_arg3) : FVec Ideal S1024x2560 .f32) bitsLt_bf16_f32 : FVec Ideal S1024x2560 .bf16) := by
    unfold V
    after_results_simp <;> rfl
  rw [h]
  rfl

theorem coord_lt (t : Fin cfg0.N) : ((grid0.coords t) 0 : ℕ) < 8 ∧ ((grid0.coords t) 1 : ℕ) < 8 :=
  ⟨((grid0.coords t) 0).2, ((grid0.coords t) 1).2⟩

/-- The windows' places at a grid point, by the point's coordinates. -/
theorem idx0 (t : Fin cfg0.N) : win0_0.index t = ![((grid0.coords t) 0 : ℕ), ((grid0.coords t) 1 : ℕ), 0] := by
  obtain ⟨h0, h1⟩ := coord_lt t
  funext a
  change cc0_transform_0 (grid0.coords t) a = _
  unfold cc0_transform_0
  fin_cases a
  · change (BitVec.ofNat 32 _).toNat = _; simp; omega
  · change (BitVec.ofNat 32 _).toNat = _; simp; omega
  · rfl

theorem idx1 (t : Fin cfg0.N) : win0_1.index t = ![((grid0.coords t) 0 : ℕ), 0, 0] := by
  obtain ⟨h0, h1⟩ := coord_lt t
  funext a
  change cc0_transform_1 (grid0.coords t) a = _
  unfold cc0_transform_1
  fin_cases a
  · change (BitVec.ofNat 32 _).toNat = _; simp; omega
  · rfl
  · rfl

theorem idx2 (t : Fin cfg0.N) : win0_2.index t = ![0, 0] := rfl
theorem idx3 (t : Fin cfg0.N) : win0_3.index t = ![0, 0] := rfl
theorem idx4 (t : Fin cfg0.N) : win0_4.index t = ![0, 0] := rfl
theorem idx5 (t : Fin cfg0.N) : win0_5.index t = ![0, 0] := rfl

theorem idx6 (t : Fin cfg0.N) : win0_6.index t = ![0, ((grid0.coords t) 1 : ℕ)] := by
  obtain ⟨h0, h1⟩ := coord_lt t
  funext a
  change cc0_transform_6 (grid0.coords t) a = _
  unfold cc0_transform_6
  fin_cases a
  · rfl
  · change (BitVec.ofNat 32 _).toNat = _; simp; omega

theorem idx7 (t : Fin cfg0.N) : win0_7.index t = ![0, ((grid0.coords t) 1 : ℕ)] := idx6 t

theorem idx8 (t : Fin cfg0.N) : win0_8.index t = ![((grid0.coords t) 0 : ℕ), 0, ((grid0.coords t) 1 : ℕ)] := by
  obtain ⟨h0, h1⟩ := coord_lt t
  funext a
  change cc0_transform_8 (grid0.coords t) a = _
  unfold cc0_transform_8
  fin_cases a
  · change (BitVec.ofNat 32 _).toNat = _; simp; omega
  · rfl
  · change (BitVec.ofNat 32 _).toNat = _; simp; omega

theorem idx9 (t : Fin cfg0.N) : win0_9.index t = ![((grid0.coords t) 0 : ℕ), ((grid0.coords t) 1 : ℕ), 0] := idx0 t
theorem idx10 (t : Fin cfg0.N) : win0_10.index t = ![((grid0.coords t) 0 : ℕ), 0, ((grid0.coords t) 1 : ℕ)] := idx8 t
theorem idx11 (t : Fin cfg0.N) : win0_11.index t = ![((grid0.coords t) 0 : ℕ), 0, ((grid0.coords t) 1 : ℕ)] := idx8 t

/-- A point's batch, and a position of its block. -/
def bat (t : Fin cfg0.N) : Fin 8 := ⟨(grid0.coords t) 0, (coord_lt t).1⟩
def posOf (t : Fin cfg0.N) (x : Fin 512) : Fin 4096 :=
  ⟨512 * ((grid0.coords t) 1 : ℕ) + x.1, by have := (coord_lt t).2; omega⟩

theorem h_apply (t : Fin cfg0.N) (x : Fin 512) (n : Fin 1024) : iblk m c 0 t (ix3 0 x n) = (args m c).h (ix3 (bat t) (posOf t x) n) := by
  unfold bat posOf args
  blk_ext! [iblk, V_main_arg0, idx0 t]

theorem md_apply (t : Fin cfg0.N) (k : Fin 3) (n : Fin 1024) : iblk m c 1 t (ix3 0 k n) = (args m c).md (ix3 (bat t) k n) := by
  unfold bat args
  blk_ext! [iblk, V_main_arg1, idx1 t]

theorem g_apply (t : Fin cfg0.N) (n : Fin 1024) : iblk m c 2 t (ix2 0 n) = (args m c).g (ix1 n) := by
  rw [← V_g m c 0]
  unfold iblk
  change V m c main_v6 _ = V m c main_v6 _
  generalize V m c main_v6 = A
  blk_ext! [idx2 t]

theorem w_apply (t : Fin cfg0.N) (d : Fin 1024) (n : Fin 2560) : iblk m c 3 t (ix2 d n) = (args m c).w (ix2 d n) := by
  rw [← V_w]
  unfold iblk
  change V m c main_v7 _ = V m c main_v7 _
  generalize V m c main_v7 = A
  blk_ext! [idx3 t]

theorem gq_apply (t : Fin cfg0.N) (j : Fin 64) (x : Fin 512) : iblk m c 4 t (ix2 j x) = (args m c).gq (ix1 j) * Ideal.ofBits .f32 0x3E38AA3B#32 := by
  rw [← V_gq m c j x]
  unfold iblk
  change V m c main_v3 _ = V m c main_v3 _
  generalize V m c main_v3 = A
  blk_ext! [idx4 t]

theorem gk_apply (t : Fin cfg0.N) (j : Fin 64) (x : Fin 512) : iblk m c 5 t (ix2 j x) = (args m c).gk (ix1 j) := by
  rw [← V_gk m c j x]
  unfold iblk
  change V m c main_v5 _ = V m c main_v5 _
  generalize V m c main_v5 = A
  blk_ext! [idx5 t]

theorem cs_apply (t : Fin cfg0.N) (j : Fin 32) (x : Fin 512) : iblk m c 6 t (ix2 j x) = (args m c).cs (ix2 j (posOf t x)) := by
  unfold posOf args
  blk_ext! [iblk, V_main_arg6, idx6 t]

theorem sn_apply (t : Fin cfg0.N) (j : Fin 32) (x : Fin 512) : iblk m c 7 t (ix2 j x) = (args m c).sn (ix2 j (posOf t x)) := by
  unfold posOf args
  blk_ext! [iblk, V_main_arg7, idx7 t]

/-- A block's product is the projection's. -/
theorem p_eq (t : Fin cfg0.N) (x : Fin 512) (n : Fin 2560) :
    pV (iblk m c 0 t) (iblk m c 1 t) (iblk m c 2 t) (iblk m c 3 t) (ix2 x n) = (args m c).prod (bat t) (posOf t x) n := by
  refine (pV_apply _ _ _ _ x n).trans ?_
  simp only [h_apply, md_apply, g_apply, w_apply]
  rfl

/-- So the blocks the body leaves are the projection's. -/
theorem blk_q (t : Fin cfg0.N) (r : Fin 1024) (x : Fin 512) :
    out0_8 (iblk m c 0 t) (iblk m c 1 t) (iblk m c 2 t) (iblk m c 3 t) (iblk m c 4 t) (iblk m c 5 t) (iblk m c 6 t) (iblk m c 7 t) (ix3 0 r x)
      = (args m c).rqAt (bat t) r (posOf t x) := by
  refine (congrFun (out_q _ _ _ _ _ _ _ _) _).trans ?_
  refine (qo_apply _ r x).trans ((qt_apply _ _ _ _ _ x).trans ?_)
  obtain ⟨s, hs, h1, h2⟩ := scale_eq
  simp only [qn_apply, q3_apply, p_eq, gq_apply, cs_apply, sn_apply, h1]
  rw [turn_mul _ _ _ _ s hs]
  unfold Args.rqAt
  rw [h2]
  rfl

theorem blk_k (t : Fin cfg0.N) (x : Fin 512) (r : Fin 256) :
    out0_9 (iblk m c 0 t) (iblk m c 1 t) (iblk m c 2 t) (iblk m c 3 t) (iblk m c 4 t) (iblk m c 5 t) (iblk m c 6 t) (iblk m c 7 t) (ix3 0 x r)
      = (args m c).rkAt (bat t) (posOf t x) r := by
  refine (congrFun (out_k _ _ _ _ _ _ _ _) _).trans ?_
  refine (ko_apply _ x r).trans ((kt_apply _ _ _ _ _ x).trans ?_)
  simp only [kn_apply, k3_apply, p_eq, gk_apply, cs_apply, sn_apply]
  rfl

theorem blk_v (t : Fin cfg0.N) (r : Fin 256) (x : Fin 512) :
    out0_10 (iblk m c 0 t) (iblk m c 1 t) (iblk m c 2 t) (iblk m c 3 t) (iblk m c 4 t) (iblk m c 5 t) (iblk m c 6 t) (iblk m c 7 t) (ix3 0 r x)
      = (args m c).v3 (bat t) r (posOf t x) :=
  (congrFun (out_v _ _ _ _ _ _ _ _) _).trans ((vo_apply _ r x).trans (p_eq m c t x _))

theorem blk_z (t : Fin cfg0.N) (r : Fin 1024) (x : Fin 512) :
    out0_11 (iblk m c 0 t) (iblk m c 1 t) (iblk m c 2 t) (iblk m c 3 t) (iblk m c 4 t) (iblk m c 5 t) (iblk m c 6 t) (iblk m c 7 t) (ix3 0 r x)
      = (args m c).z3 (bat t) r (posOf t x) :=
  (congrFun (out_z _ _ _ _ _ _ _ _) _).trans ((zo_apply _ r x).trans (congrArg gate ((z2_apply _ x r).trans (p_eq m c t x _))))

/-- Every block of a result is some point's. -/
theorem surj8 (β : Fin 3 → ℕ) (h0 : β 0 < 8) (h1 : β 1 < 1) (h2 : β 2 < 8) : ∃ i : grid0.Coords, ∀ a, cc0_transform_8 i a = β a := by
  refine ⟨fun | ⟨0, _⟩ => ⟨β 0, h0⟩ | ⟨1, _⟩ => ⟨β 2, h2⟩, fun a => ?_⟩
  unfold cc0_transform_8
  fin_cases a
  · change (BitVec.ofNat 32 (β 0)).toNat = _; simp; omega
  · change 0 = β 1; omega
  · change (BitVec.ofNat 32 (β 2)).toNat = _; simp; omega

theorem surj9 (β : Fin 3 → ℕ) (h0 : β 0 < 8) (h1 : β 1 < 8) (h2 : β 2 < 1) : ∃ i : grid0.Coords, ∀ a, cc0_transform_9 i a = β a := by
  refine ⟨fun | ⟨0, _⟩ => ⟨β 0, h0⟩ | ⟨1, _⟩ => ⟨β 1, h1⟩, fun a => ?_⟩
  unfold cc0_transform_9
  fin_cases a
  · change (BitVec.ofNat 32 (β 0)).toNat = _; simp; omega
  · change (BitVec.ofNat 32 (β 1)).toNat = _; simp; omega
  · change 0 = β 2; omega

/-- The arrays of the results after the launch. -/
theorem final_q : (dats m 0 c).arrAt 8 cfg0.N = (args m c).rq := by
  refine (dats m 0 c).arrAt_eq_of_covers 8 _ ((cfg0.win 8).covers_of_indexMap_surj rfl (by decide) fun β =>
    surj8 (fun a => (β a : ℕ)) (β 0).2 (β 1).2 (β 2).2) fun t hf y => ?_
  blk_simp
  rw [after0_8]
  obtain ⟨a, r, x, rfl⟩ : ∃ (a : Fin 1) (r : Fin 1024) (x : Fin 512), y = ix3 a r x := ⟨y 0, y 1, y 2, by funext a; fin_cases a <;> rfl⟩
  rw [Subsingleton.elim a 0]
  refine (blk_q m c t r x).trans ?_
  unfold Args.rq bat posOf
  congr 1
  all_goals
    apply Fin.ext
    blk_simp [idx8 t]
  · rfl
  · change 512 * _ + _ = _; omega

theorem final_k : (dats m 0 c).arrAt 9 cfg0.N = (args m c).rk := by
  refine (dats m 0 c).arrAt_eq_of_covers 9 _ ((cfg0.win 9).covers_of_indexMap_surj rfl (by decide) fun β =>
    surj9 (fun a => (β a : ℕ)) (β 0).2 (β 1).2 (β 2).2) fun t hf y => ?_
  blk_simp
  rw [after0_9]
  obtain ⟨a, x, r, rfl⟩ : ∃ (a : Fin 1) (x : Fin 512) (r : Fin 256), y = ix3 a x r := ⟨y 0, y 1, y 2, by funext a; fin_cases a <;> rfl⟩
  rw [Subsingleton.elim a 0]
  refine (blk_k m c t x r).trans ?_
  unfold Args.rk bat posOf
  congr 1
  all_goals
    apply Fin.ext
    blk_simp [idx9 t]
  · rfl
  · change 512 * _ + _ = _; omega

theorem final_v : (dats m 0 c).arrAt 10 cfg0.N = (args m c).v := by
  refine (dats m 0 c).arrAt_eq_of_covers 10 _ ((cfg0.win 10).covers_of_indexMap_surj rfl (by decide) fun β =>
    surj8 (fun a => (β a : ℕ)) (β 0).2 (β 1).2 (β 2).2) fun t hf y => ?_
  blk_simp
  rw [after0_10]
  obtain ⟨a, r, x, rfl⟩ : ∃ (a : Fin 1) (r : Fin 256) (x : Fin 512), y = ix3 a r x := ⟨y 0, y 1, y 2, by funext a; fin_cases a <;> rfl⟩
  rw [Subsingleton.elim a 0]
  refine (blk_v m c t r x).trans ?_
  unfold Base.v bat posOf
  congr 1
  all_goals
    apply Fin.ext
    blk_simp [idx10 t]
  · rfl
  · change 512 * _ + _ = _; omega

theorem final_z : (dats m 0 c).arrAt 11 cfg0.N = (args m c).z := by
  refine (dats m 0 c).arrAt_eq_of_covers 11 _ ((cfg0.win 11).covers_of_indexMap_surj rfl (by decide) fun β =>
    surj8 (fun a => (β a : ℕ)) (β 0).2 (β 1).2 (β 2).2) fun t hf y => ?_
  blk_simp
  rw [after0_11]
  obtain ⟨a, r, x, rfl⟩ : ∃ (a : Fin 1) (r : Fin 1024) (x : Fin 512), y = ix3 a r x := ⟨y 0, y 1, y 2, by funext a; fin_cases a <;> rfl⟩
  rw [Subsingleton.elim a 0]
  refine (blk_z m c t r x).trans ?_
  unfold Base.z bat posOf
  congr 1
  all_goals
    apply Fin.ext
    blk_simp [idx11 t]
  · rfl
  · change 512 * _ + _ = _; omega

end In.KI
end
-- ==== Proof.In.RefValue.lean ====
/-
  The reference's results, read at an index.
-/
module

public import proofs.«01_k».proof.Proof.In.Spec
public import proofs.«01_k».proof.Proof.Gen.Reference3Ideal.Run
public import Idealize.ShloMosaic.Lib.Tactic.CleanTypes

@[expose] public section

noncomputable section

namespace In.R

open Cert.Reference3Ideal Cert.Reference3Ideal.Gen
open Idealize.ShloMosaic Idealize.ShloMosaic.TcCoe

variable (A : Base 8 4096)

/-- One over the root mean square at every position, -/
def irmsV (y : FVec Ideal S8x4096x1024 .f32) : FVec Ideal S8x4096x1 .f32 :=
  Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

/-- what the weights multiply, -/
def uV (r : FVec Ideal S8x4096x1 .f32) : FVec Ideal S8x4096x1024 .f32 :=
  addf (mulf (mulf (mulf A.h (broadcastInDim S8x4096x1024 ![0, 1, 2] bcast_S8x4096x1_S8x4096x1024_0_1_2 r)) (broadcastInDim S8x4096x1024 ![0, 1, 2] bcast_S1x1x1024_S8x4096x1024_0_1_2 (broadcastInDim S1x1x1024 ![2] bcast_S1024_S1x1x1024_2 A.g))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 1, 0] A.md slices_S8x3x1024_S8x1x1024_0_1_0) shapeCasts_S8x1x1024_S8x1024))))) (broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 0, 0] A.md slices_S8x3x1024_S8x1x1024_0_0_0) shapeCasts_S8x1x1024_S8x1024)))

/-- and the product. -/
def prodV (u : FVec Ideal S8x4096x1024 .f32) : FVec Ideal S8x4096x2560 .f32 :=
  Host.dotGeneral dot_S8x4096x1024_S1024x2560_S8x4096x2560_2_0_01_1_n_n none u A.w

/-- The queries by heads, -/
def q4 (p : FVec Ideal S8x4096x2560 .f32) : FVec Ideal S8x4096x16x64 .f32 :=
  shapeCast S8x4096x16x64 (extractStridedSlice S8x4096x1024 ![0, 0, 0] p slices_S8x4096x2560_S8x4096x1024_0_0_0) shapeCasts_S8x4096x1024_S8x4096x16x64

/-- over their root mean square, -/
def qn (x : FVec Ideal S8x4096x16x64 .f32) : FVec Ideal S8x4096x16x64 .f32 :=
  mulf (mulf x (broadcastInDim S8x4096x16x64 ![0, 1, 2, 3] bcast_S8x4096x16x1_S8x4096x16x64_0_1_2_3 (Host.rsqrt (addf (Host.divf (broadcastInDim S8x4096x16x1 ![0, 1, 2] bcast_S8x4096x16_S8x4096x16x1_0_1_2 (Host.reduceAdd (mulf x x) (constant S_ .f32 0x00000000#32) reducesTo_S8x4096x16x64_S8x4096x16_d3 h_S_)) (broadcastInDim S8x4096x16x1 ![] bcast_S_S8x4096x16x1 (constant S_ .f32 0x42800000#32))) (broadcastInDim S8x4096x16x1 ![] bcast_S_S8x4096x16x1 (constant S_ .f32 0x358637BD#32)))))) (broadcastInDim S8x4096x16x64 ![0, 1, 2, 3] bcast_S1x1x1x64_S8x4096x16x64_0_1_2_3 (broadcastInDim S1x1x1x64 ![3] bcast_S64_S1x1x1x64_3 A.gq))

/-- with the angles at every head, -/
def ang (x : FVec Ideal S32x4096 .f32) : FVec Ideal S1x4096x1x32 .f32 :=
  broadcastInDim S1x4096x1x32 ![1, 3] bcast_S4096x32_S1x4096x1x32_1_3 (transpose S4096x32 [1, 0] x transposes_S32x4096_S4096x32_1_0)

/-- turned, -/
def qt (y : FVec Ideal S8x4096x16x64 .f32) (cs sn : FVec Ideal S1x4096x1x32 .f32) : FVec Ideal S8x4096x16x64 .f32 :=
  concatenate S8x4096x16x64 3 [⟨S8x4096x16x32, (subf (mulf (extractStridedSlice S8x4096x16x32 ![0, 0, 0, 0] y slices_S8x4096x16x64_S8x4096x16x32_0_0_0_0) (broadcastInDim S8x4096x16x32 ![0, 1, 2, 3] bcast_S1x4096x1x32_S8x4096x16x32_0_1_2_3 cs)) (mulf (extractStridedSlice S8x4096x16x32 ![0, 0, 0, 32] y slices_S8x4096x16x64_S8x4096x16x32_0_0_0_32) (broadcastInDim S8x4096x16x32 ![0, 1, 2, 3] bcast_S1x4096x1x32_S8x4096x16x32_0_1_2_3 sn)) : FVec Ideal S8x4096x16x32 .f32)⟩,
    ⟨S8x4096x16x32, (addf (mulf (extractStridedSlice S8x4096x16x32 ![0, 0, 0, 32] y slices_S8x4096x16x64_S8x4096x16x32_0_0_0_32) (broadcastInDim S8x4096x16x32 ![0, 1, 2, 3] bcast_S1x4096x1x32_S8x4096x16x32_0_1_2_3 cs)) (mulf (extractStridedSlice S8x4096x16x32 ![0, 0, 0, 0] y slices_S8x4096x16x64_S8x4096x16x32_0_0_0_0) (broadcastInDim S8x4096x16x32 ![0, 1, 2, 3] bcast_S1x4096x1x32_S8x4096x16x32_0_1_2_3 sn)) : FVec Ideal S8x4096x16x32 .f32)⟩] concatenates_S8x4096x16x32_S8x4096x16x32_S8x4096x16x64_d3

/-- and scaled. -/
def qo (y : FVec Ideal S8x4096x16x64 .f32) : FVec Ideal S8x1024x4096 .bf16 :=
  truncf .bf16 (transpose S8x1024x4096 [0, 2, 1] (shapeCast S8x4096x1024 (mulf (mulf y (broadcastInDim S8x4096x16x64 ![] bcast_S_S8x4096x16x64 (constant S_ .f32 0x3E000000#32))) (broadcastInDim S8x4096x16x64 ![] bcast_S_S8x4096x16x64 (constant S_ .f32 0x3FB8AA3B#32))) shapeCasts_S8x4096x16x64_S8x4096x1024) transposes_S8x4096x1024_S8x1024x4096_0_2_1 : FVec Ideal S8x1024x4096 .f32) bitsLt_bf16_f32

/-- The keys likewise. -/
def k4 (p : FVec Ideal S8x4096x2560 .f32) : FVec Ideal S8x4096x4x64 .f32 :=
  shapeCast S8x4096x4x64 (extractStridedSlice S8x4096x256 ![0, 0, 1024] p slices_S8x4096x2560_S8x4096x256_0_0_1024) shapeCasts_S8x4096x256_S8x4096x4x64

def kn (x : FVec Ideal S8x4096x4x64 .f32) : FVec Ideal S8x4096x4x64 .f32 :=
  mulf (mulf x (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf x x) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 A.gk))

def kt (y : FVec Ideal S8x4096x4x64 .f32) (cs sn : FVec Ideal S1x4096x1x32 .f32) : FVec Ideal S8x4096x4x64 .f32 :=
  concatenate S8x4096x4x64 3 [⟨S8x4096x4x32, (subf (mulf (extractStridedSlice S8x4096x4x32 ![0, 0, 0, 0] y slices_S8x4096x4x64_S8x4096x4x32_0_0_0_0) (broadcastInDim S8x4096x4x32 ![0, 1, 2, 3] bcast_S1x4096x1x32_S8x4096x4x32_0_1_2_3 cs)) (mulf (extractStridedSlice S8x4096x4x32 ![0, 0, 0, 32] y slices_S8x4096x4x64_S8x4096x4x32_0_0_0_32) (broadcastInDim S8x4096x4x32 ![0, 1, 2, 3] bcast_S1x4096x1x32_S8x4096x4x32_0_1_2_3 sn)) : FVec Ideal S8x4096x4x32 .f32)⟩,
    ⟨S8x4096x4x32, (addf (mulf (extractStridedSlice S8x4096x4x32 ![0, 0, 0, 32] y slices_S8x4096x4x64_S8x4096x4x32_0_0_0_32) (broadcastInDim S8x4096x4x32 ![0, 1, 2, 3] bcast_S1x4096x1x32_S8x4096x4x32_0_1_2_3 cs)) (mulf (extractStridedSlice S8x4096x4x32 ![0, 0, 0, 0] y slices_S8x4096x4x64_S8x4096x4x32_0_0_0_0) (broadcastInDim S8x4096x4x32 ![0, 1, 2, 3] bcast_S1x4096x1x32_S8x4096x4x32_0_1_2_3 sn)) : FVec Ideal S8x4096x4x32 .f32)⟩] concatenates_S8x4096x4x32_S8x4096x4x32_S8x4096x4x64_d3

def ko (y : FVec Ideal S8x4096x4x64 .f32) : FVec Ideal S8x4096x256 .bf16 :=
  truncf .bf16 (shapeCast S8x4096x256 y shapeCasts_S8x4096x4x64_S8x4096x256 : FVec Ideal S8x4096x256 .f32) bitsLt_bf16_f32

/-- The values, -/
def vo (p : FVec Ideal S8x4096x2560 .f32) : FVec Ideal S8x256x4096 .bf16 :=
  truncf .bf16 (transpose S8x256x4096 [0, 2, 1] (extractStridedSlice S8x4096x256 ![0, 0, 1280] p slices_S8x4096x2560_S8x4096x256_0_0_1280) transposes_S8x4096x256_S8x256x4096_0_2_1 : FVec Ideal S8x256x4096 .f32) bitsLt_bf16_f32

/-- the gate's columns, and the gate. -/
def z4 (p : FVec Ideal S8x4096x2560 .f32) : FVec Ideal S8x4096x1024 .f32 :=
  extractStridedSlice S8x4096x1024 ![0, 0, 1536] p slices_S8x4096x2560_S8x4096x1024_0_0_1536

def zo (x : FVec Ideal S8x4096x1024 .f32) : FVec Ideal S8x1024x4096 .bf16 :=
  truncf .bf16 (transpose S8x1024x4096 [0, 2, 1] (mulf x (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf x))))) transposes_S8x4096x1024_S8x1024x4096_0_2_1 : FVec Ideal S8x1024x4096 .f32) bitsLt_bf16_f32

/-- The product of the arguments. -/
def p : FVec Ideal S8x4096x2560 .f32 := prodV A (uV A (irmsV A.h))

theorem irmsV_apply (y : FVec Ideal S8x4096x1024 .f32) (b : Fin 8) (t : Fin 4096) (u : Fin 1) :
    irmsV y (ix3 b t u) = irms fun n => y (ix3 b t n) := by
  unfold irmsV irms
  clean_types
  pointwise

theorem uV_apply (r : FVec Ideal S8x4096x1 .f32) (b : Fin 8) (t : Fin 4096) (d : Fin 1024) :
    uV A r (ix3 b t d) = A.h (ix3 b t d) * r (ix3 b t 0) * A.g (ix1 d) * (1 + A.md (ix3 b 1 d)) + A.md (ix3 b 0 d) := by
  unfold uV
  pointwise

theorem prodV_apply (u : FVec Ideal S8x4096x1024 .f32) (b : Fin 8) (t : Fin 4096) (n : Fin 2560) :
    prodV A u (ix3 b t n) = ∑ d : Fin 1024, u (ix3 b t d) * A.w (ix2 d n) := by
  unfold prodV
  clean_types
  pointwise

theorem p_apply (b : Fin 8) (t : Fin 4096) (n : Fin 2560) : p A (ix3 b t n) = A.prod b t n := by
  unfold p
  rw [prodV_apply]
  simp only [uV_apply, irmsV_apply]
  rfl

theorem q4_apply (p : FVec Ideal S8x4096x2560 .f32) (b : Fin 8) (t : Fin 4096) (i : Fin 16) (j : Fin 64) :
    q4 p (ix4 b t i j) = p (ix3 b t ⟨i.1 * 64 + j.1, by omega⟩) := by
  unfold q4
  pointwise

theorem qn_apply (x : FVec Ideal S8x4096x16x64 .f32) (b : Fin 8) (t : Fin 4096) (i : Fin 16) (j : Fin 64) :
    qn A x (ix4 b t i j) = normed (fun j => x (ix4 b t i j)) (fun j => A.gq (ix1 j)) j := by
  unfold qn normed hirms
  clean_types
  pointwise

theorem ang_apply (x : FVec Ideal S32x4096 .f32) (t : Fin 4096) (j : Fin 32) : ang x (ix4 0 t 0 j) = x (ix2 j t) := by
  unfold ang
  pointwise

theorem qt_apply (y : FVec Ideal S8x4096x16x64 .f32) (cs sn : FVec Ideal S1x4096x1x32 .f32) (b : Fin 8) (t : Fin 4096) (i : Fin 16) (j : Fin 64) :
    qt y cs sn (ix4 b t i j) = turn (fun j => y (ix4 b t i j)) (fun j => cs (ix4 0 t 0 j)) (fun j => sn (ix4 0 t 0 j)) j := by
  unfold qt turn
  pointwise
  split
  · rfl
  · have hj : (⟨32 + (j.1 - 32), by omega⟩ : Fin 64) = j := Fin.ext (by change 32 + (j.1 - 32) = j.1; omega)
    rw [hj]

theorem qo_apply (y : FVec Ideal S8x4096x16x64 .f32) (b : Fin 8) (r : Fin 1024) (t : Fin 4096) :
    qo y (ix3 b r t) = y (ix4 b t ⟨r.1 / 64, by omega⟩ ⟨r.1 % 64, by omega⟩) * Ideal.ofBits .f32 0x3E000000#32 * Ideal.ofBits .f32 0x3FB8AA3B#32 := by
  unfold qo
  pointwise

theorem k4_apply (p : FVec Ideal S8x4096x2560 .f32) (b : Fin 8) (t : Fin 4096) (i : Fin 4) (j : Fin 64) :
    k4 p (ix4 b t i j) = p (ix3 b t ⟨1024 + (i.1 * 64 + j.1), by omega⟩) := by
  unfold k4
  pointwise

theorem kn_apply (x : FVec Ideal S8x4096x4x64 .f32) (b : Fin 8) (t : Fin 4096) (i : Fin 4) (j : Fin 64) :
    kn A x (ix4 b t i j) = normed (fun j => x (ix4 b t i j)) (fun j => A.gk (ix1 j)) j := by
  unfold kn normed hirms
  clean_types
  pointwise

theorem kt_apply (y : FVec Ideal S8x4096x4x64 .f32) (cs sn : FVec Ideal S1x4096x1x32 .f32) (b : Fin 8) (t : Fin 4096) (i : Fin 4) (j : Fin 64) :
    kt y cs sn (ix4 b t i j) = turn (fun j => y (ix4 b t i j)) (fun j => cs (ix4 0 t 0 j)) (fun j => sn (ix4 0 t 0 j)) j := by
  unfold kt turn
  pointwise
  split
  · rfl
  · have hj : (⟨32 + (j.1 - 32), by omega⟩ : Fin 64) = j := Fin.ext (by change 32 + (j.1 - 32) = j.1; omega)
    rw [hj]

theorem ko_apply (y : FVec Ideal S8x4096x4x64 .f32) (b : Fin 8) (t : Fin 4096) (r : Fin 256) :
    ko y (ix3 b t r) = y (ix4 b t ⟨r.1 / 64, by omega⟩ ⟨r.1 % 64, by omega⟩) := by
  unfold ko
  pointwise

theorem vo_apply (p : FVec Ideal S8x4096x2560 .f32) (b : Fin 8) (r : Fin 256) (t : Fin 4096) :
    vo p (ix3 b r t) = p (ix3 b t ⟨1280 + r.1, by omega⟩) := by
  unfold vo
  pointwise

theorem z4_apply (p : FVec Ideal S8x4096x2560 .f32) (b : Fin 8) (t : Fin 4096) (r : Fin 1024) :
    z4 p (ix3 b t r) = p (ix3 b t ⟨1536 + r.1, by omega⟩) := by
  unfold z4
  pointwise

theorem zo_apply (x : FVec Ideal S8x4096x1024 .f32) (b : Fin 8) (r : Fin 1024) (t : Fin 4096) :
    zo x (ix3 b r t) = gate (x (ix3 b t r)) := by
  unfold zo gate
  pointwise

/-- Values and gate are the projection's, -/
theorem v_eq : vo (p A) = A.v := by
  funext i
  obtain ⟨b, r, t, rfl⟩ : ∃ (b : Fin 8) (r : Fin 256) (t : Fin 4096), i = ix3 b r t :=
    ⟨i 0, i 1, i 2, by funext a; fin_cases a <;> rfl⟩
  rw [vo_apply, p_apply]
  rfl

theorem z_eq : zo (z4 (p A)) = A.z := by
  funext i
  obtain ⟨b, r, t, rfl⟩ : ∃ (b : Fin 8) (r : Fin 1024) (t : Fin 4096), i = ix3 b r t :=
    ⟨i 0, i 1, i 2, by funext a; fin_cases a <;> rfl⟩
  rw [zo_apply, z4_apply, p_apply]
  rfl

variable (A : Args)

/-- and so are queries and keys. -/
theorem q_eq : qo (qt (qn A.toBase (q4 (p A.toBase))) (ang A.cs) (ang A.sn)) = A.rq := by
  funext i
  obtain ⟨b, r, t, rfl⟩ : ∃ (b : Fin 8) (r : Fin 1024) (t : Fin 4096), i = ix3 b r t :=
    ⟨i 0, i 1, i 2, by funext a; fin_cases a <;> rfl⟩
  rw [qo_apply, qt_apply]
  simp only [qn_apply, q4_apply, ang_apply, p_apply]
  rfl

theorem k_eq : ko (kt (kn A.toBase (k4 (p A.toBase))) (ang A.cs) (ang A.sn)) = A.rk := by
  funext i
  obtain ⟨b, t, r, rfl⟩ : ∃ (b : Fin 8) (t : Fin 4096) (r : Fin 256), i = ix3 b t r :=
    ⟨i 0, i 1, i 2, by funext a; fin_cases a <;> rfl⟩
  rw [ko_apply, kt_apply]
  simp only [kn_apply, k4_apply, ang_apply, p_apply]
  rfl

variable (m : (ℓ : Loc nD τ sig) → Buf (Elt Ideal) ℓ) (c : Dev nD)

/-- The arguments on a device. -/
def args : Args where
  h := m ((c : Thread nD τ).loc main_arg0)
  md := m ((c : Thread nD τ).loc main_arg1)
  g := m ((c : Thread nD τ).loc main_arg2)
  w := m ((c : Thread nD τ).loc main_arg3)
  gq := m ((c : Thread nD τ).loc main_arg4)
  gk := m ((c : Thread nD τ).loc main_arg5)
  cs := m ((c : Thread nD τ).loc main_arg6)
  sn := m ((c : Thread nD τ).loc main_arg7)

/-- The terms of queries and keys are these stages. -/
theorem res_q : Value.res_main_v96 m c = (args m c).rq :=
  (show _ = qo (qt (qn (args m c).toBase (q4 (p (args m c).toBase))) (ang (args m c).cs) (ang (args m c).sn)) from rfl).trans (q_eq _)

theorem res_k : Value.res_main_v98 m c = (args m c).rk :=
  (show _ = ko (kt (kn (args m c).toBase (k4 (p (args m c).toBase))) (ang (args m c).cs) (ang (args m c).sn)) from rfl).trans (k_eq _)

end In.R
end
-- ==== Proof.InCtx.BlockKI.lean ====
/-
  The blocks one run of the body leaves for the context's 256 tokens, read at an index of what it loaded.
-/
module

public import proofs.«01_k».proof.Proof.In.BlockKI
public import proofs.«01_k».proof.Proof.Gen.Kernel4Ideal.Value
public import Idealize.ShloMosaic.Lib.Pipeline.ValueKit.Point

@[expose] public section

noncomputable section

namespace In.CtxKI

open Cert.Kernel4Ideal Cert.Kernel4Ideal.Gen
open Idealize.ShloMosaic

/-- One over the root mean square of every row, -/
def irmsV (h : Vec Ideal S1x256x1024 .f32) : FVec Ideal S256x1 .f32 :=
  rsqrt (addf (divf (shapeCast S256x1 (multiReduction .add [1] S256 (mulf (shapeCast S256x1024 h shapeCasts_S1x256x1024_S256x1024 : FVec Ideal S256x1024 .f32)
      (shapeCast S256x1024 h shapeCasts_S1x256x1024_S256x1024)) 0x00000000#32 reduces_S256x1024_S256 (.inl rfl) rfl) shapeCasts_S256_S256x1)
    (broadcast S256x1 (Scalar.ofBits .f32 0x44800000#32))) (broadcast S256x1 (Scalar.ofBits .f32 0x358637BD#32)))

/-- what the weights multiply, -/
def uV (h : Vec Ideal S1x256x1024 .f32) (r : FVec Ideal S256x1 .f32) (sh sc : Vec Ideal S1x1x1024 .f32) (g : Vec Ideal S1x1024 .f32) : FVec Ideal S256x1024 .bf16 :=
  truncf .bf16 (addf (mulf (mulf (mulf (shapeCast S256x1024 h shapeCasts_S1x256x1024_S256x1024) (broadcastTo S256x1024 r broadcasts_S256x1_S256x1024))
      (broadcastTo S256x1024 (shapeCast S1x1024 g shapeCasts_S1x1024_S1x1024) broadcasts_S1x1024_S256x1024))
      (broadcastTo S256x1024 (addf (broadcast S1x1024 (Scalar.ofBits .f32 0x3F800000#32)) (shapeCast S1x1024 sc shapeCasts_S1x1x1024_S1x1024)) broadcasts_S1x1024_S256x1024))
    (broadcastTo S256x1024 (shapeCast S1x1024 sh shapeCasts_S1x1x1024_S1x1024) broadcasts_S1x1024_S256x1024) : FVec Ideal S256x1024 .f32) bitsLt_bf16_f32

/-- and the product. -/
def prodV (u : FVec Ideal S256x1024 .bf16) (w : Vec Ideal S1024x2560 .bf16) : FVec Ideal S256x2560 .f32 :=
  matmul dot_S256x1024_S1024x2560_S256x2560_1_0_0_1_n_n none u (shapeCast S1024x2560 w shapeCasts_S1024x2560_S1024x2560 : FVec Ideal S1024x2560 .bf16)
    (constant S256x2560 .f32 0x00000000#32)

/-- The queries by heads, -/
def q3 (p : FVec Ideal S256x2560 .f32) : FVec Ideal S16x64x256 .f32 :=
  shapeCast S16x64x256 (transpose S1024x256 [1, 0] (extractStridedSlice S256x1024 ![0, 0] p slices_S256x2560_o0_0_S256x1024) transposes_S256x1024_p1_0_S1024x256) shapeCasts_S1024x256_S16x64x256

/-- over their root mean square, -/
def qn (x : FVec Ideal S16x64x256 .f32) (g : Vec Ideal S64x256 .f32) : FVec Ideal S16x64x256 .f32 :=
  mulf (mulf x (broadcastTo S16x64x256 (rsqrt (addf (mulf (shapeCast S16x1x256 (multiReduction .add [1] S16x256 (mulf x x) 0x00000000#32 reduces_S16x64x256_S16x256 (.inl rfl) rfl) shapeCasts_S16x256_S16x1x256)
      (broadcast S16x1x256 (Scalar.ofBits .f32 0x3C800000#32))) (broadcast S16x1x256 (Scalar.ofBits .f32 0x358637BD#32)))) broadcasts_S16x1x256_S16x64x256))
    (broadcastTo S16x64x256 (shapeCast S1x64x256 (shapeCast S64x256 g shapeCasts_S64x256_S64x256) shapeCasts_S64x256_S1x64x256) broadcasts_S1x64x256_S16x64x256)

/-- and as they are stored. -/
def qo (y : FVec Ideal S16x64x256 .f32) : FVec Ideal S1x1024x256 .bf16 :=
  shapeCast S1x1024x256 (truncf .bf16 (shapeCast S1024x256 y shapeCasts_S16x64x256_S1024x256 : FVec Ideal S1024x256 .f32) bitsLt_bf16_f32 : FVec Ideal S1024x256 .bf16) shapeCasts_S1024x256_S1x1024x256

/-- The keys likewise. -/
def k3 (p : FVec Ideal S256x2560 .f32) : FVec Ideal S4x64x256 .f32 :=
  shapeCast S4x64x256 (transpose S256x256 [1, 0] (extractStridedSlice S256x256 ![0, 1024] p slices_S256x2560_o0_1024_S256x256) transposes_S256x256_p1_0_S256x256) shapeCasts_S256x256_S4x64x256

def kn (x : FVec Ideal S4x64x256 .f32) (g : Vec Ideal S64x256 .f32) : FVec Ideal S4x64x256 .f32 :=
  mulf (mulf x (broadcastTo S4x64x256 (rsqrt (addf (mulf (shapeCast S4x1x256 (multiReduction .add [1] S4x256 (mulf x x) 0x00000000#32 reduces_S4x64x256_S4x256 (.inl rfl) rfl) shapeCasts_S4x256_S4x1x256)
      (broadcast S4x1x256 (Scalar.ofBits .f32 0x3C800000#32))) (broadcast S4x1x256 (Scalar.ofBits .f32 0x358637BD#32)))) broadcasts_S4x1x256_S4x64x256))
    (broadcastTo S4x64x256 (shapeCast S1x64x256 (shapeCast S64x256 g shapeCasts_S64x256_S64x256) shapeCasts_S64x256_S1x64x256) broadcasts_S1x64x256_S4x64x256)

def ko (y : FVec Ideal S4x64x256 .f32) : FVec Ideal S1x256x256 .bf16 :=
  shapeCast S1x256x256 (truncf .bf16 (transpose S256x256 [1, 0] (shapeCast S256x256 y shapeCasts_S4x64x256_S256x256) transposes_S256x256_p1_0_S256x256 : FVec Ideal S256x256 .f32) bitsLt_bf16_f32 : FVec Ideal S256x256 .bf16) shapeCasts_S256x256_S1x256x256

/-- The same in the type of the cache. -/
def kc (y : FVec Ideal S4x64x256 .f32) : FVec Ideal S1x256x256 .f32 :=
  shapeCast S1x256x256 (transpose S256x256 [1, 0] (shapeCast S256x256 y shapeCasts_S4x64x256_S256x256) transposes_S256x256_p1_0_S256x256 : FVec Ideal S256x256 .f32) shapeCasts_S256x256_S1x256x256

/-- The values, -/
def vo (p : FVec Ideal S256x2560 .f32) : FVec Ideal S1x256x256 .bf16 :=
  shapeCast S1x256x256 (truncf .bf16 (transpose S256x256 [1, 0] (extractStridedSlice S256x256 ![0, 1280] p slices_S256x2560_o0_1280_S256x256) transposes_S256x256_p1_0_S256x256 : FVec Ideal S256x256 .f32) bitsLt_bf16_f32 : FVec Ideal S256x256 .bf16) shapeCasts_S256x256_S1x256x256

def vc (p : FVec Ideal S256x2560 .f32) : FVec Ideal S1x256x256 .f32 :=
  shapeCast S1x256x256 (extractStridedSlice S256x256 ![0, 1280] p slices_S256x2560_o0_1280_S256x256 : FVec Ideal S256x256 .f32) shapeCasts_S256x256_S1x256x256

/-- the gate's columns, and the gate. -/
def z2 (p : FVec Ideal S256x2560 .f32) : FVec Ideal S256x1024 .f32 := extractStridedSlice S256x1024 ![0, 1536] p slices_S256x2560_o0_1536_S256x1024

def zo (x : FVec Ideal S256x1024 .f32) : FVec Ideal S1x1024x256 .bf16 :=
  shapeCast S1x1024x256 (truncf .bf16 (transpose S1024x256 [1, 0] (mulf x (divf (broadcast S256x1024 (Scalar.ofBits .f32 0x3F800000#32))
    (addf (broadcast S256x1024 (Scalar.ofBits .f32 0x3F800000#32)) (exp (subf (broadcast S256x1024 (Scalar.ofBits .f32 0x00000000#32)) x))))) transposes_S256x1024_p1_0_S1024x256 : FVec Ideal S1024x256 .f32) bitsLt_bf16_f32 : FVec Ideal S1024x256 .bf16) shapeCasts_S1024x256_S1x1024x256

theorem irmsV_apply (h : Vec Ideal S1x256x1024 .f32) (t : Fin 256) (u : Fin 1) : irmsV h (ix2 t u) = irms fun n => h (ix3 0 t n) := by
  unfold irmsV irms
  pointwise

theorem uV_apply (h : Vec Ideal S1x256x1024 .f32) (r : FVec Ideal S256x1 .f32) (sh sc : Vec Ideal S1x1x1024 .f32) (g : Vec Ideal S1x1024 .f32) (t : Fin 256) (d : Fin 1024) :
    uV h r sh sc g (ix2 t d) = h (ix3 0 t d) * r (ix2 t 0) * g (ix2 0 d) * (1 + sc (ix3 0 0 d)) + sh (ix3 0 0 d) := by
  unfold uV
  pointwise

theorem prodV_apply (u : FVec Ideal S256x1024 .bf16) (w : Vec Ideal S1024x2560 .bf16) (t : Fin 256) (n : Fin 2560) :
    prodV u w (ix2 t n) = ∑ d : Fin 1024, u (ix2 t d) * w (ix2 d n) := by
  unfold prodV
  pointwise

theorem q3_apply (p : FVec Ideal S256x2560 .f32) (i : Fin 16) (j : Fin 64) (t : Fin 256) :
    q3 p (ix3 i j t) = p (ix2 t ⟨i.1 * 64 + j.1, by omega⟩) := by
  unfold q3
  pointwise

theorem qn_apply (x : FVec Ideal S16x64x256 .f32) (g : Vec Ideal S64x256 .f32) (i : Fin 16) (j : Fin 64) (t : Fin 256) :
    qn x g (ix3 i j t) = normed (fun j => x (ix3 i j t)) (fun j => g (ix2 j t)) j := by
  unfold qn normed hirms
  rw [KI.div64]
  pointwise

theorem qo_apply (y : FVec Ideal S16x64x256 .f32) (r : Fin 1024) (t : Fin 256) :
    qo y (ix3 0 r t) = y (ix3 ⟨r.1 / 64, by omega⟩ ⟨r.1 % 64, by omega⟩ t) := by
  unfold qo
  pointwise

theorem k3_apply (p : FVec Ideal S256x2560 .f32) (i : Fin 4) (j : Fin 64) (t : Fin 256) :
    k3 p (ix3 i j t) = p (ix2 t ⟨1024 + (i.1 * 64 + j.1), by omega⟩) := by
  unfold k3
  pointwise

theorem kn_apply (x : FVec Ideal S4x64x256 .f32) (g : Vec Ideal S64x256 .f32) (i : Fin 4) (j : Fin 64) (t : Fin 256) :
    kn x g (ix3 i j t) = normed (fun j => x (ix3 i j t)) (fun j => g (ix2 j t)) j := by
  unfold kn normed hirms
  rw [KI.div64]
  pointwise

theorem ko_apply (y : FVec Ideal S4x64x256 .f32) (t : Fin 256) (r : Fin 256) :
    ko y (ix3 0 t r) = y (ix3 ⟨r.1 / 64, by omega⟩ ⟨r.1 % 64, by omega⟩ t) := by
  unfold ko
  pointwise

theorem kc_apply (y : FVec Ideal S4x64x256 .f32) (t : Fin 256) (r : Fin 256) :
    kc y (ix3 0 t r) = y (ix3 ⟨r.1 / 64, by omega⟩ ⟨r.1 % 64, by omega⟩ t) := by
  unfold kc
  pointwise

theorem vo_apply (p : FVec Ideal S256x2560 .f32) (r : Fin 256) (t : Fin 256) : vo p (ix3 0 r t) = p (ix2 t ⟨1280 + r.1, by omega⟩) := by
  unfold vo
  pointwise

theorem vc_apply (p : FVec Ideal S256x2560 .f32) (t : Fin 256) (r : Fin 256) : vc p (ix3 0 t r) = p (ix2 t ⟨1280 + r.1, by omega⟩) := by
  unfold vc
  pointwise

theorem z2_apply (p : FVec Ideal S256x2560 .f32) (t : Fin 256) (r : Fin 1024) : z2 p (ix2 t r) = p (ix2 t ⟨1536 + r.1, by omega⟩) := by
  unfold z2
  pointwise

theorem zo_apply (x : FVec Ideal S256x1024 .f32) (r : Fin 1024) (t : Fin 256) : zo x (ix3 0 r t) = gate (x (ix2 t r)) := by
  unfold zo gate
  pointwise
  rw [zero_sub]

/-- What the body loads, and its product at an index. -/
def pV (h : Vec Ideal S1x256x1024 .f32) (md : Vec Ideal S1x3x1024 .f32) (g : Vec Ideal S1x1024 .f32) (w : Vec Ideal S1024x2560 .bf16) : FVec Ideal S256x2560 .f32 :=
  prodV (uV h (irmsV h) (View.ld md r0_1) (View.ld md r0_2) g) w

theorem pV_apply (h : Vec Ideal S1x256x1024 .f32) (md : Vec Ideal S1x3x1024 .f32) (g : Vec Ideal S1x1024 .f32) (w : Vec Ideal S1024x2560 .bf16) (t : Fin 256) (n : Fin 2560) :
    pV h md g w (ix2 t n) = ∑ d : Fin 1024, (h (ix3 0 t d) * irms (fun n => h (ix3 0 t n)) * g (ix2 0 d) * (1 + md (ix3 0 1 d)) + md (ix3 0 0 d)) * w (ix2 d n) := by
  unfold pV
  have h0 : ∀ d : Fin 1024, View.ld md r0_1 (ix3 0 0 d) = md (ix3 0 0 d) := fun d => by rw [View.ld_unit]; pointwise
  have h1 : ∀ d : Fin 1024, View.ld md r0_2 (ix3 0 0 d) = md (ix3 0 1 d) := fun d => by rw [View.ld_unit]; pointwise
  rw [prodV_apply]
  simp only [uV_apply, irmsV_apply, h0, h1]

variable (h : Vec Ideal S1x256x1024 .f32) (md : Vec Ideal S1x3x1024 .f32) (g : Vec Ideal S1x1024 .f32) (w : Vec Ideal S1024x2560 .bf16)
  (gq gk : Vec Ideal S64x256 .f32)

theorem pay15_eq : k0_pay15 h md g w gq gk = pV h md g w := by
  unfold k0_pay15
  rw [View.ld_unit_zero (by decide), View.ld_unit_zero (by decide), View.ld_unit_zero (by decide)]
  rfl

theorem pay16_eq : k0_pay16 h md g w gq gk = k0_pay13 gk := by
  unfold k0_pay16
  rw [View.ld_unit_zero (by decide)]

theorem pay17_eq : k0_pay17 h md g w gq gk = k3 (pV h md g w) := by
  unfold k0_pay17
  rw [pay15_eq]
  rfl

/-- The six blocks. -/
theorem out_q : out0_6 h md g w gq gk = qo (qn (q3 (pV h md g w)) gq) := by
  unfold out0_6
  rw [View.canon_unit_zero (by decide), pay15_eq, View.ld_unit_zero (by decide)]
  rfl

theorem out_k : out0_7 h md g w gq gk = ko (kn (k3 (pV h md g w)) gk) := by
  unfold out0_7
  rw [View.canon_unit_zero (by decide), pay16_eq, pay17_eq]
  rfl

theorem out_v : out0_8 h md g w gq gk = vo (pV h md g w) := by
  unfold out0_8
  rw [View.canon_unit_zero (by decide), pay15_eq]
  rfl

theorem out_z : out0_9 h md g w gq gk = zo (z2 (pV h md g w)) := by
  unfold out0_9
  rw [View.canon_unit_zero (by decide), View.ld_unit_zero (by decide), View.ld_unit_zero (by decide), View.ld_unit_zero (by decide)]
  rfl

theorem out_kc : out0_10 h md g w gq gk = kc (kn (k3 (pV h md g w)) gk) := by
  unfold out0_10
  rw [View.canon_unit_zero (by decide), pay16_eq, pay17_eq]
  rfl

theorem out_vc : out0_11 h md g w gq gk = vc (pV h md g w) := by
  unfold out0_11
  rw [View.canon_unit_zero (by decide), pay15_eq]
  rfl

end In.CtxKI
end
-- ==== Proof.InCtx.ArrayKI.lean ====
/-
  What the launch for the context's tokens leaves in the arrays of its six results: the input projection of the arguments,
  with one shift and scale for all batches, keys and values also as the cache holds them.
-/
module

public import proofs.«01_k».proof.Proof.InCtx.BlockKI
public import proofs.«01_k».proof.Proof.Out.Spec
public import Idealize.ShloMosaic.Lib.Pipeline.Covers

@[expose] public section

noncomputable section

namespace In.CtxKI

open Cert.Kernel4Ideal Cert.Kernel4Ideal.Gen
open Idealize.ShloMosaic Idealize.ShloMosaic.TcCoe
open Idealize.ShloMosaic.Pipeline (Dat Cfg Window)

variable (m : (ℓ : Loc nD τ sig) → Buf (Elt Ideal) ℓ) (c : Dev nD)

/-- The arguments on a device. -/
def args : Base 16 256 where
  h := m ((c : Thread nD τ).loc main_arg0)
  md := Out.shared (m ((c : Thread nD τ).loc main_arg1))
  g := m ((c : Thread nD τ).loc main_arg2)
  w := m ((c : Thread nD τ).loc main_arg3)
  gq := m ((c : Thread nD τ).loc main_arg4)
  gk := m ((c : Thread nD τ).loc main_arg5)

/-- The gains and the weights as the launch finds them: the queries' gain with the scores' scale. -/
theorem V_gq (j : Fin 64) (t : Fin 512) : V m c main_v3 (ix2 j t) = (args m c).gq (ix1 j) * Ideal.ofBits .f32 0x3E38AA3B#32 := by
  have h : V m c main_v3 = broadcastInDim S64x512 ![0, 1] bcast_S64x1_S64x512_0_1 (broadcastInDim S64x1 ![0] bcast_S64_S64x1_0
      (mulf (m ((c : Thread nD τ).loc main_arg4) : FVec Ideal S64 .f32) (broadcastInDim S64 ![] bcast_S_S64 (constant S_ .f32 0x3E38AA3B#32) : FVec Ideal S64 .f32))) := by
    unfold V
    after_results_simp <;> rfl
  rw [h]
  unfold args
  pointwise

theorem V_gk (j : Fin 64) (t : Fin 512) : V m c main_v5 (ix2 j t) = (args m c).gk (ix1 j) := by
  have h : V m c main_v5 = broadcastInDim S64x512 ![0, 1] bcast_S64x1_S64x512_0_1 (broadcastInDim S64x1 ![0] bcast_S64_S64x1_0
      (m ((c : Thread nD τ).loc main_arg5))) := by
    unfold V
    after_results_simp <;> rfl
  rw [h]
  unfold args
  pointwise

theorem V_g (u : Fin 1) (n : Fin 1024) : V m c main_v6 (ix2 u n) = (args m c).g (ix1 n) := by
  have h : V m c main_v6 = broadcastInDim S1x1024 ![1] bcast_S1024_S1x1024_1 (m ((c : Thread nD τ).loc main_arg2)) := by
    unfold V
    after_results_simp <;> rfl
  rw [h]
  unfold args
  pointwise

theorem V_w (d : Fin 1024) (n : Fin 2560) : V m c main_v7 (ix2 d n) = (args m c).w (ix2 d n) := by
  have h : V m c main_v7 = (truncf .bf16 (m ((c : Thread nD τ).loc main_arg3) : FVec Ideal S1024x2560 .f32) bitsLt_bf16_f32 : FVec Ideal S1024x2560 .bf16) := by
    unfold V
    after_results_simp <;> rfl
  rw [h]
  rfl

theorem coord_lt (t : Fin cfg0.N) : ((grid0.coords t) 0 : ℕ) < 16 ∧ ((grid0.coords t) 1 : ℕ) < 1 :=
  ⟨((grid0.coords t) 0).2, ((grid0.coords t) 1).2⟩

/-- The windows' places at a grid point, by the point's coordinates. -/
theorem idx0 (t : Fin cfg0.N) : win0_0.index t = ![((grid0.coords t) 0 : ℕ), ((grid0.coords t) 1 : ℕ), 0] := by
  obtain ⟨h0, h1⟩ := coord_lt t
  funext a
  change cc0_transform_0 (grid0.coords t) a = _
  unfold cc0_transform_0
  fin_cases a
  · change (BitVec.ofNat 32 _).toNat = _; simp; omega
  · change (BitVec.ofNat 32 _).toNat = _; simp
  · rfl

theorem idx1 (t : Fin cfg0.N) : win0_1.index t = ![0, 0, 0] := rfl
theorem idx2 (t : Fin cfg0.N) : win0_2.index t = ![0, 0] := rfl
theorem idx3 (t : Fin cfg0.N) : win0_3.index t = ![0, 0] := rfl
theorem idx4 (t : Fin cfg0.N) : win0_4.index t = ![0, 0] := rfl
theorem idx5 (t : Fin cfg0.N) : win0_5.index t = ![0, 0] := rfl

theorem idx6 (t : Fin cfg0.N) : win0_6.index t = ![((grid0.coords t) 0 : ℕ), 0, ((grid0.coords t) 1 : ℕ)] := by
  obtain ⟨h0, h1⟩ := coord_lt t
  funext a
  change cc0_transform_6 (grid0.coords t) a = _
  unfold cc0_transform_6
  fin_cases a
  · change (BitVec.ofNat 32 _).toNat = _; simp; omega
  · rfl
  · change (BitVec.ofNat 32 _).toNat = _; simp

theorem idx7 (t : Fin cfg0.N) : win0_7.index t = ![((grid0.coords t) 0 : ℕ), ((grid0.coords t) 1 : ℕ), 0] := idx0 t
theorem idx8 (t : Fin cfg0.N) : win0_8.index t = ![((grid0.coords t) 0 : ℕ), 0, ((grid0.coords t) 1 : ℕ)] := idx6 t
theorem idx9 (t : Fin cfg0.N) : win0_9.index t = ![((grid0.coords t) 0 : ℕ), 0, ((grid0.coords t) 1 : ℕ)] := idx6 t
theorem idx10 (t : Fin cfg0.N) : win0_10.index t = ![((grid0.coords t) 0 : ℕ), ((grid0.coords t) 1 : ℕ), 0] := idx0 t
theorem idx11 (t : Fin cfg0.N) : win0_11.index t = ![((grid0.coords t) 0 : ℕ), ((grid0.coords t) 1 : ℕ), 0] := idx0 t

/-- A point's batch, and a position of its block. -/
def bat (t : Fin cfg0.N) : Fin 16 := ⟨(grid0.coords t) 0, (coord_lt t).1⟩
def posOf (t : Fin cfg0.N) (x : Fin 256) : Fin 256 :=
  ⟨256 * ((grid0.coords t) 1 : ℕ) + x.1, by have := (coord_lt t).2; omega⟩

theorem h_apply (t : Fin cfg0.N) (x : Fin 256) (n : Fin 1024) : iblk m c 0 t (ix3 0 x n) = (args m c).h (ix3 (bat t) (posOf t x) n) := by
  unfold bat posOf args
  blk_ext! [iblk, V_main_arg0, idx0 t]

theorem md_apply (t : Fin cfg0.N) (k : Fin 3) (n : Fin 1024) : iblk m c 1 t (ix3 0 k n) = (args m c).md (ix3 (bat t) k n) := by
  unfold bat args Out.shared
  blk_ext! [iblk, V_main_arg1, idx1 t]

theorem g_apply (t : Fin cfg0.N) (n : Fin 1024) : iblk m c 2 t (ix2 0 n) = (args m c).g (ix1 n) := by
  rw [← V_g m c 0]
  unfold iblk
  change V m c main_v6 _ = V m c main_v6 _
  generalize V m c main_v6 = A
  blk_ext! [idx2 t]

theorem w_apply (t : Fin cfg0.N) (d : Fin 1024) (n : Fin 2560) : iblk m c 3 t (ix2 d n) = (args m c).w (ix2 d n) := by
  rw [← V_w]
  unfold iblk
  change V m c main_v7 _ = V m c main_v7 _
  generalize V m c main_v7 = A
  blk_ext! [idx3 t]

theorem gq_apply (t : Fin cfg0.N) (j : Fin 64) (x : Fin 256) : iblk m c 4 t (ix2 j x) = (args m c).gq (ix1 j) * Ideal.ofBits .f32 0x3E38AA3B#32 := by
  rw [← V_gq m c j ⟨x.1, by omega⟩]
  unfold iblk
  change V m c main_v3 _ = V m c main_v3 _
  generalize V m c main_v3 = A
  blk_ext! [idx4 t]

theorem gk_apply (t : Fin cfg0.N) (j : Fin 64) (x : Fin 256) : iblk m c 5 t (ix2 j x) = (args m c).gk (ix1 j) := by
  rw [← V_gk m c j ⟨x.1, by omega⟩]
  unfold iblk
  change V m c main_v5 _ = V m c main_v5 _
  generalize V m c main_v5 = A
  blk_ext! [idx5 t]

/-- A block's product is the projection's. -/
theorem p_eq (t : Fin cfg0.N) (x : Fin 256) (n : Fin 2560) :
    pV (iblk m c 0 t) (iblk m c 1 t) (iblk m c 2 t) (iblk m c 3 t) (ix2 x n) = (args m c).prod (bat t) (posOf t x) n := by
  refine (pV_apply _ _ _ _ x n).trans ?_
  simp only [h_apply, md_apply, g_apply, w_apply]
  rfl

/-- So the blocks the body leaves are the projection's. -/
theorem blk_q (t : Fin cfg0.N) (r : Fin 1024) (x : Fin 256) :
    out0_6 (iblk m c 0 t) (iblk m c 1 t) (iblk m c 2 t) (iblk m c 3 t) (iblk m c 4 t) (iblk m c 5 t) (ix3 0 r x)
      = (args m c).qAt (bat t) r (posOf t x) := by
  refine (congrFun (out_q _ _ _ _ _ _) _).trans ?_
  refine (qo_apply _ r x).trans ((qn_apply _ _ _ _ x).trans ?_)
  obtain ⟨s, hs, h1, h2⟩ := KI.scale_eq
  simp only [q3_apply, p_eq, gq_apply, h1]
  rw [KI.normed_mul]
  unfold Base.qAt
  rw [h2]
  rfl

theorem blk_k (t : Fin cfg0.N) (x : Fin 256) (r : Fin 256) :
    out0_7 (iblk m c 0 t) (iblk m c 1 t) (iblk m c 2 t) (iblk m c 3 t) (iblk m c 4 t) (iblk m c 5 t) (ix3 0 x r)
      = (args m c).kAt (bat t) (posOf t x) r := by
  refine (congrFun (out_k _ _ _ _ _ _) _).trans ?_
  refine (ko_apply _ x r).trans ((kn_apply _ _ _ _ x).trans ?_)
  simp only [k3_apply, p_eq, gk_apply]
  rfl

theorem blk_v (t : Fin cfg0.N) (r : Fin 256) (x : Fin 256) :
    out0_8 (iblk m c 0 t) (iblk m c 1 t) (iblk m c 2 t) (iblk m c 3 t) (iblk m c 4 t) (iblk m c 5 t) (ix3 0 r x)
      = (args m c).v3 (bat t) r (posOf t x) :=
  (congrFun (out_v _ _ _ _ _ _) _).trans ((vo_apply _ r x).trans (p_eq m c t x _))

theorem blk_z (t : Fin cfg0.N) (r : Fin 1024) (x : Fin 256) :
    out0_9 (iblk m c 0 t) (iblk m c 1 t) (iblk m c 2 t) (iblk m c 3 t) (iblk m c 4 t) (iblk m c 5 t) (ix3 0 r x)
      = (args m c).z3 (bat t) r (posOf t x) :=
  (congrFun (out_z _ _ _ _ _ _) _).trans ((zo_apply _ r x).trans (congrArg gate ((z2_apply _ x r).trans (p_eq m c t x _))))

theorem blk_kc (t : Fin cfg0.N) (x : Fin 256) (r : Fin 256) :
    out0_10 (iblk m c 0 t) (iblk m c 1 t) (iblk m c 2 t) (iblk m c 3 t) (iblk m c 4 t) (iblk m c 5 t) (ix3 0 x r)
      = (args m c).kAt (bat t) (posOf t x) r := by
  refine (congrFun (out_kc _ _ _ _ _ _) _).trans ?_
  refine (kc_apply _ x r).trans ((ko_apply _ x r).symm.trans ?_)
  exact (congrFun (out_k _ _ _ _ _ _) _).symm.trans (blk_k m c t x r)

theorem blk_vc (t : Fin cfg0.N) (x : Fin 256) (r : Fin 256) :
    out0_11 (iblk m c 0 t) (iblk m c 1 t) (iblk m c 2 t) (iblk m c 3 t) (iblk m c 4 t) (iblk m c 5 t) (ix3 0 x r)
      = (args m c).v3 (bat t) r (posOf t x) :=
  (congrFun (out_vc _ _ _ _ _ _) _).trans ((vc_apply _ x r).trans (p_eq m c t x _))

/-- Every block of a result is some point's. -/
theorem surj6 (β : Fin 3 → ℕ) (h0 : β 0 < 16) (h1 : β 1 < 1) (h2 : β 2 < 1) : ∃ i : grid0.Coords, ∀ a, cc0_transform_6 i a = β a := by
  refine ⟨fun | ⟨0, _⟩ => ⟨β 0, h0⟩ | ⟨1, _⟩ => ⟨β 2, h2⟩, fun a => ?_⟩
  unfold cc0_transform_6
  fin_cases a
  · change (BitVec.ofNat 32 (β 0)).toNat = _; simp; omega
  · change 0 = β 1; omega
  · change (BitVec.ofNat 32 (β 2)).toNat = _; simp; omega

theorem surj7 (β : Fin 3 → ℕ) (h0 : β 0 < 16) (h1 : β 1 < 1) (h2 : β 2 < 1) : ∃ i : grid0.Coords, ∀ a, cc0_transform_7 i a = β a := by
  refine ⟨fun | ⟨0, _⟩ => ⟨β 0, h0⟩ | ⟨1, _⟩ => ⟨β 1, h1⟩, fun a => ?_⟩
  unfold cc0_transform_7
  fin_cases a
  · change (BitVec.ofNat 32 (β 0)).toNat = _; simp; omega
  · change (BitVec.ofNat 32 (β 1)).toNat = _; simp; omega
  · change 0 = β 2; omega

/-- The arrays of the results after the launch. -/
theorem final_q : (dats m 0 c).arrAt 6 cfg0.N = (args m c).q := by
  refine (dats m 0 c).arrAt_eq_of_covers 6 _ ((cfg0.win 6).covers_of_indexMap_surj rfl (by decide) fun β =>
    surj6 (fun a => (β a : ℕ)) (β 0).2 (β 1).2 (β 2).2) fun t hf y => ?_
  blk_simp
  rw [after0_6]
  obtain ⟨a, r, x, rfl⟩ : ∃ (a : Fin 1) (r : Fin 1024) (x : Fin 256), y = ix3 a r x := ⟨y 0, y 1, y 2, by funext a; fin_cases a <;> rfl⟩
  rw [Subsingleton.elim a 0]
  refine (blk_q m c t r x).trans ?_
  unfold Base.q bat posOf
  congr 1
  all_goals
    apply Fin.ext
    blk_simp [idx6 t]
  · rfl
  · change 256 * _ + _ = _; omega

theorem final_k : (dats m 0 c).arrAt 7 cfg0.N = (args m c).k := by
  refine (dats m 0 c).arrAt_eq_of_covers 7 _ ((cfg0.win 7).covers_of_indexMap_surj rfl (by decide) fun β =>
    surj7 (fun a => (β a : ℕ)) (β 0).2 (β 1).2 (β 2).2) fun t hf y => ?_
  blk_simp
  rw [after0_7]
  obtain ⟨a, x, r, rfl⟩ : ∃ (a : Fin 1) (x : Fin 256) (r : Fin 256), y = ix3 a x r := ⟨y 0, y 1, y 2, by funext a; fin_cases a <;> rfl⟩
  rw [Subsingleton.elim a 0]
  refine (blk_k m c t x r).trans ?_
  unfold Base.k bat posOf
  congr 1
  all_goals
    apply Fin.ext
    blk_simp [idx7 t]
  · rfl
  · change 256 * _ + _ = _; omega

theorem final_v : (dats m 0 c).arrAt 8 cfg0.N = (args m c).v := by
  refine (dats m 0 c).arrAt_eq_of_covers 8 _ ((cfg0.win 8).covers_of_indexMap_surj rfl (by decide) fun β =>
    surj6 (fun a => (β a : ℕ)) (β 0).2 (β 1).2 (β 2).2) fun t hf y => ?_
  blk_simp
  rw [after0_8]
  obtain ⟨a, r, x, rfl⟩ : ∃ (a : Fin 1) (r : Fin 256) (x : Fin 256), y = ix3 a r x := ⟨y 0, y 1, y 2, by funext a; fin_cases a <;> rfl⟩
  rw [Subsingleton.elim a 0]
  refine (blk_v m c t r x).trans ?_
  unfold Base.v bat posOf
  congr 1
  all_goals
    apply Fin.ext
    blk_simp [idx8 t]
  · rfl
  · change 256 * _ + _ = _; omega

theorem final_z : (dats m 0 c).arrAt 9 cfg0.N = (args m c).z := by
  refine (dats m 0 c).arrAt_eq_of_covers 9 _ ((cfg0.win 9).covers_of_indexMap_surj rfl (by decide) fun β =>
    surj6 (fun a => (β a : ℕ)) (β 0).2 (β 1).2 (β 2).2) fun t hf y => ?_
  blk_simp
  rw [after0_9]
  obtain ⟨a, r, x, rfl⟩ : ∃ (a : Fin 1) (r : Fin 1024) (x : Fin 256), y = ix3 a r x := ⟨y 0, y 1, y 2, by funext a; fin_cases a <;> rfl⟩
  rw [Subsingleton.elim a 0]
  refine (blk_z m c t r x).trans ?_
  unfold Base.z bat posOf
  congr 1
  all_goals
    apply Fin.ext
    blk_simp [idx9 t]
  · rfl
  · change 256 * _ + _ = _; omega

theorem final_kc : (dats m 0 c).arrAt 10 cfg0.N = (args m c).kc := by
  refine (dats m 0 c).arrAt_eq_of_covers 10 _ ((cfg0.win 10).covers_of_indexMap_surj rfl (by decide) fun β =>
    surj7 (fun a => (β a : ℕ)) (β 0).2 (β 1).2 (β 2).2) fun t hf y => ?_
  blk_simp
  rw [after0_10]
  obtain ⟨a, x, r, rfl⟩ : ∃ (a : Fin 1) (x : Fin 256) (r : Fin 256), y = ix3 a x r := ⟨y 0, y 1, y 2, by funext a; fin_cases a <;> rfl⟩
  rw [Subsingleton.elim a 0]
  refine (blk_kc m c t x r).trans ?_
  unfold Base.kc bat posOf
  congr 1
  all_goals
    apply Fin.ext
    blk_simp [idx10 t]
  · rfl
  · change 256 * _ + _ = _; omega

theorem final_vc : (dats m 0 c).arrAt 11 cfg0.N = (args m c).vc := by
  refine (dats m 0 c).arrAt_eq_of_covers 11 _ ((cfg0.win 11).covers_of_indexMap_surj rfl (by decide) fun β =>
    surj7 (fun a => (β a : ℕ)) (β 0).2 (β 1).2 (β 2).2) fun t hf y => ?_
  blk_simp
  rw [after0_11]
  obtain ⟨a, x, r, rfl⟩ : ∃ (a : Fin 1) (x : Fin 256) (r : Fin 256), y = ix3 a x r := ⟨y 0, y 1, y 2, by funext a; fin_cases a <;> rfl⟩
  rw [Subsingleton.elim a 0]
  refine (blk_vc m c t x r).trans ?_
  unfold Base.vc bat posOf
  congr 1
  all_goals
    apply Fin.ext
    blk_simp [idx11 t]
  · rfl
  · change 256 * _ + _ = _; omega

end In.CtxKI
end
-- ==== Proof.InCtx.RefValue.lean ====
/-
  The reference's results for the context's tokens, read at an index.
-/
module

public import proofs.«01_k».proof.Proof.In.Spec
public import proofs.«01_k».proof.Proof.Out.Spec
public import proofs.«01_k».proof.Proof.Gen.Reference4Ideal.Run
public import Idealize.ShloMosaic.Lib.Tactic.CleanTypes

@[expose] public section

noncomputable section

namespace In.CtxR

open Cert.Reference4Ideal Cert.Reference4Ideal.Gen
open Idealize.ShloMosaic Idealize.ShloMosaic.TcCoe

variable (A : Base 16 256) (md : FVec Ideal S1x3x1024 .f32)

/-- One over the root mean square at every position, -/
def irmsV (y : FVec Ideal S16x256x1024 .f32) : FVec Ideal S16x256x1 .f32 :=
  Host.rsqrt (addf (Host.divf (broadcastInDim S16x256x1 ![0, 1] bcast_S16x256_S16x256x1_0_1 (Host.reduceAdd (mulf y y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))

/-- what the weights multiply, -/
def uV (r : FVec Ideal S16x256x1 .f32) : FVec Ideal S16x256x1024 .f32 :=
  addf (mulf (mulf (mulf A.h (broadcastInDim S16x256x1024 ![0, 1, 2] bcast_S16x256x1_S16x256x1024_0_1_2 r)) (broadcastInDim S16x256x1024 ![0, 1, 2] bcast_S1x1x1024_S16x256x1024_0_1_2 (broadcastInDim S1x1x1024 ![2] bcast_S1024_S1x1x1024_2 A.g))) (broadcastInDim S16x256x1024 ![0, 1, 2] bcast_S1x1x1024_S16x256x1024_0_1_2 (broadcastInDim S1x1x1024 ![2] bcast_S1024_S1x1x1024_2 (addf (broadcastInDim S1024 ![] bcast_S_S1024 (constant S_ .f32 0x3F800000#32)) (shapeCast S1024 (extractStridedSlice S1x1x1024 ![0, 1, 0] md slices_S1x3x1024_S1x1x1024_0_1_0) shapeCasts_S1x1x1024_S1024))))) (broadcastInDim S16x256x1024 ![0, 1, 2] bcast_S1x1x1024_S16x256x1024_0_1_2 (broadcastInDim S1x1x1024 ![2] bcast_S1024_S1x1x1024_2 (shapeCast S1024 (extractStridedSlice S1x1x1024 ![0, 0, 0] md slices_S1x3x1024_S1x1x1024_0_0_0) shapeCasts_S1x1x1024_S1024)))

/-- and the product. -/
def prodV (u : FVec Ideal S16x256x1024 .f32) : FVec Ideal S16x256x2560 .f32 :=
  Host.dotGeneral dot_S16x256x1024_S1024x2560_S16x256x2560_2_0_01_1_n_n none u A.w

/-- The queries by heads, -/
def q4 (p : FVec Ideal S16x256x2560 .f32) : FVec Ideal S16x256x16x64 .f32 :=
  shapeCast S16x256x16x64 (extractStridedSlice S16x256x1024 ![0, 0, 0] p slices_S16x256x2560_S16x256x1024_0_0_0) shapeCasts_S16x256x1024_S16x256x16x64

/-- over their root mean square, -/
def qn (x : FVec Ideal S16x256x16x64 .f32) : FVec Ideal S16x256x16x64 .f32 :=
  mulf (mulf x (broadcastInDim S16x256x16x64 ![0, 1, 2, 3] bcast_S16x256x16x1_S16x256x16x64_0_1_2_3 (Host.rsqrt (addf (Host.divf (broadcastInDim S16x256x16x1 ![0, 1, 2] bcast_S16x256x16_S16x256x16x1_0_1_2 (Host.reduceAdd (mulf x x) (constant S_ .f32 0x00000000#32) reducesTo_S16x256x16x64_S16x256x16_d3 h_S_)) (broadcastInDim S16x256x16x1 ![] bcast_S_S16x256x16x1 (constant S_ .f32 0x42800000#32))) (broadcastInDim S16x256x16x1 ![] bcast_S_S16x256x16x1 (constant S_ .f32 0x358637BD#32)))))) (broadcastInDim S16x256x16x64 ![0, 1, 2, 3] bcast_S1x1x1x64_S16x256x16x64_0_1_2_3 (broadcastInDim S1x1x1x64 ![3] bcast_S64_S1x1x1x64_3 A.gq))

/-- and scaled. -/
def qo (y : FVec Ideal S16x256x16x64 .f32) : FVec Ideal S16x1024x256 .bf16 :=
  truncf .bf16 (transpose S16x1024x256 [0, 2, 1] (shapeCast S16x256x1024 (mulf (mulf y (broadcastInDim S16x256x16x64 ![] bcast_S_S16x256x16x64 (constant S_ .f32 0x3E000000#32))) (broadcastInDim S16x256x16x64 ![] bcast_S_S16x256x16x64 (constant S_ .f32 0x3FB8AA3B#32))) shapeCasts_S16x256x16x64_S16x256x1024) transposes_S16x256x1024_S16x1024x256_0_2_1 : FVec Ideal S16x1024x256 .f32) bitsLt_bf16_f32

/-- The keys likewise. -/
def k4 (p : FVec Ideal S16x256x2560 .f32) : FVec Ideal S16x256x4x64 .f32 :=
  shapeCast S16x256x4x64 (extractStridedSlice S16x256x256 ![0, 0, 1024] p slices_S16x256x2560_S16x256x256_0_0_1024) shapeCasts_S16x256x256_S16x256x4x64

def kn (x : FVec Ideal S16x256x4x64 .f32) : FVec Ideal S16x256x4x64 .f32 :=
  mulf (mulf x (broadcastInDim S16x256x4x64 ![0, 1, 2, 3] bcast_S16x256x4x1_S16x256x4x64_0_1_2_3 (Host.rsqrt (addf (Host.divf (broadcastInDim S16x256x4x1 ![0, 1, 2] bcast_S16x256x4_S16x256x4x1_0_1_2 (Host.reduceAdd (mulf x x) (constant S_ .f32 0x00000000#32) reducesTo_S16x256x4x64_S16x256x4_d3 h_S_)) (broadcastInDim S16x256x4x1 ![] bcast_S_S16x256x4x1 (constant S_ .f32 0x42800000#32))) (broadcastInDim S16x256x4x1 ![] bcast_S_S16x256x4x1 (constant S_ .f32 0x358637BD#32)))))) (broadcastInDim S16x256x4x64 ![0, 1, 2, 3] bcast_S1x1x1x64_S16x256x4x64_0_1_2_3 (broadcastInDim S1x1x1x64 ![3] bcast_S64_S1x1x1x64_3 A.gk))

def ko (y : FVec Ideal S16x256x4x64 .f32) : FVec Ideal S16x256x256 .bf16 :=
  truncf .bf16 (shapeCast S16x256x256 y shapeCasts_S16x256x4x64_S16x256x256 : FVec Ideal S16x256x256 .f32) bitsLt_bf16_f32

/-- The keys as the cache holds them, -/
def kc (y : FVec Ideal S16x256x4x64 .f32) : FVec Ideal S16x256x256 .f32 :=
  shapeCast S16x256x256 y shapeCasts_S16x256x4x64_S16x256x256

/-- and its values. -/
def vc (p : FVec Ideal S16x256x2560 .f32) : FVec Ideal S16x256x256 .f32 :=
  extractStridedSlice S16x256x256 ![0, 0, 1280] p slices_S16x256x2560_S16x256x256_0_0_1280

/-- The values by columns, -/
def vo (p : FVec Ideal S16x256x2560 .f32) : FVec Ideal S16x256x256 .bf16 :=
  truncf .bf16 (transpose S16x256x256 [0, 2, 1] (extractStridedSlice S16x256x256 ![0, 0, 1280] p slices_S16x256x2560_S16x256x256_0_0_1280) transposes_S16x256x256_S16x256x256_0_2_1 : FVec Ideal S16x256x256 .f32) bitsLt_bf16_f32

/-- the gate's columns, and the gate. -/
def z4 (p : FVec Ideal S16x256x2560 .f32) : FVec Ideal S16x256x1024 .f32 :=
  extractStridedSlice S16x256x1024 ![0, 0, 1536] p slices_S16x256x2560_S16x256x1024_0_0_1536

def zo (x : FVec Ideal S16x256x1024 .f32) : FVec Ideal S16x1024x256 .bf16 :=
  truncf .bf16 (transpose S16x1024x256 [0, 2, 1] (mulf x (Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf x))))) transposes_S16x256x1024_S16x1024x256_0_2_1 : FVec Ideal S16x1024x256 .f32) bitsLt_bf16_f32

/-- The product of the arguments. -/
def p : FVec Ideal S16x256x2560 .f32 := prodV A (uV A md (irmsV A.h))

theorem irmsV_apply (y : FVec Ideal S16x256x1024 .f32) (b : Fin 16) (t : Fin 256) (u : Fin 1) :
    irmsV y (ix3 b t u) = irms fun n => y (ix3 b t n) := by
  unfold irmsV irms
  clean_types
  pointwise

theorem uV_apply (r : FVec Ideal S16x256x1 .f32) (b : Fin 16) (t : Fin 256) (d : Fin 1024) :
    uV A md r (ix3 b t d) = A.h (ix3 b t d) * r (ix3 b t 0) * A.g (ix1 d) * (1 + md (ix3 0 1 d)) + md (ix3 0 0 d) := by
  unfold uV
  pointwise

theorem prodV_apply (u : FVec Ideal S16x256x1024 .f32) (b : Fin 16) (t : Fin 256) (n : Fin 2560) :
    prodV A u (ix3 b t n) = ∑ d : Fin 1024, u (ix3 b t d) * A.w (ix2 d n) := by
  unfold prodV
  clean_types
  pointwise

theorem p_apply (hmd : A.md = Out.shared md) (b : Fin 16) (t : Fin 256) (n : Fin 2560) : p A md (ix3 b t n) = A.prod b t n := by
  unfold p
  rw [prodV_apply]
  simp only [uV_apply, irmsV_apply]
  unfold Base.prod Base.u
  rw [hmd]
  rfl

theorem q4_apply (p : FVec Ideal S16x256x2560 .f32) (b : Fin 16) (t : Fin 256) (i : Fin 16) (j : Fin 64) :
    q4 p (ix4 b t i j) = p (ix3 b t ⟨i.1 * 64 + j.1, by omega⟩) := by
  unfold q4
  pointwise

theorem qn_apply (x : FVec Ideal S16x256x16x64 .f32) (b : Fin 16) (t : Fin 256) (i : Fin 16) (j : Fin 64) :
    qn A x (ix4 b t i j) = normed (fun j => x (ix4 b t i j)) (fun j => A.gq (ix1 j)) j := by
  unfold qn normed hirms
  clean_types
  pointwise

theorem qo_apply (y : FVec Ideal S16x256x16x64 .f32) (b : Fin 16) (r : Fin 1024) (t : Fin 256) :
    qo y (ix3 b r t) = y (ix4 b t ⟨r.1 / 64, by omega⟩ ⟨r.1 % 64, by omega⟩) * Ideal.ofBits .f32 0x3E000000#32 * Ideal.ofBits .f32 0x3FB8AA3B#32 := by
  unfold qo
  pointwise

theorem k4_apply (p : FVec Ideal S16x256x2560 .f32) (b : Fin 16) (t : Fin 256) (i : Fin 4) (j : Fin 64) :
    k4 p (ix4 b t i j) = p (ix3 b t ⟨1024 + (i.1 * 64 + j.1), by omega⟩) := by
  unfold k4
  pointwise

theorem kn_apply (x : FVec Ideal S16x256x4x64 .f32) (b : Fin 16) (t : Fin 256) (i : Fin 4) (j : Fin 64) :
    kn A x (ix4 b t i j) = normed (fun j => x (ix4 b t i j)) (fun j => A.gk (ix1 j)) j := by
  unfold kn normed hirms
  clean_types
  pointwise

theorem ko_apply (y : FVec Ideal S16x256x4x64 .f32) (b : Fin 16) (t : Fin 256) (r : Fin 256) :
    ko y (ix3 b t r) = y (ix4 b t ⟨r.1 / 64, by omega⟩ ⟨r.1 % 64, by omega⟩) := by
  unfold ko
  pointwise

theorem kc_apply (y : FVec Ideal S16x256x4x64 .f32) (b : Fin 16) (t : Fin 256) (r : Fin 256) :
    kc y (ix3 b t r) = y (ix4 b t ⟨r.1 / 64, by omega⟩ ⟨r.1 % 64, by omega⟩) := by
  unfold kc
  pointwise

theorem vc_apply (p : FVec Ideal S16x256x2560 .f32) (b : Fin 16) (t : Fin 256) (r : Fin 256) :
    vc p (ix3 b t r) = p (ix3 b t ⟨1280 + r.1, by omega⟩) := by
  unfold vc
  pointwise

theorem vo_apply (p : FVec Ideal S16x256x2560 .f32) (b : Fin 16) (r : Fin 256) (t : Fin 256) :
    vo p (ix3 b r t) = p (ix3 b t ⟨1280 + r.1, by omega⟩) := by
  unfold vo
  pointwise

theorem z4_apply (p : FVec Ideal S16x256x2560 .f32) (b : Fin 16) (t : Fin 256) (r : Fin 1024) :
    z4 p (ix3 b t r) = p (ix3 b t ⟨1536 + r.1, by omega⟩) := by
  unfold z4
  pointwise

theorem zo_apply (x : FVec Ideal S16x256x1024 .f32) (b : Fin 16) (r : Fin 1024) (t : Fin 256) :
    zo x (ix3 b r t) = gate (x (ix3 b t r)) := by
  unfold zo gate
  pointwise

/-- Values and gate are the projection's, -/
theorem v_eq (hmd : A.md = Out.shared md) : vo (p A md) = A.v := by
  funext i
  obtain ⟨b, r, t, rfl⟩ : ∃ (b : Fin 16) (r : Fin 256) (t : Fin 256), i = ix3 b r t :=
    ⟨i 0, i 1, i 2, by funext a; fin_cases a <;> rfl⟩
  rw [vo_apply, p_apply A md hmd]
  rfl

theorem z_eq (hmd : A.md = Out.shared md) : zo (z4 (p A md)) = A.z := by
  funext i
  obtain ⟨b, r, t, rfl⟩ : ∃ (b : Fin 16) (r : Fin 1024) (t : Fin 256), i = ix3 b r t :=
    ⟨i 0, i 1, i 2, by funext a; fin_cases a <;> rfl⟩
  rw [zo_apply, z4_apply, p_apply A md hmd]
  rfl

/-- and so are queries and keys, -/
theorem q_eq (hmd : A.md = Out.shared md) : qo (qn A (q4 (p A md))) = A.q := by
  funext i
  obtain ⟨b, r, t, rfl⟩ : ∃ (b : Fin 16) (r : Fin 1024) (t : Fin 256), i = ix3 b r t :=
    ⟨i 0, i 1, i 2, by funext a; fin_cases a <;> rfl⟩
  rw [qo_apply, qn_apply]
  simp only [q4_apply, p_apply A md hmd]
  rfl

theorem k_eq (hmd : A.md = Out.shared md) : ko (kn A (k4 (p A md))) = A.k := by
  funext i
  obtain ⟨b, t, r, rfl⟩ : ∃ (b : Fin 16) (t : Fin 256) (r : Fin 256), i = ix3 b t r :=
    ⟨i 0, i 1, i 2, by funext a; fin_cases a <;> rfl⟩
  rw [ko_apply, kn_apply]
  simp only [k4_apply, p_apply A md hmd]
  rfl

/-- also in the type of the cache. -/
theorem kc_eq (hmd : A.md = Out.shared md) : kc (kn A (k4 (p A md))) = A.kc := by
  funext i
  obtain ⟨b, t, r, rfl⟩ : ∃ (b : Fin 16) (t : Fin 256) (r : Fin 256), i = ix3 b t r :=
    ⟨i 0, i 1, i 2, by funext a; fin_cases a <;> rfl⟩
  exact (kc_apply _ b t r).trans ((ko_apply _ b t r).symm.trans (congrFun (k_eq A md hmd) (ix3 b t r)))

theorem vc_eq (hmd : A.md = Out.shared md) : vc (p A md) = A.vc := by
  funext i
  obtain ⟨b, t, r, rfl⟩ : ∃ (b : Fin 16) (t : Fin 256) (r : Fin 256), i = ix3 b t r :=
    ⟨i 0, i 1, i 2, by funext a; fin_cases a <;> rfl⟩
  rw [vc_apply, p_apply A md hmd]
  rfl

variable (m : (ℓ : Loc nD τ sig) → Buf (Elt Ideal) ℓ) (c : Dev nD)

/-- The arguments on a device. -/
def args : Base 16 256 where
  h := m ((c : Thread nD τ).loc main_arg0)
  md := Out.shared (m ((c : Thread nD τ).loc main_arg1))
  g := m ((c : Thread nD τ).loc main_arg2)
  w := m ((c : Thread nD τ).loc main_arg3)
  gq := m ((c : Thread nD τ).loc main_arg4)
  gk := m ((c : Thread nD τ).loc main_arg5)

/-- The terms of queries and keys are these stages. -/
theorem res_q : Value.res_main_v66 m c = (args m c).q :=
  (show _ = qo (qn (args m c) (q4 (p (args m c) (m ((c : Thread nD τ).loc main_arg1))))) from rfl).trans (q_eq _ _ rfl)

theorem res_k : Value.res_main_v67 m c = (args m c).k :=
  (show _ = ko (kn (args m c) (k4 (p (args m c) (m ((c : Thread nD τ).loc main_arg1))))) from rfl).trans (k_eq _ _ rfl)

theorem res_kc : Value.res_main_v63 m c = (args m c).kc :=
  (show _ = kc (kn (args m c) (k4 (p (args m c) (m ((c : Thread nD τ).loc main_arg1))))) from rfl).trans (kc_eq _ _ rfl)

end In.CtxR
end
-- ==== Proof.InPlain.ArrayKI.lean ====
/-
  What the launch without positions leaves in the arrays of its four results: the input projection of the arguments. Its
  body is that of the launch with positions without the turning.
-/
module

public import proofs.«01_k».proof.Proof.In.BlockKI
public import proofs.«01_k».proof.Proof.Gen.Kernel5Ideal.Value
public import Idealize.ShloMosaic.Lib.Pipeline.Covers

@[expose] public section

noncomputable section

namespace In.PlainKI

open Cert.Kernel5Ideal Cert.Kernel5Ideal.Gen
open Idealize.ShloMosaic Idealize.ShloMosaic.TcCoe
open Idealize.ShloMosaic.Pipeline (Dat Cfg Window)

variable (h : Vec Ideal S1x512x1024 .f32) (md : Vec Ideal S1x3x1024 .f32) (g : Vec Ideal S1x1024 .f32) (w : Vec Ideal S1024x2560 .bf16)
  (gq gk : Vec Ideal S64x512 .f32)

theorem pay11_eq : k0_pay11 h md g w gq gk = KI.pV h md g w := by
  unfold k0_pay11
  rw [View.ld_unit_zero (by decide), View.ld_unit_zero (by decide), View.ld_unit_zero (by decide)]
  rfl

/-- The four blocks the body leaves. -/
theorem out_q : out0_6 h md g w gq gk = KI.qo (KI.qn (KI.q3 (KI.pV h md g w)) gq) := by
  unfold out0_6
  rw [View.canon_unit_zero (by decide), pay11_eq, View.ld_unit_zero (by decide)]
  rfl

theorem out_k : out0_7 h md g w gq gk = KI.ko (KI.kn (KI.k3 (KI.pV h md g w)) gk) := by
  unfold out0_7
  rw [View.canon_unit_zero (by decide), pay11_eq, View.ld_unit_zero (by decide)]
  rfl

theorem out_v : out0_8 h md g w gq gk = KI.vo (KI.pV h md g w) := by
  unfold out0_8
  rw [View.canon_unit_zero (by decide), pay11_eq]
  rfl

theorem out_z : out0_9 h md g w gq gk = KI.zo (KI.z2 (KI.pV h md g w)) := by
  unfold out0_9
  rw [View.canon_unit_zero (by decide), View.ld_unit_zero (by decide), View.ld_unit_zero (by decide), View.ld_unit_zero (by decide)]
  rfl

variable (m : (ℓ : Loc nD τ sig) → Buf (Elt Ideal) ℓ) (c : Dev nD)

/-- The arguments on a device. -/
def args : Base 8 4096 where
  h := m ((c : Thread nD τ).loc main_arg0)
  md := m ((c : Thread nD τ).loc main_arg1)
  g := m ((c : Thread nD τ).loc main_arg2)
  w := m ((c : Thread nD τ).loc main_arg3)
  gq := m ((c : Thread nD τ).loc main_arg4)
  gk := m ((c : Thread nD τ).loc main_arg5)

/-- The gains and the weights as the launch finds them: the queries' gain with the scores' scale. -/
theorem V_gq (j : Fin 64) (t : Fin 512) : V m c main_v3 (ix2 j t) = (args m c).gq (ix1 j) * Ideal.ofBits .f32 0x3E38AA3B#32 := by
  have h : V m c main_v3 = broadcastInDim S64x512 ![0, 1] bcast_S64x1_S64x512_0_1 (broadcastInDim S64x1 ![0] bcast_S64_S64x1_0
      (mulf (m ((c : Thread nD τ).loc main_arg4) : FVec Ideal S64 .f32) (broadcastInDim S64 ![] bcast_S_S64 (constant S_ .f32 0x3E38AA3B#32) : FVec Ideal S64 .f32))) := by
    unfold V
    after_results_simp <;> rfl
  rw [h]
  unfold args
  pointwise

theorem V_gk (j : Fin 64) (t : Fin 512) : V m c main_v5 (ix2 j t) = (args m c).gk (ix1 j) := by
  have h : V m c main_v5 = broadcastInDim S64x512 ![0, 1] bcast_S64x1_S64x512_0_1 (broadcastInDim S64x1 ![0] bcast_S64_S64x1_0
      (m ((c : Thread nD τ).loc main_arg5))) := by
    unfold V
    after_results_simp <;> rfl
  rw [h]
  unfold args
  pointwise

theorem V_g (u : Fin 1) (n : Fin 1024) : V m c main_v6 (ix2 u n) = (args m c).g (ix1 n) := by
  have h : V m c main_v6 = broadcastInDim S1x1024 ![1] bcast_S1024_S1x1024_1 (m ((c : Thread nD τ).loc main_arg2)) := by
    unfold V
    after_results_simp <;> rfl
  rw [h]
  unfold args
  pointwise

theorem V_w (d : Fin 1024) (n : Fin 2560) : V m c main_v7 (ix2 d n) = (args m c).w (ix2 d n) := by
  have h : V m c main_v7 = (truncf .bf16 (m ((c : Thread nD τ).loc main_arg3) : FVec Ideal S1024x2560 .f32) bitsLt_bf16_f32 : FVec Ideal S1024x2560 .bf16) := by
    unfold V
    after_results_simp <;> rfl
  rw [h]
  rfl

theorem coord_lt (t : Fin cfg0.N) : ((grid0.coords t) 0 : ℕ) < 8 ∧ ((grid0.coords t) 1 : ℕ) < 8 :=
  ⟨((grid0.coords t) 0).2, ((grid0.coords t) 1).2⟩

/-- The windows' places at a grid point, by the point's coordinates. -/
theorem idx0 (t : Fin cfg0.N) : win0_0.index t = ![((grid0.coords t) 0 : ℕ), ((grid0.coords t) 1 : ℕ), 0] := by
  obtain ⟨h0, h1⟩ := coord_lt t
  funext a
  change cc0_transform_0 (grid0.coords t) a = _
  unfold cc0_transform_0
  fin_cases a
  · change (BitVec.ofNat 32 _).toNat = _; simp; omega
  · change (BitVec.ofNat 32 _).toNat = _; simp; omega
  · rfl

theorem idx1 (t : Fin cfg0.N) : win0_1.index t = ![((grid0.coords t) 0 : ℕ), 0, 0] := by
  obtain ⟨h0, h1⟩ := coord_lt t
  funext a
  change cc0_transform_1 (grid0.coords t) a = _
  unfold cc0_transform_1
  fin_cases a
  · change (BitVec.ofNat 32 _).toNat = _; simp; omega
  · rfl
  · rfl

theorem idx2 (t : Fin cfg0.N) : win0_2.index t = ![0, 0] := rfl
theorem idx3 (t : Fin cfg0.N) : win0_3.index t = ![0, 0] := rfl
theorem idx4 (t : Fin cfg0.N) : win0_4.index t = ![0, 0] := rfl
theorem idx5 (t : Fin cfg0.N) : win0_5.index t = ![0, 0] := rfl

theorem idx6 (t : Fin cfg0.N) : win0_6.index t = ![((grid0.coords t) 0 : ℕ), 0, ((grid0.coords t) 1 : ℕ)] := by
  obtain ⟨h0, h1⟩ := coord_lt t
  funext a
  change cc0_transform_6 (grid0.coords t) a = _
  unfold cc0_transform_6
  fin_cases a
  · change (BitVec.ofNat 32 _).toNat = _; simp; omega
  · rfl
  · change (BitVec.ofNat 32 _).toNat = _; simp; omega

theorem idx7 (t : Fin cfg0.N) : win0_7.index t = ![((grid0.coords t) 0 : ℕ), ((grid0.coords t) 1 : ℕ), 0] := idx0 t
theorem idx8 (t : Fin cfg0.N) : win0_8.index t = ![((grid0.coords t) 0 : ℕ), 0, ((grid0.coords t) 1 : ℕ)] := idx6 t
theorem idx9 (t : Fin cfg0.N) : win0_9.index t = ![((grid0.coords t) 0 : ℕ), 0, ((grid0.coords t) 1 : ℕ)] := idx6 t

/-- A point's batch, and a position of its block. -/
def bat (t : Fin cfg0.N) : Fin 8 := ⟨(grid0.coords t) 0, (coord_lt t).1⟩
def posOf (t : Fin cfg0.N) (x : Fin 512) : Fin 4096 :=
  ⟨512 * ((grid0.coords t) 1 : ℕ) + x.1, by have := (coord_lt t).2; omega⟩

theorem h_apply (t : Fin cfg0.N) (x : Fin 512) (n : Fin 1024) : iblk m c 0 t (ix3 0 x n) = (args m c).h (ix3 (bat t) (posOf t x) n) := by
  unfold bat posOf args
  blk_ext! [iblk, V_main_arg0, idx0 t]

theorem md_apply (t : Fin cfg0.N) (k : Fin 3) (n : Fin 1024) : iblk m c 1 t (ix3 0 k n) = (args m c).md (ix3 (bat t) k n) := by
  unfold bat args
  blk_ext! [iblk, V_main_arg1, idx1 t]

theorem g_apply (t : Fin cfg0.N) (n : Fin 1024) : iblk m c 2 t (ix2 0 n) = (args m c).g (ix1 n) := by
  rw [← V_g m c 0]
  unfold iblk
  change V m c main_v6 _ = V m c main_v6 _
  generalize V m c main_v6 = A
  blk_ext! [idx2 t]

theorem w_apply (t : Fin cfg0.N) (d : Fin 1024) (n : Fin 2560) : iblk m c 3 t (ix2 d n) = (args m c).w (ix2 d n) := by
  rw [← V_w]
  unfold iblk
  change V m c main_v7 _ = V m c main_v7 _
  generalize V m c main_v7 = A
  blk_ext! [idx3 t]

theorem gq_apply (t : Fin cfg0.N) (j : Fin 64) (x : Fin 512) : iblk m c 4 t (ix2 j x) = (args m c).gq (ix1 j) * Ideal.ofBits .f32 0x3E38AA3B#32 := by
  rw [← V_gq m c j x]
  unfold iblk
  change V m c main_v3 _ = V m c main_v3 _
  generalize V m c main_v3 = A
  blk_ext! [idx4 t]

theorem gk_apply (t : Fin cfg0.N) (j : Fin 64) (x : Fin 512) : iblk m c 5 t (ix2 j x) = (args m c).gk (ix1 j) := by
  rw [← V_gk m c j x]
  unfold iblk
  change V m c main_v5 _ = V m c main_v5 _
  generalize V m c main_v5 = A
  blk_ext! [idx5 t]

/-- A block's product is the projection's. -/
theorem p_eq (t : Fin cfg0.N) (x : Fin 512) (n : Fin 2560) :
    KI.pV (iblk m c 0 t) (iblk m c 1 t) (iblk m c 2 t) (iblk m c 3 t) (ix2 x n) = (args m c).prod (bat t) (posOf t x) n := by
  refine (KI.pV_apply _ _ _ _ x n).trans ?_
  simp only [h_apply, md_apply, g_apply, w_apply]
  rfl

/-- So the blocks the body leaves are the projection's. -/
theorem blk_q (t : Fin cfg0.N) (r : Fin 1024) (x : Fin 512) :
    out0_6 (iblk m c 0 t) (iblk m c 1 t) (iblk m c 2 t) (iblk m c 3 t) (iblk m c 4 t) (iblk m c 5 t) (ix3 0 r x)
      = (args m c).qAt (bat t) r (posOf t x) := by
  refine (congrFun (out_q _ _ _ _ _ _) _).trans ?_
  refine (KI.qo_apply _ r x).trans ((KI.qn_apply _ _ _ _ x).trans ?_)
  obtain ⟨s, hs, h1, h2⟩ := KI.scale_eq
  simp only [KI.q3_apply, p_eq, gq_apply, h1]
  rw [KI.normed_mul]
  unfold Base.qAt
  rw [h2]
  rfl

theorem blk_k (t : Fin cfg0.N) (x : Fin 512) (r : Fin 256) :
    out0_7 (iblk m c 0 t) (iblk m c 1 t) (iblk m c 2 t) (iblk m c 3 t) (iblk m c 4 t) (iblk m c 5 t) (ix3 0 x r)
      = (args m c).kAt (bat t) (posOf t x) r := by
  refine (congrFun (out_k _ _ _ _ _ _) _).trans ?_
  refine (KI.ko_apply _ x r).trans ((KI.kn_apply _ _ _ _ x).trans ?_)
  simp only [KI.k3_apply, p_eq, gk_apply]
  rfl

theorem blk_v (t : Fin cfg0.N) (r : Fin 256) (x : Fin 512) :
    out0_8 (iblk m c 0 t) (iblk m c 1 t) (iblk m c 2 t) (iblk m c 3 t) (iblk m c 4 t) (iblk m c 5 t) (ix3 0 r x)
      = (args m c).v3 (bat t) r (posOf t x) :=
  (congrFun (out_v _ _ _ _ _ _) _).trans ((KI.vo_apply _ r x).trans (p_eq m c t x _))

theorem blk_z (t : Fin cfg0.N) (r : Fin 1024) (x : Fin 512) :
    out0_9 (iblk m c 0 t) (iblk m c 1 t) (iblk m c 2 t) (iblk m c 3 t) (iblk m c 4 t) (iblk m c 5 t) (ix3 0 r x)
      = (args m c).z3 (bat t) r (posOf t x) :=
  (congrFun (out_z _ _ _ _ _ _) _).trans ((KI.zo_apply _ r x).trans (congrArg gate ((KI.z2_apply _ x r).trans (p_eq m c t x _))))

/-- Every block of a result is some point's. -/
theorem surj6 (β : Fin 3 → ℕ) (h0 : β 0 < 8) (h1 : β 1 < 1) (h2 : β 2 < 8) : ∃ i : grid0.Coords, ∀ a, cc0_transform_6 i a = β a := by
  refine ⟨fun | ⟨0, _⟩ => ⟨β 0, h0⟩ | ⟨1, _⟩ => ⟨β 2, h2⟩, fun a => ?_⟩
  unfold cc0_transform_6
  fin_cases a
  · change (BitVec.ofNat 32 (β 0)).toNat = _; simp; omega
  · change 0 = β 1; omega
  · change (BitVec.ofNat 32 (β 2)).toNat = _; simp; omega

theorem surj7 (β : Fin 3 → ℕ) (h0 : β 0 < 8) (h1 : β 1 < 8) (h2 : β 2 < 1) : ∃ i : grid0.Coords, ∀ a, cc0_transform_7 i a = β a := by
  refine ⟨fun | ⟨0, _⟩ => ⟨β 0, h0⟩ | ⟨1, _⟩ => ⟨β 1, h1⟩, fun a => ?_⟩
  unfold cc0_transform_7
  fin_cases a
  · change (BitVec.ofNat 32 (β 0)).toNat = _; simp; omega
  · change (BitVec.ofNat 32 (β 1)).toNat = _; simp; omega
  · change 0 = β 2; omega

/-- The arrays of the results after the launch. -/
theorem final_q : (dats m 0 c).arrAt 6 cfg0.N = (args m c).q := by
  refine (dats m 0 c).arrAt_eq_of_covers 6 _ ((cfg0.win 6).covers_of_indexMap_surj rfl (by decide) fun β =>
    surj6 (fun a => (β a : ℕ)) (β 0).2 (β 1).2 (β 2).2) fun t hf y => ?_
  blk_simp
  rw [after0_6]
  obtain ⟨a, r, x, rfl⟩ : ∃ (a : Fin 1) (r : Fin 1024) (x : Fin 512), y = ix3 a r x := ⟨y 0, y 1, y 2, by funext a; fin_cases a <;> rfl⟩
  rw [Subsingleton.elim a 0]
  refine (blk_q m c t r x).trans ?_
  unfold Base.q bat posOf
  congr 1
  all_goals
    apply Fin.ext
    blk_simp [idx6 t]
  · rfl
  · change 512 * _ + _ = _; omega

theorem final_k : (dats m 0 c).arrAt 7 cfg0.N = (args m c).k := by
  refine (dats m 0 c).arrAt_eq_of_covers 7 _ ((cfg0.win 7).covers_of_indexMap_surj rfl (by decide) fun β =>
    surj7 (fun a => (β a : ℕ)) (β 0).2 (β 1).2 (β 2).2) fun t hf y => ?_
  blk_simp
  rw [after0_7]
  obtain ⟨a, x, r, rfl⟩ : ∃ (a : Fin 1) (x : Fin 512) (r : Fin 256), y = ix3 a x r := ⟨y 0, y 1, y 2, by funext a; fin_cases a <;> rfl⟩
  rw [Subsingleton.elim a 0]
  refine (blk_k m c t x r).trans ?_
  unfold Base.k bat posOf
  congr 1
  all_goals
    apply Fin.ext
    blk_simp [idx7 t]
  · rfl
  · change 512 * _ + _ = _; omega

theorem final_v : (dats m 0 c).arrAt 8 cfg0.N = (args m c).v := by
  refine (dats m 0 c).arrAt_eq_of_covers 8 _ ((cfg0.win 8).covers_of_indexMap_surj rfl (by decide) fun β =>
    surj6 (fun a => (β a : ℕ)) (β 0).2 (β 1).2 (β 2).2) fun t hf y => ?_
  blk_simp
  rw [after0_8]
  obtain ⟨a, r, x, rfl⟩ : ∃ (a : Fin 1) (r : Fin 256) (x : Fin 512), y = ix3 a r x := ⟨y 0, y 1, y 2, by funext a; fin_cases a <;> rfl⟩
  rw [Subsingleton.elim a 0]
  refine (blk_v m c t r x).trans ?_
  unfold Base.v bat posOf
  congr 1
  all_goals
    apply Fin.ext
    blk_simp [idx8 t]
  · rfl
  · change 512 * _ + _ = _; omega

theorem final_z : (dats m 0 c).arrAt 9 cfg0.N = (args m c).z := by
  refine (dats m 0 c).arrAt_eq_of_covers 9 _ ((cfg0.win 9).covers_of_indexMap_surj rfl (by decide) fun β =>
    surj6 (fun a => (β a : ℕ)) (β 0).2 (β 1).2 (β 2).2) fun t hf y => ?_
  blk_simp
  rw [after0_9]
  obtain ⟨a, r, x, rfl⟩ : ∃ (a : Fin 1) (r : Fin 1024) (x : Fin 512), y = ix3 a r x := ⟨y 0, y 1, y 2, by funext a; fin_cases a <;> rfl⟩
  rw [Subsingleton.elim a 0]
  refine (blk_z m c t r x).trans ?_
  unfold Base.z bat posOf
  congr 1
  all_goals
    apply Fin.ext
    blk_simp [idx9 t]
  · rfl
  · change 512 * _ + _ = _; omega

end In.PlainKI
end
-- ==== Proof.InPlain.RefValue.lean ====
/-
  The results of the reference without positions: the stages of the one with positions, without the turning.
-/
module

public import proofs.«01_k».proof.Proof.In.RefValue
public import proofs.«01_k».proof.Proof.Gen.Reference5Ideal.Run

@[expose] public section

noncomputable section

namespace In.PlainR

open Cert.Reference5Ideal Cert.Reference5Ideal.Gen
open Idealize.ShloMosaic Idealize.ShloMosaic.TcCoe

variable (A : Base 8 4096)

theorem q_eq : R.qo (R.qn A (R.q4 (R.p A))) = A.q := by
  funext i
  obtain ⟨b, r, t, rfl⟩ : ∃ (b : Fin 8) (r : Fin 1024) (t : Fin 4096), i = ix3 b r t :=
    ⟨i 0, i 1, i 2, by funext a; fin_cases a <;> rfl⟩
  rw [R.qo_apply, R.qn_apply]
  simp only [R.q4_apply, R.p_apply]
  rfl

theorem k_eq : R.ko (R.kn A (R.k4 (R.p A))) = A.k := by
  funext i
  obtain ⟨b, t, r, rfl⟩ : ∃ (b : Fin 8) (t : Fin 4096) (r : Fin 256), i = ix3 b t r :=
    ⟨i 0, i 1, i 2, by funext a; fin_cases a <;> rfl⟩
  rw [R.ko_apply, R.kn_apply]
  simp only [R.k4_apply, R.p_apply]
  rfl

variable (m : (ℓ : Loc nD τ sig) → Buf (Elt Ideal) ℓ) (c : Dev nD)

/-- The arguments on a device. -/
def args : Base 8 4096 where
  h := m ((c : Thread nD τ).loc main_arg0)
  md := m ((c : Thread nD τ).loc main_arg1)
  g := m ((c : Thread nD τ).loc main_arg2)
  w := m ((c : Thread nD τ).loc main_arg3)
  gq := m ((c : Thread nD τ).loc main_arg4)
  gk := m ((c : Thread nD τ).loc main_arg5)

/-- The terms of queries and keys are the stages of queries and keys without positions. -/
theorem res_q : Value.res_main_v66 m c = (args m c).q :=
  (show _ = R.qo (R.qn (args m c) (R.q4 (R.p (args m c)))) from rfl).trans (q_eq _)

theorem res_k : Value.res_main_v67 m c = (args m c).k :=
  (show _ = R.ko (R.kn (args m c) (R.k4 (R.p (args m c)))) from rfl).trans (k_eq _)

end In.PlainR
end
-- ==== Proof.OutCtx.ArrayKI.lean ====
/-
  What the launch for the context's tokens leaves in the result's array: the output projection of the arguments, with one
  shift, scale and gate for all batches.
-/
module

public import proofs.«01_k».proof.Proof.Out.Spec
public import proofs.«01_k».proof.Proof.Gen.Kernel6Ideal.Value
public import Idealize.ShloMosaic.Lib.Pipeline.ValueKit.Point
public import Idealize.ShloMosaic.Lib.Pipeline.Covers

@[expose] public section

noncomputable section

namespace Out.CtxKI

open Cert.Kernel6Ideal Cert.Kernel6Ideal.Gen
open Idealize.ShloMosaic Idealize.ShloMosaic.TcCoe
open Idealize.ShloMosaic.Pipeline (Dat Cfg Window)

/-- The body's product, -/
def prodV (o : Vec Ideal S1x1024x256 .bf16) (w : Vec Ideal S1024x1024 .bf16) : FVec Ideal S256x1024 .f32 :=
  matmul dot_S1024x256_S1024x1024_S256x1024_0_0_1_1_n_n none (shapeCast S1024x256 o shapeCasts_S1x1024x256_S1024x256 : FVec Ideal S1024x256 .bf16)
    (shapeCast S1024x1024 w shapeCasts_S1024x1024_S1024x1024 : FVec Ideal S1024x1024 .bf16) (constant S256x1024 .f32 0x00000000#32)

/-- one over its root mean square in every row, -/
def irmsV (y : FVec Ideal S256x1024 .f32) : FVec Ideal S256x1 .f32 :=
  rsqrt (addf (divf (shapeCast S256x1 (multiReduction .add [1] S256 (mulf y y) 0x00000000#32 reduces_S256x1024_S256 (.inl rfl) rfl) shapeCasts_S256_S256x1)
    (broadcast S256x1 (Scalar.ofBits .f32 0x44800000#32))) (broadcast S256x1 (Scalar.ofBits .f32 0x358637BD#32)))

/-- and what it stores. -/
def outV (y : FVec Ideal S256x1024 .f32) (r : FVec Ideal S256x1 .f32) (g : Vec Ideal S1x1024 .f32) (h : Vec Ideal S1x256x1024 .f32) (z : Vec Ideal S1x1x1024 .f32) :
    FVec Ideal S1x256x1024 .f32 :=
  shapeCast S1x256x1024 (addf (shapeCast S256x1024 h shapeCasts_S1x256x1024_S256x1024)
    (mulf (broadcastTo S256x1024 (shapeCast S1x1024 z shapeCasts_S1x1x1024_S1x1024) broadcasts_S1x1024_S256x1024)
      (mulf (mulf y (broadcastTo S256x1024 r broadcasts_S256x1_S256x1024))
        (broadcastTo S256x1024 (shapeCast S1x1024 g shapeCasts_S1x1024_S1x1024) broadcasts_S1x1024_S256x1024)))) shapeCasts_S256x1024_S1x256x1024

theorem pay_eq (o : Vec Ideal S1x1024x256 .bf16) (w : Vec Ideal S1024x1024 .bf16) (g : Vec Ideal S1x1024 .f32) (h : Vec Ideal S1x256x1024 .f32) (z : Vec Ideal S1x1x1024 .f32) :
    k0_pay1 o w g h z = outV (prodV o w) (irmsV (prodV o w)) g h z := rfl

theorem prodV_apply (o : Vec Ideal S1x1024x256 .bf16) (w : Vec Ideal S1024x1024 .bf16) (t : Fin 256) (n : Fin 1024) :
    prodV o w (ix2 t n) = ∑ d : Fin 1024, o (ix3 0 d t) * w (ix2 d n) := by
  unfold prodV
  pointwise

theorem irmsV_apply (y : FVec Ideal S256x1024 .f32) (t : Fin 256) (u : Fin 1) :
    irmsV y (ix2 t u) = irms fun n => y (ix2 t n) := by
  unfold irmsV irms
  pointwise

theorem outV_apply (y : FVec Ideal S256x1024 .f32) (r : FVec Ideal S256x1 .f32) (g : Vec Ideal S1x1024 .f32) (h : Vec Ideal S1x256x1024 .f32) (z : Vec Ideal S1x1x1024 .f32)
    (t : Fin 256) (n : Fin 1024) : outV y r g h z (ix3 0 t n) = h (ix3 0 t n) + z (ix3 0 0 n) * (y (ix2 t n) * r (ix2 t 0) * g (ix2 0 n)) := by
  unfold outV
  pointwise

/-- The block the body leaves, at an index. -/
theorem out_apply (o : Vec Ideal S1x1024x256 .bf16) (w : Vec Ideal S1024x1024 .bf16) (h : Vec Ideal S1x256x1024 .f32)
    (z : Vec Ideal S1x3x1024 .f32) (g : Vec Ideal S1x1024 .f32) (t : Fin 256) (n : Fin 1024) :
    out0_5 o w h z g (ix3 0 t n) = h (ix3 0 t n) + z (ix3 0 2 n)
      * ((∑ d : Fin 1024, o (ix3 0 d t) * w (ix2 d n)) * irms (fun n => ∑ d : Fin 1024, o (ix3 0 d t) * w (ix2 d n)) * g (ix2 0 n)) := by
  unfold out0_5
  rw [View.canon_unit_zero (by decide), View.ld_unit_zero (by decide), View.ld_unit_zero (by decide), View.ld_unit_zero (by decide),
    View.ld_unit_zero (by decide), pay_eq, outV_apply, irmsV_apply]
  simp only [prodV_apply]
  have hz : View.ld z r0_4 (ix3 0 0 n) = z (ix3 0 2 n) := by
    rw [View.ld_unit]
    pointwise
  rw [hz]

variable (m : (ℓ : Loc nD τ sig) → Buf (Elt Ideal) ℓ) (c : Dev nD)

/-- The arguments on a device. -/
def args : Args 16 256 where
  o := m ((c : Thread nD τ).loc main_arg0)
  w := m ((c : Thread nD τ).loc main_arg1)
  h := m ((c : Thread nD τ).loc main_arg2)
  md := shared (m ((c : Thread nD τ).loc main_arg3))
  g := m ((c : Thread nD τ).loc main_arg4)

/-- The weights and the gain as the launch finds them. -/
theorem V_w (d n : Fin 1024) : V m c main_v0 (ix2 d n) = (args m c).w (ix2 d n) := by
  have h : V m c main_v0 = (truncf .bf16 (m ((c : Thread nD τ).loc main_arg1) : FVec Ideal S1024x1024 .f32) bitsLt_bf16_f32 : FVec Ideal S1024x1024 .bf16) := by
    unfold V
    after_results_simp <;> rfl
  rw [h]
  rfl

theorem V_g (u : Fin 1) (n : Fin 1024) : V m c main_v1 (ix2 u n) = (args m c).g (ix1 n) := by
  have h : V m c main_v1 = broadcastInDim S1x1024 ![1] bcast_S1024_S1x1024_1 (m ((c : Thread nD τ).loc main_arg4)) := by
    unfold V
    after_results_simp <;> rfl
  rw [h]
  unfold args
  pointwise

theorem coord_lt (t : Fin cfg0.N) : ((grid0.coords t) 0 : ℕ) < 16 ∧ ((grid0.coords t) 1 : ℕ) < 1 :=
  ⟨((grid0.coords t) 0).2, ((grid0.coords t) 1).2⟩

/-- The windows' places at a grid point, by the point's coordinates. -/
theorem idx0 (t : Fin cfg0.N) : win0_0.index t = ![((grid0.coords t) 0 : ℕ), 0, ((grid0.coords t) 1 : ℕ)] := by
  obtain ⟨h0, h1⟩ := coord_lt t
  funext a
  change cc0_transform_0 (grid0.coords t) a = _
  unfold cc0_transform_0
  fin_cases a
  · change (BitVec.ofNat 32 _).toNat = _; simp; omega
  · rfl
  · change (BitVec.ofNat 32 _).toNat = _; simp

theorem idx1 (t : Fin cfg0.N) : win0_1.index t = ![0, 0] := rfl

theorem idx2 (t : Fin cfg0.N) : win0_2.index t = ![((grid0.coords t) 0 : ℕ), ((grid0.coords t) 1 : ℕ), 0] := by
  obtain ⟨h0, h1⟩ := coord_lt t
  funext a
  change cc0_transform_2 (grid0.coords t) a = _
  unfold cc0_transform_2
  fin_cases a
  · change (BitVec.ofNat 32 _).toNat = _; simp; omega
  · change (BitVec.ofNat 32 _).toNat = _; simp
  · rfl

theorem idx3 (t : Fin cfg0.N) : win0_3.index t = ![0, 0, 0] := rfl
theorem idx4 (t : Fin cfg0.N) : win0_4.index t = ![0, 0] := rfl
theorem idx5 (t : Fin cfg0.N) : win0_5.index t = ![((grid0.coords t) 0 : ℕ), ((grid0.coords t) 1 : ℕ), 0] := idx2 t

/-- A point's batch, and a position of its block. -/
def bat (t : Fin cfg0.N) : Fin 16 := ⟨(grid0.coords t) 0, (coord_lt t).1⟩
def posOf (t : Fin cfg0.N) (x : Fin 256) : Fin 256 :=
  ⟨256 * ((grid0.coords t) 1 : ℕ) + x.1, by have := (coord_lt t).2; omega⟩

theorem o_apply (t : Fin cfg0.N) (d : Fin 1024) (x : Fin 256) : iblk m c 0 t (ix3 0 d x) = (args m c).o (ix3 (bat t) d (posOf t x)) := by
  unfold bat posOf args
  blk_ext! [iblk, V_main_arg0, idx0 t]

theorem w_apply (t : Fin cfg0.N) (d n : Fin 1024) : iblk m c 1 t (ix2 d n) = (args m c).w (ix2 d n) := by
  rw [← V_w]
  unfold iblk
  change V m c main_v0 _ = V m c main_v0 _
  generalize V m c main_v0 = A
  blk_ext! [idx1 t]

theorem h_apply (t : Fin cfg0.N) (x : Fin 256) (n : Fin 1024) : iblk m c 2 t (ix3 0 x n) = (args m c).h (ix3 (bat t) (posOf t x) n) := by
  unfold bat posOf args
  blk_ext! [iblk, V_main_arg2, idx2 t]

theorem md_apply (t : Fin cfg0.N) (k : Fin 3) (n : Fin 1024) : iblk m c 3 t (ix3 0 k n) = (args m c).md (ix3 (bat t) k n) := by
  unfold bat args shared
  blk_ext! [iblk, V_main_arg3, idx3 t]

theorem g_apply (t : Fin cfg0.N) (n : Fin 1024) : iblk m c 4 t (ix2 0 n) = (args m c).g (ix1 n) := by
  rw [← V_g m c 0]
  unfold iblk
  change V m c main_v1 _ = V m c main_v1 _
  generalize V m c main_v1 = A
  blk_ext! [idx4 t]

/-- The block the body leaves is the projection's. -/
theorem blk_eq (t : Fin cfg0.N) (x : Fin 256) (n : Fin 1024) :
    out0_5 (iblk m c 0 t) (iblk m c 1 t) (iblk m c 2 t) (iblk m c 3 t) (iblk m c 4 t) (ix3 0 x n)
      = (args m c).at3 (bat t) (posOf t x) n := by
  refine (out_apply _ _ _ _ _ x n).trans ?_
  rw [h_apply, md_apply, g_apply]
  simp only [o_apply, w_apply]
  rfl

/-- The array of the result after the launch. -/
theorem final : (dats m 0 c).arrAt 5 cfg0.N = (args m c).out := by
  refine (dats m 0 c).arrAt_eq_of_covers 5 _ ((cfg0.win 5).covers_of_indexMap_surj rfl (by decide) fun β => ?_) fun t hf y => ?_
  · have h0 : (β 0 : ℕ) < 16 := (β 0).2
    have h1 : (β 1 : ℕ) < 1 := (β 1).2
    have h2 : (β 2 : ℕ) < 1 := (β 2).2
    refine ⟨fun | ⟨0, _⟩ => ⟨β 0, h0⟩ | ⟨1, _⟩ => ⟨β 1, h1⟩, fun a => ?_⟩
    change cc0_transform_5 (fun | ⟨0, _⟩ => ⟨β 0, h0⟩ | ⟨1, _⟩ => ⟨β 1, h1⟩) a = _
    unfold cc0_transform_5
    fin_cases a
    · change (BitVec.ofNat 32 (β 0)).toNat = _; simp; omega
    · change (BitVec.ofNat 32 (β 1)).toNat = _; simp
    · change 0 = (β 2 : ℕ); omega
  · blk_simp
    rw [after0_5]
    obtain ⟨a, x, n, rfl⟩ : ∃ (a : Fin 1) (x : Fin 256) (n : Fin 1024), y = ix3 a x n := ⟨y 0, y 1, y 2, by funext a; fin_cases a <;> rfl⟩
    rw [Subsingleton.elim a 0]
    refine (blk_eq m c t x n).trans ?_
    unfold Args.out bat posOf
    congr 1
    all_goals
      apply Fin.ext
      blk_simp [idx5 t]
    · rfl
    · change 256 * _ + _ = _; omega

end Out.CtxKI
end
-- ==== Proof.OutCtx.RefValue.lean ====
/-
  The reference's result for the context's tokens, read at an index.
-/
module

public import proofs.«01_k».proof.Proof.Out.Spec
public import proofs.«01_k».proof.Proof.Gen.Reference6Ideal.Run
public import Idealize.ShloMosaic.Lib.Tactic.CleanTypes

@[expose] public section

noncomputable section

namespace Out.CtxR

open Cert.Reference6Ideal Cert.Reference6Ideal.Gen
open Idealize.ShloMosaic Idealize.ShloMosaic.TcCoe

variable (A : Args 16 256)

/-- The product, -/
def prodV : FVec Ideal S16x256x1024 .f32 :=
  Host.dotGeneral dot_S16x256x1024_S1024x1024_S16x256x1024_2_0_01_1_n_n none (extf .f32 (transpose S16x256x1024 [0, 2, 1] A.o transposes_S16x1024x256_S16x256x1024_0_2_1 : FVec Ideal S16x256x1024 .bf16) bitsLt_bf16_f32 : FVec Ideal S16x256x1024 .f32) A.w

/-- one over its root mean square at every position, -/
def irmsV (y : FVec Ideal S16x256x1024 .f32) : FVec Ideal S16x256x1 .f32 :=
  Host.rsqrt (addf (Host.divf (broadcastInDim S16x256x1 ![0, 1] bcast_S16x256_S16x256x1_0_1 (Host.reduceAdd (mulf y y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))

/-- and the layer's output. -/
def outV (md : FVec Ideal S1x3x1024 .f32) (y : FVec Ideal S16x256x1024 .f32) (r : FVec Ideal S16x256x1 .f32) : FVec Ideal S16x256x1024 .f32 :=
  addf A.h (mulf (broadcastInDim S16x256x1024 ![0, 1, 2] bcast_S1x1x1024_S16x256x1024_0_1_2 (broadcastInDim S1x1x1024 ![2] bcast_S1024_S1x1x1024_2 (shapeCast S1024 (extractStridedSlice S1x1x1024 ![0, 2, 0] md slices_S1x3x1024_S1x1x1024_0_2_0) shapeCasts_S1x1x1024_S1024))) (mulf (mulf y (broadcastInDim S16x256x1024 ![0, 1, 2] bcast_S16x256x1_S16x256x1024_0_1_2 r)) (broadcastInDim S16x256x1024 ![0, 1, 2] bcast_S1x1x1024_S16x256x1024_0_1_2 (broadcastInDim S1x1x1024 ![2] bcast_S1024_S1x1x1024_2 A.g))))

theorem prodV_apply (b : Fin 16) (t : Fin 256) (n : Fin 1024) : prodV A (ix3 b t n) = A.prod b t n := by
  unfold prodV Args.prod
  clean_types
  pointwise

theorem irmsV_apply (y : FVec Ideal S16x256x1024 .f32) (b : Fin 16) (t : Fin 256) (u : Fin 1) :
    irmsV y (ix3 b t u) = irms fun n => y (ix3 b t n) := by
  unfold irmsV irms
  clean_types
  pointwise

theorem outV_apply (md : FVec Ideal S1x3x1024 .f32) (y : FVec Ideal S16x256x1024 .f32) (r : FVec Ideal S16x256x1 .f32) (b : Fin 16) (t : Fin 256)
    (n : Fin 1024) : outV A md y r (ix3 b t n)
      = A.h (ix3 b t n) + md (ix3 0 2 n) * (y (ix3 b t n) * r (ix3 b t 0) * A.g (ix1 n)) := by
  unfold outV
  pointwise

/-- The reference's result is the projection of the arguments. -/
theorem out_eq (md : FVec Ideal S1x3x1024 .f32) (hmd : A.md = shared md) : outV A md (prodV A) (irmsV (prodV A)) = A.out := by
  funext i
  obtain ⟨b, t, n, rfl⟩ : ∃ (b : Fin 16) (t : Fin 256) (n : Fin 1024), i = ix3 b t n :=
    ⟨i 0, i 1, i 2, by funext a; fin_cases a <;> rfl⟩
  rw [outV_apply, irmsV_apply]
  simp only [prodV_apply]
  unfold Args.out Args.at3
  rw [hmd]
  rfl

variable (m : (ℓ : Loc nD τ sig) → Buf (Elt Ideal) ℓ) (c : Dev nD)

/-- The arguments on a device. -/
def args : Args 16 256 where
  o := m ((c : Thread nD τ).loc main_arg0)
  w := m ((c : Thread nD τ).loc main_arg1)
  h := m ((c : Thread nD τ).loc main_arg2)
  md := shared (m ((c : Thread nD τ).loc main_arg3))
  g := m ((c : Thread nD τ).loc main_arg4)

end Out.CtxR
end
-- ==== Proof.Mod.Spec.lean ====
/-
  The modulation both programs compute, over the extended reals: at layer `l`, conditioning row `b` and column `n` the
  row's numbers, each through `x / (1 + e^(-x))`, times the layer's weights, plus the layer's offset. A layer's 3072
  columns are its shift, its scale and its gate.
-/
module

public import proofs.«01_k».proof.Proof.In.Spec

@[expose] public section

noncomputable section

namespace Mod

open Idealize.ShloMosaic

/-- The arguments: the conditioning rows, the weights and the offsets. -/
structure Args where
  x : FVec Ideal ⟨2, ![16, 1024]⟩ .f32
  w : FVec Ideal ⟨3, ![4, 1024, 3072]⟩ .f32
  b : FVec Ideal ⟨2, ![4, 3072]⟩ .f32

namespace Args
variable (A : Args)

/-- The modulation at an index, -/
def at3 (l : Fin 4) (b : Fin 16) (n : Fin 3072) : EReal :=
  (∑ d : Fin 1024, In.gate (A.x (ix2 b d)) * A.w (ix3 l d n)) + A.b (ix2 l n)

/-- and whole. -/
def out : FVec Ideal ⟨3, ![4, 16, 3072]⟩ .f32 := fun i => A.at3 (i 0) (i 1) (i 2)

end Args
end Mod
end
-- ==== Proof.Mod.ArrayKI.lean ====
/-
  What the launch of the modulation leaves in the result's array.
-/
module

public import proofs.«01_k».proof.Proof.Mod.Spec
public import proofs.«01_k».proof.Proof.Gen.Kernel7Ideal.Value
public import Idealize.ShloMosaic.Lib.Pipeline.ValueKit.Point
public import Idealize.ShloMosaic.Lib.Pipeline.Covers

@[expose] public section

noncomputable section

namespace Mod.KI

open Cert.Kernel7Ideal Cert.Kernel7Ideal.Gen
open Idealize.ShloMosaic Idealize.ShloMosaic.TcCoe
open Idealize.ShloMosaic.Pipeline (Dat Cfg Window)

/-- The conditioning through its gate, -/
def siluV (x : Vec Ideal S16x1024 .f32) : FVec Ideal S16x1024 .f32 :=
  mulf x (divf (broadcast S16x1024 (Scalar.ofBits .f32 0x3F800000#32))
    (addf (broadcast S16x1024 (Scalar.ofBits .f32 0x3F800000#32)) (exp (subf (broadcast S16x1024 (Scalar.ofBits .f32 0x00000000#32)) x))))

/-- and what the body stores: the product with a block of the weights, and the offset. -/
def outV (a : FVec Ideal S16x1024 .f32) (w : Vec Ideal S1x1024x1024 .f32) (b : Vec Ideal S1x1x1024 .f32) : FVec Ideal S1x16x1024 .f32 :=
  shapeCast S1x16x1024 (addf (matmul dot_S16x1024_S1024x1024_S16x1024_1_0_0_1_n_n (some .fp32) a
      (shapeCast S1024x1024 w shapeCasts_S1x1024x1024_S1024x1024 : FVec Ideal S1024x1024 .f32) (constant S16x1024 .f32 0x00000000#32))
    (broadcastTo S16x1024 (shapeCast S1x1024 b shapeCasts_S1x1x1024_S1x1024) broadcasts_S1x1024_S16x1024)) shapeCasts_S16x1024_S1x16x1024

theorem pay_eq (x : Vec Ideal S16x1024 .f32) (w : Vec Ideal S1x1024x1024 .f32) (b : Vec Ideal S1x1x1024 .f32) :
    k0_pay1 x w b = outV (siluV x) w b := rfl

theorem siluV_apply (x : Vec Ideal S16x1024 .f32) (b : Fin 16) (d : Fin 1024) : siluV x (ix2 b d) = In.gate (x (ix2 b d)) := by
  unfold siluV In.gate
  pointwise
  rw [zero_sub]

theorem outV_apply (a : FVec Ideal S16x1024 .f32) (w : Vec Ideal S1x1024x1024 .f32) (z : Vec Ideal S1x1x1024 .f32) (b : Fin 16) (n : Fin 1024) :
    outV a w z (ix3 0 b n) = (∑ d : Fin 1024, a (ix2 b d) * w (ix3 0 d n)) + z (ix3 0 0 n) := by
  unfold outV
  pointwise

/-- The block the body leaves, at an index. -/
theorem out_apply (x : Vec Ideal S16x1024 .f32) (w : Vec Ideal S1x1024x1024 .f32) (z : Vec Ideal S1x1x1024 .f32) (b : Fin 16) (n : Fin 1024) :
    out0_3 x w z (ix3 0 b n) = (∑ d : Fin 1024, In.gate (x (ix2 b d)) * w (ix3 0 d n)) + z (ix3 0 0 n) := by
  unfold out0_3
  rw [View.canon_unit_zero (by decide), View.ld_unit_zero (by decide), View.ld_unit_zero (by decide), View.ld_unit_zero (by decide),
    pay_eq, outV_apply]
  simp only [siluV_apply]

variable (m : (ℓ : Loc nD τ sig) → Buf (Elt Ideal) ℓ) (c : Dev nD)

/-- The arguments on a device. -/
def args : Args where
  x := m ((c : Thread nD τ).loc main_arg0)
  w := m ((c : Thread nD τ).loc main_arg1)
  b := m ((c : Thread nD τ).loc main_arg2)

set_option maxRecDepth 20000 in
/-- The offsets as the launch finds them. -/
theorem V_b (l : Fin 4) (u : Fin 1) (n : Fin 3072) : V m c main_v0 (ix3 l u n) = (args m c).b (ix2 l n) := by
  have h : V m c main_v0 = (shapeCast S4x1x3072 (m ((c : Thread nD τ).loc main_arg2)) shapeCasts_S4x3072_S4x1x3072 : FVec Ideal S4x1x3072 .f32) := by
    unfold V
    after_results_simp <;> rfl
  rw [h]
  unfold args
  pointwise

theorem coord_lt (t : Fin cfg0.N) : ((grid0.coords t) 0 : ℕ) < 4 ∧ ((grid0.coords t) 1 : ℕ) < 3 :=
  ⟨((grid0.coords t) 0).2, ((grid0.coords t) 1).2⟩

/-- The windows' places at a grid point, by the point's coordinates. -/
theorem idx0 (t : Fin cfg0.N) : win0_0.index t = ![0, 0] := rfl

theorem idx1 (t : Fin cfg0.N) : win0_1.index t = ![((grid0.coords t) 0 : ℕ), 0, ((grid0.coords t) 1 : ℕ)] := by
  obtain ⟨h0, h1⟩ := coord_lt t
  funext a
  change cc0_transform_1 (grid0.coords t) a = _
  unfold cc0_transform_1
  fin_cases a
  · change (BitVec.ofNat 32 _).toNat = _; simp; omega
  · rfl
  · change (BitVec.ofNat 32 _).toNat = _; simp; omega

theorem idx2 (t : Fin cfg0.N) : win0_2.index t = ![((grid0.coords t) 0 : ℕ), 0, ((grid0.coords t) 1 : ℕ)] := idx1 t
theorem idx3 (t : Fin cfg0.N) : win0_3.index t = ![((grid0.coords t) 0 : ℕ), 0, ((grid0.coords t) 1 : ℕ)] := idx1 t

/-- A point's layer, and a column of its block. -/
def lay (t : Fin cfg0.N) : Fin 4 := ⟨(grid0.coords t) 0, (coord_lt t).1⟩
def colOf (t : Fin cfg0.N) (n : Fin 1024) : Fin 3072 :=
  ⟨1024 * ((grid0.coords t) 1 : ℕ) + n.1, by have := (coord_lt t).2; omega⟩

theorem x_apply (t : Fin cfg0.N) (b : Fin 16) (d : Fin 1024) : iblk m c 0 t (ix2 b d) = (args m c).x (ix2 b d) := by
  unfold args
  blk_ext! [iblk, V_main_arg0, idx0 t]

theorem w_apply (t : Fin cfg0.N) (d n : Fin 1024) : iblk m c 1 t (ix3 0 d n) = (args m c).w (ix3 (lay t) d (colOf t n)) := by
  unfold lay colOf args
  blk_ext! [iblk, V_main_arg1, idx1 t]

theorem b_apply (t : Fin cfg0.N) (n : Fin 1024) : iblk m c 2 t (ix3 0 0 n) = (args m c).b (ix2 (lay t) (colOf t n)) := by
  rw [← V_b m c _ 0]
  unfold iblk
  change V m c main_v0 _ = V m c main_v0 _
  generalize V m c main_v0 = A
  unfold lay colOf
  blk_ext! [idx2 t]

/-- The block the body leaves is the modulation's. -/
theorem blk_eq (t : Fin cfg0.N) (b : Fin 16) (n : Fin 1024) :
    out0_3 (iblk m c 0 t) (iblk m c 1 t) (iblk m c 2 t) (ix3 0 b n) = (args m c).at3 (lay t) b (colOf t n) := by
  refine (out_apply _ _ _ b n).trans ?_
  rw [b_apply]
  simp only [x_apply, w_apply]
  rfl

/-- The array of the result after the launch. -/
theorem final : (dats m 0 c).arrAt 3 cfg0.N = (args m c).out := by
  refine (dats m 0 c).arrAt_eq_of_covers 3 _ ((cfg0.win 3).covers_of_indexMap_surj rfl (by decide) fun β => ?_) fun t hf y => ?_
  · have h0 : (β 0 : ℕ) < 4 := (β 0).2
    have h1 : (β 1 : ℕ) < 1 := (β 1).2
    have h2 : (β 2 : ℕ) < 3 := (β 2).2
    refine ⟨fun | ⟨0, _⟩ => ⟨β 0, h0⟩ | ⟨1, _⟩ => ⟨β 2, h2⟩, fun a => ?_⟩
    change cc0_transform_3 (fun | ⟨0, _⟩ => ⟨β 0, h0⟩ | ⟨1, _⟩ => ⟨β 2, h2⟩) a = _
    unfold cc0_transform_3
    fin_cases a
    · change (BitVec.ofNat 32 (β 0)).toNat = _; simp; omega
    · change 0 = (β 1 : ℕ); omega
    · change (BitVec.ofNat 32 (β 2)).toNat = _; simp; omega
  · blk_simp
    rw [after0_3]
    obtain ⟨a, b, n, rfl⟩ : ∃ (a : Fin 1) (b : Fin 16) (n : Fin 1024), y = ix3 a b n := ⟨y 0, y 1, y 2, by funext a; fin_cases a <;> rfl⟩
    rw [Subsingleton.elim a 0]
    refine (blk_eq m c t b n).trans ?_
    unfold Args.out lay colOf
    congr 1
    all_goals
      apply Fin.ext
      blk_simp [idx3 t]
    · rfl
    · change 1024 * _ + _ = _; omega

end Mod.KI
end
-- ==== Proof.Mod.RefValue.lean ====
/-
  The reference's modulation, read at an index.
-/
module

public import proofs.«01_k».proof.Proof.Mod.Spec
public import proofs.«01_k».proof.Proof.Gen.Reference7Ideal.Run
public import Idealize.ShloMosaic.Lib.Tactic.CleanTypes

@[expose] public section

noncomputable section

namespace Mod.R

open Cert.Reference7Ideal Cert.Reference7Ideal.Gen
open Idealize.ShloMosaic Idealize.ShloMosaic.TcCoe

variable (A : Args)

/-- The conditioning through its gate, -/
def siluV : FVec Ideal S16x1024 .f32 :=
  mulf A.x (Host.divf (broadcastInDim S16x1024 ![] bcast_S_S16x1024 (constant S_ .f32 0x3F800000#32)) (addf (broadcastInDim S16x1024 ![] bcast_S_S16x1024 (constant S_ .f32 0x3F800000#32)) (Host.exp (Host.negf A.x))))

/-- the products with the layers' weights, -/
def prodV (a : FVec Ideal S16x1024 .f32) : FVec Ideal S4x3072x16 .f32 :=
  Host.dotGeneral dot_S4x1024x3072_S16x1024_S4x3072x16_1_1_02_0_n_n none A.w a

/-- and the sums with the offsets. -/
def outV (y : FVec Ideal S4x3072x16 .f32) : FVec Ideal S4x16x3072 .f32 :=
  addf (transpose S4x16x3072 [0, 2, 1] y transposes_S4x3072x16_S4x16x3072_0_2_1) (broadcastInDim S4x16x3072 ![0, 1, 2] bcast_S4x1x3072_S4x16x3072_0_1_2 (broadcastInDim S4x1x3072 ![0, 2] bcast_S4x3072_S4x1x3072_0_2 A.b))

theorem siluV_apply (b : Fin 16) (d : Fin 1024) : siluV A (ix2 b d) = In.gate (A.x (ix2 b d)) := by
  unfold siluV In.gate
  pointwise

theorem prodV_apply (a : FVec Ideal S16x1024 .f32) (l : Fin 4) (n : Fin 3072) (b : Fin 16) :
    prodV A a (ix3 l n b) = ∑ d : Fin 1024, A.w (ix3 l d n) * a (ix2 b d) := by
  unfold prodV
  clean_types
  pointwise

theorem outV_apply (y : FVec Ideal S4x3072x16 .f32) (l : Fin 4) (b : Fin 16) (n : Fin 3072) :
    outV A y (ix3 l b n) = y (ix3 l n b) + A.b (ix2 l n) := by
  unfold outV
  pointwise

/-- The reference's result is the modulation of the arguments. -/
theorem out_eq : outV A (prodV A (siluV A)) = A.out := by
  funext i
  obtain ⟨l, b, n, rfl⟩ : ∃ (l : Fin 4) (b : Fin 16) (n : Fin 3072), i = ix3 l b n :=
    ⟨i 0, i 1, i 2, by funext a; fin_cases a <;> rfl⟩
  rw [outV_apply, prodV_apply]
  simp only [siluV_apply]
  exact congrArg (· + A.b (ix2 l n)) (Finset.sum_congr rfl fun d _ => mul_comm _ _)

variable (m : (ℓ : Loc nD τ sig) → Buf (Elt Ideal) ℓ) (c : Dev nD)

/-- The arguments on a device. -/
def args : Args where
  x := m ((c : Thread nD τ).loc main_arg0)
  w := m ((c : Thread nD τ).loc main_arg1)
  b := m ((c : Thread nD τ).loc main_arg2)

end Mod.R
end
-- ==== Proof.DenseCtx.Head.lean ====
/-
  One head of the context's attention in a block: all 256 keys are seen at once, so the running values take one step.
-/
module

public import proofs.«01_k».proof.Proof.Dense.Read
public import proofs.«01_k».proof.Proof.Dense.Softmax

@[expose] public section

noncomputable section

namespace Dense.Ctx

open Cert.Kernel
open Idealize.ShloMosaic

section
variable {F : FTy → Type} [FloatOps F]

/-- A head's rows from its scores, its values with the ones below them, and its gate. -/
def stepV (va : FVec F S80x256 .bf16) (s : FVec F S256x256 .f32) (g : Vec F S1x64x256 .bf16) : FVec F S1x64x256 .bf16 :=
  outV (accV va m0 (maximumf m0 (maxV s)) s a0) g

/-- The rows of head `j` of eight in a block: the first four heads use the first 64 lanes of the keys and values, the
    others the last 64. -/
def headV (q : Vec F S1x512x256 .bf16) (k : Vec F S1x256x128 .bf16) (v : Vec F S1x128x256 .bf16) (g : Vec F S1x512x256 .bf16)
    (j : Fin 8) : FVec F S1x64x256 .bf16 :=
  stepV (if j.1 < 4 then augLo v else augHi v)
    (scoreV (keyV k) (if j.1 < 4 then padLo (fun i => q ((recQ j).emb i)) else padHi (fun i => q ((recQ j).emb i))))
    (fun i => g ((recQ j).emb i))
end

/-- A row of a head, when its scores are the real numbers `S`: the softmax-weighted sum of the values, times the gate. -/
theorem stepV_apply (va : FVec Ideal S80x256 .bf16) (s : FVec Ideal S256x256 .f32) (g : Vec Ideal S1x64x256 .bf16)
    (n : Fin 64) (c : Fin 256) (S : Fin 256 → ℝ) (hS : ∀ k, s (ix2 k c) = (S k : EReal)) (h1 : ∀ k, va (ix2 64 k) = 1) :
    stepV va s g (ix3 0 n c) = soft S (fun k => va (ix2 ⟨n.1, by omega⟩ k)) * g (ix3 0 n c) := by
  obtain ⟨r, hr⟩ := m0_apply c
  obtain ⟨m, hm⟩ := fold_max_real Finset.univ (fun k : Fin 256 => s (ix2 k c)) (fun k => ⟨_, hS k⟩) r
  have hM : maximumf (m0 : M Ideal) (maxV s) (ix2 0 c) = (m : EReal) := by
    change max ((m0 : M Ideal) (ix2 0 c)) (maxV s (ix2 0 c)) = m
    rw [hr, maxV_apply, hm]
  unfold stepV
  rw [outV_apply, accV_apply, accV_apply, a0_apply, a0_apply, hM]
  simp only [mul_zero, zero_add, hS, h1, ← EReal.coe_sub, Ideal.exp2_coe]
  exact congrArg (· * g (ix3 0 n c)) (soft_of_shifted S (fun k => va (ix2 ⟨n.1, by omega⟩ k)) m)

/-- Where a head's rows lie in the block. -/
theorem recQ_emb (j : Fin 8) (n : Fin 64) (c : Fin 256) : (recQ j).emb (ix3 0 n c) = ix3 0 ⟨64 * j.1 + n.1, by omega⟩ c := by
  funext a
  apply Fin.ext
  fin_cases a
  · rfl
  · change 64 * j.1 + 1 * n.1 = 64 * j.1 + n.1; omega
  · change 0 + 1 * c.1 = c.1; omega

/-- The scores of head `j` at query column `c`, as reals. -/
def headS (q : Vec Ideal S1x512x256 .bf16) (k : Vec Ideal S1x256x128 .bf16) (j : Fin 8) (c x : Fin 256) : ℝ :=
  ∑ d : Fin 64, (k (ix3 0 x ⟨64 * (j.1 / 4) + d.1, by omega⟩)).toReal * (q (ix3 0 ⟨64 * j.1 + d.1, by omega⟩ c)).toReal

/-- The rows of head `j`, with finite queries and keys. -/
theorem headV_apply (q : Vec Ideal S1x512x256 .bf16) (k : Vec Ideal S1x256x128 .bf16) (v : Vec Ideal S1x128x256 .bf16)
    (g : Vec Ideal S1x512x256 .bf16) (hq : ∀ i, q i = ((q i).toReal : EReal)) (hk : ∀ i, k i = ((k i).toReal : EReal))
    (j : Fin 8) (n : Fin 64) (c : Fin 256) : headV q k v g j (ix3 0 n c)
      = soft (headS q k j c) (fun x => v (ix3 0 ⟨64 * (j.1 / 4) + n.1, by omega⟩ x)) * g (ix3 0 ⟨64 * j.1 + n.1, by omega⟩ c) := by
  unfold headV
  by_cases hj : j.1 < 4
  · have h0 : 64 * (j.1 / 4) = 0 := by omega
    rw [if_pos hj, if_pos hj]
    refine (stepV_apply _ _ _ n c (headS q k j c) (fun x => ?_) fun x => ?_).trans ?_
    · unfold headS
      rw [scoreLo_apply, coe_sum]
      refine Finset.sum_congr rfl fun d _ => ?_
      rw [keyV_apply, recQ_emb, EReal.coe_mul, ← hk, ← hq]
      congr 3
      simp [h0]
    · rw [augLo_apply]; rfl
    · rw [recQ_emb]
      congr 2
      funext x
      rw [augLo_apply, dif_pos n.2]
      congr 2
      simp [h0]
  · have h0 : 64 * (j.1 / 4) = 64 := by omega
    rw [if_neg hj, if_neg hj]
    refine (stepV_apply _ _ _ n c (headS q k j c) (fun x => ?_) fun x => ?_).trans ?_
    · unfold headS
      rw [scoreHi_apply, coe_sum]
      refine Finset.sum_congr rfl fun d _ => ?_
      rw [keyV_apply, recQ_emb, EReal.coe_mul, ← hk, ← hq]
      congr 3
      simp [h0]
    · rw [augHi_apply]; rfl
    · rw [recQ_emb]
      congr 2
      funext x
      rw [augHi_apply, dif_pos n.2]
      congr 2
      simp [h0]

end Dense.Ctx
end
-- ==== Proof.DenseCtx.BlockKI.lean ====
/-
  What one grid point of the launch leaves in the result's block: the rows of its eight heads.
-/
module

public import proofs.«01_k».proof.Proof.DenseCtx.Head
public import proofs.«01_k».proof.Proof.Gen.Kernel8Ideal.Value
public import Idealize.ShloMosaic.Lib.WholeRead
public import Idealize.ShloMosaic.Lib.Pipeline.ReadBack
public import Idealize.ShloMosaic.Lib.Pipeline.ValueKit.Tiles

@[expose] public section

noncomputable section

namespace Dense.CtxKI

open Dense Dense.Ctx Cert.Kernel8Ideal Cert.Kernel8Ideal.Gen
open Idealize.ShloMosaic Idealize.ShloMosaic.TcCoe

/-- Eight heads' rows stored, last first: row `64 * j + n` is row `n` of head `j`. -/
theorem canon_heads {F : FTy → Type} [∀ e, Nonempty (Elt F e)] (P : Fin 8 → Vec F S1x64x256 .bf16) (r : Fin 512) (x : Fin 256) :
    View.canon (List.ofFn fun j : Fin 8 => (⟨recQ j.rev, P j.rev⟩ : View.Piece (Elt F) S1x512x256 .bf16)) (ix3 0 r x)
      = P ⟨r.1 / 64, by omega⟩ (ix3 0 ⟨r.1 % 64, by omega⟩ x) := by
  refine View.canon_ofFn_eq_of_forall (fun j : Fin 8 => recQ j.rev) (fun j => P j.rev) _ _ ⟨(⟨r.1 / 64, by omega⟩ : Fin 8).rev, ?_⟩ fun j y hy => ?_
  · have e : ix3 0 r x = (recQ (⟨r.1 / 64, by omega⟩ : Fin 8).rev.rev).emb (ix3 0 ⟨r.1 % 64, by omega⟩ x) := by
      rw [Fin.rev_rev, recQ_emb]
      congr 1
      apply Fin.ext
      change r.1 = 64 * (r.1 / 64) + r.1 % 64
      omega
    rw [e]
    exact LoadRect.idx_mem _ _
  · obtain ⟨a, n, z, rfl⟩ : ∃ (a : Fin 1) (n : Fin 64) (z : Fin 256), y = ix3 a n z := ⟨y 0, y 1, y 2, by funext a; fin_cases a <;> rfl⟩
    rw [Subsingleton.elim a 0, recQ_emb] at hy
    rw [Subsingleton.elim a 0]
    have h1 : 64 * j.rev.1 + n.1 = r.1 := congrArg Fin.val (congrFun hy 1)
    have h2 : z = x := congrFun hy 2
    have ej : j.rev = ⟨r.1 / 64, by omega⟩ := Fin.ext (by change j.rev.1 = r.1 / 64; omega)
    have en : n = ⟨r.1 % 64, by omega⟩ := Fin.ext (by change n.1 = r.1 % 64; omega)
    rw [h2, en]
    change P j.rev _ = _
    rw [ej]

section
variable {F : FTy → Type} [FloatOps F]
variable (c : Dev nD) (i : grid0.Coords) (a3 : Memref sig .tc .vmem S1x512x256 .bf16) (h3 : a3.IsWhole)
  (a4 : Memref sig .tc .vmem S1x256x128 .bf16) (h4 : a4.IsWhole) (a5 : Memref sig .tc .vmem S1x128x256 .bf16) (h5 : a5.IsWhole)
  (a6 : Memref sig .tc .vmem S1x512x256 .bf16) (h6 : a6.IsWhole) (a7 : Memref sig .tc .vmem S1x512x256 .bf16) (h7 : a7.IsWhole)
  (a8 : Memref sig .tc .vmem S2x4x256x256 .f32) (h8 : a8.IsWhole) (a9 : Memref sig .tc .vmem S2x4x1x256 .f32) (h9 : a9.IsWhole)
  (q : Vec F S1x512x256 .bf16) (k : Vec F S1x256x128 .bf16) (v : Vec F S1x128x256 .bf16) (g : Vec F S1x512x256 .bf16)

/-- The whole of the keys, or of the values, loaded. -/
theorem load_keys : View.readAt (Elt F) a4.view (Rect.unit ![0, 0, 0] ![1, 256, 128] inb_S1x256x128_S1x256x128_0_0_0).toLoadRect (h4.unread k) = k := by
  funext x
  rw [h4.readAt_unread]
  congr 1
  funext a
  apply Fin.ext
  fin_cases a <;> change 0 + 1 * _ = _ <;> omega

theorem load_vals : View.readAt (Elt F) a5.view (Rect.unit ![0, 0, 0] ![1, 128, 256] inb_S1x128x256_S1x128x256_0_0_0).toLoadRect (h5.unread v) = v := by
  funext x
  rw [h5.readAt_unread]
  congr 1
  funext a
  apply Fin.ext
  fin_cases a <;> change 0 + 1 * _ = _ <;> omega

/-- A head's rows, loaded. -/
theorem load_rows (a : Memref sig .tc .vmem S1x512x256 .bf16) (h : a.IsWhole) (x : Vec F S1x512x256 .bf16) (r : Rect S1x512x256) :
    View.readAt (Elt F) a.view r.toLoadRect (h.unread x) = fun i => x (r.emb i) := by
  funext y
  rw [h.readAt_unread]
  rfl

/-- The scores and their maxima come back from the scratch as they were. -/
theorem back_scores (s : FVec F S256x256 .f32) :
    shapeCast S256x256 (shapeCast S1x1x256x256 s shapeCasts_S256x256_S1x1x256x256) shapeCasts_S1x1x256x256_S256x256 = s :=
  shapeCast_shapeCast _ _ _
theorem back_max (s : FVec F S1x256 .f32) :
    shapeCast S1x256 (shapeCast S1x1x1x256 s shapeCasts_S1x256_S1x1x1x256) shapeCasts_S1x1x1x256_S1x256 = s :=
  shapeCast_shapeCast _ _ _

set_option maxHeartbeats 4000000 in
/-- What the run stores in the result's block, last first: the rows of the eight heads. -/
theorem pieces : (kernelRun0_A c i a3 h3 a4 h4 a5 h5 a6 h6 a7 h7 a8 h8 a9 h9 q k v g).1
    = List.ofFn fun j : Fin 8 => (⟨recQ j.rev, headV q k v g j.rev⟩ : View.Piece (Elt F) S1x512x256 .bf16) := by
  unfold kernelRun0_A
  dsimp only
  simp (disch := decide) only [kernelRun0_A.sl.r, kernelRun0_A.sl.v130, kernelRun0_A.sl.v135, kernelRun0_A.sl.v145, kernelRun0_A.sl.v150,
    kernelRun0_A.sl.v160, kernelRun0_A.sl.v165, kernelRun0_A.sl.v175, kernelRun0_A.sl.v180, kernelRun0_A.sl.v242,
    kernelRun0_A.sl.v247, kernelRun0_A.sl.v257, kernelRun0_A.sl.v262, kernelRun0_A.sl.v272, kernelRun0_A.sl.v277,
    kernelRun0_A.sl.v287, kernelRun0_A.sl.v292, kernelRun0_A.sl.HS0_8, kernelRun0_A.sl.HS1_8, kernelRun0_A.sl.cst_104,
    kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10,
    kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20,
    kernelRun0_A.sl.r_21, kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29,
    ↓View.readCov_skip, View.readCov_cons_toLoadRect, load_keys, load_vals, load_rows]
  simp only [k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63,
    k0_pay64, k0_pay71, k0_pay72, k0_pay73, k0_pay74, k0_pay75, k0_pay76,
    back_scores, back_max]
  rfl

/-- So the block's row `64 * j + n` is row `n` of head `j`. -/
theorem out_apply (r : Fin 512) (x : Fin 256) : out0_A_4 c i a3 h3 a4 h4 a5 h5 a6 h6 a7 h7 a8 h8 a9 h9 q k v g (ix3 0 r x)
    = headV q k v g ⟨r.1 / 64, by omega⟩ (ix3 0 ⟨r.1 % 64, by omega⟩ x) := by
  unfold out0_A_4
  rw [View.read_writes_junk_eq_canon, pieces]
  exact canon_heads (headV q k v g) r x

end

end Dense.CtxKI
end
-- ==== Proof.DenseCtx.Att.lean ====
/-
  The context's attention, over the extended reals: at batch `b`, row `row` (head `row / 64`) and position `col`, the
  average of the head's values over the 256 keys, weighted by two to the power of the score, times the gate.
-/
module

public import proofs.«01_k».proof.Proof.Dense.Softmax
public import Idealize.ShloMosaic.Lib.Pointwise

@[expose] public section

noncomputable section

namespace Dense.Ctx

open Idealize.ShloMosaic

/-- The arguments: queries, keys, values and gate. -/
structure Args where
  q : FVec Ideal ⟨3, ![16, 1024, 256]⟩ .bf16
  k : FVec Ideal ⟨3, ![16, 256, 256]⟩ .bf16
  v : FVec Ideal ⟨3, ![16, 256, 256]⟩ .bf16
  g : FVec Ideal ⟨3, ![16, 1024, 256]⟩ .bf16

namespace Args

/-- Queries and keys are finite. -/
structure Finite (A : Args) : Prop where
  q : ∀ i, A.q i = ((A.q i).toReal : EReal)
  k : ∀ i, A.k i = ((A.k i).toReal : EReal)

variable (A : Args)

/-- The score of key `n` for the head of `row` at position `col`. Four heads in a row share their keys and values. -/
def score (b : Fin 16) (row : Fin 1024) (col n : Fin 256) : ℝ :=
  ∑ d : Fin 64, (A.k (ix3 b n ⟨64 * (row.1 / 256) + d.1, by omega⟩)).toReal
    * (A.q (ix3 b ⟨64 * (row.1 / 64) + d.1, by omega⟩ col)).toReal

/-- The result at an index, -/
def at3 (b : Fin 16) (row : Fin 1024) (col : Fin 256) : EReal :=
  soft (A.score b row col) (fun n => A.v (ix3 b ⟨64 * (row.1 / 256) + row.1 % 64, by omega⟩ n)) * A.g (ix3 b row col)

/-- and whole. -/
def att : FVec Ideal ⟨3, ![16, 1024, 256]⟩ .bf16 := fun i => A.at3 (i 0) (i 1) (i 2)

end Args
end Dense.Ctx
end
-- ==== Proof.DenseCtx.ArrayKI.lean ====
/-
  What the launch leaves in the result's array: the context's attention of the arguments.
-/
module

public import proofs.«01_k».proof.Proof.DenseCtx.BlockKI
public import proofs.«01_k».proof.Proof.DenseCtx.Att
public import Idealize.ShloMosaic.Lib.Pipeline.ValueKit.Point
public import Idealize.ShloMosaic.Lib.Pipeline.Covers

@[expose] public section

noncomputable section

namespace Dense.CtxKI

open Dense.Ctx Cert.Kernel8Ideal Cert.Kernel8Ideal.Gen
open Idealize.ShloMosaic Idealize.ShloMosaic.TcCoe
open Idealize.ShloMosaic.Pipeline (Dat Cfg Window)

variable (m : (ℓ : Loc nD τ sig) → Buf (Elt Ideal) ℓ) (c : Dev nD)

/-- The arguments on a device. -/
def args : Ctx.Args where
  q := m ((c : Thread nD τ).loc main_arg0)
  k := m ((c : Thread nD τ).loc main_arg1)
  v := m ((c : Thread nD τ).loc main_arg2)
  g := m ((c : Thread nD τ).loc main_arg3)

/-- The blocks at a grid point, by the point's coordinates. -/
theorem coord_lt (t : Fin cfg0.N) : ((grid0.coords t) 0 : ℕ) < 16 ∧ ((grid0.coords t) 1 : ℕ) < 2 ∧ ((grid0.coords t) 2 : ℕ) < 1 :=
  ⟨((grid0.coords t) 0).2, ((grid0.coords t) 1).2, ((grid0.coords t) 2).2⟩

theorem idx0 (t : Fin cfg0.N) : win0_0.index t = ![((grid0.coords t) 0 : ℕ), ((grid0.coords t) 1 : ℕ), ((grid0.coords t) 2 : ℕ)] := by
  obtain ⟨h0, h1, h2⟩ := coord_lt t
  funext a
  change cc0_transform_0 (grid0.coords t) a = _
  unfold cc0_transform_0
  fin_cases a
  · change (BitVec.ofNat 32 _).toNat = _; simp; omega
  · change (BitVec.ofNat 32 _).toNat = _; simp; omega
  · change (BitVec.ofNat 32 _).toNat = _; simp

theorem idx1 (t : Fin cfg0.N) : win0_1.index t = ![((grid0.coords t) 0 : ℕ), 0, ((grid0.coords t) 1 : ℕ)] := by
  obtain ⟨h0, h1, h2⟩ := coord_lt t
  funext a
  change cc0_transform_1 (grid0.coords t) a = _
  unfold cc0_transform_1
  fin_cases a
  · change (BitVec.ofNat 32 _).toNat = _; simp; omega
  · rfl
  · change (BitVec.ofNat 32 _).toNat = _; simp; omega

theorem idx2 (t : Fin cfg0.N) : win0_2.index t = ![((grid0.coords t) 0 : ℕ), ((grid0.coords t) 1 : ℕ), 0] := by
  obtain ⟨h0, h1, h2⟩ := coord_lt t
  funext a
  change cc0_transform_2 (grid0.coords t) a = _
  unfold cc0_transform_2
  fin_cases a
  · change (BitVec.ofNat 32 _).toNat = _; simp; omega
  · change (BitVec.ofNat 32 _).toNat = _; simp; omega
  · rfl

theorem idx3 (t : Fin cfg0.N) : win0_3.index t = ![((grid0.coords t) 0 : ℕ), ((grid0.coords t) 1 : ℕ), ((grid0.coords t) 2 : ℕ)] := idx0 t
theorem idx4 (t : Fin cfg0.N) : win0_4.index t = ![((grid0.coords t) 0 : ℕ), ((grid0.coords t) 1 : ℕ), ((grid0.coords t) 2 : ℕ)] := idx0 t

/-- A point's batch, -/
def bat (t : Fin cfg0.N) : Fin 16 := ⟨(grid0.coords t) 0, (coord_lt t).1⟩
/-- a row of the result in its block -/
def rowOf (t : Fin cfg0.N) (r : Fin 512) : Fin 1024 :=
  ⟨512 * ((grid0.coords t) 1 : ℕ) + r.1, by have := (coord_lt t).2.1; omega⟩
/-- and a position. -/
def colOf (t : Fin cfg0.N) (x : Fin 256) : Fin 256 :=
  ⟨256 * ((grid0.coords t) 2 : ℕ) + x.1, by have := (coord_lt t).2.2; omega⟩
/-- A column of the keys, or row of the values, in its block. -/
def laneOf (t : Fin cfg0.N) (l : Fin 128) : Fin 256 :=
  ⟨128 * ((grid0.coords t) 1 : ℕ) + l.1, by have := (coord_lt t).2.1; omega⟩

theorem q_apply (t : Fin cfg0.N) (r : Fin 512) (x : Fin 256) :
    iblk m c 0 t (ix3 0 r x) = (args m c).q (ix3 (bat t) (rowOf t r) (colOf t x)) := by
  change _ = m ((c : Thread nD τ).loc main_arg0) _
  unfold bat rowOf colOf
  blk_ext! [iblk, V_main_arg0, idx0 t]

theorem g_apply (t : Fin cfg0.N) (r : Fin 512) (x : Fin 256) :
    iblk m c 3 t (ix3 0 r x) = (args m c).g (ix3 (bat t) (rowOf t r) (colOf t x)) := by
  change _ = m ((c : Thread nD τ).loc main_arg3) _
  unfold bat rowOf colOf
  blk_ext! [iblk, V_main_arg3, idx3 t]

theorem k_apply (t : Fin cfg0.N) (n : Fin 256) (l : Fin 128) :
    iblk m c 1 t (ix3 0 n l) = (args m c).k (ix3 (bat t) n (laneOf t l)) := by
  change _ = m ((c : Thread nD τ).loc main_arg1) _
  unfold bat laneOf
  blk_ext! [iblk, V_main_arg1, idx1 t]

theorem v_apply (t : Fin cfg0.N) (l : Fin 128) (n : Fin 256) :
    iblk m c 2 t (ix3 0 l n) = (args m c).v (ix3 (bat t) (laneOf t l) n) := by
  change _ = m ((c : Thread nD τ).loc main_arg2) _
  unfold bat laneOf
  blk_ext! [iblk, V_main_arg2, idx2 t]

theorem q_real (h : (args m c).Finite) (t : Fin cfg0.N) (i : S1x512x256.Idx) : iblk m c 0 t i = ((iblk m c 0 t i : EReal).toReal : EReal) := by
  obtain ⟨a, r, x, rfl⟩ : ∃ (a : Fin 1) (r : Fin 512) (x : Fin 256), i = ix3 a r x := ⟨i 0, i 1, i 2, by funext a; fin_cases a <;> rfl⟩
  rw [Subsingleton.elim a 0, q_apply]
  exact h.q _

theorem k_real (h : (args m c).Finite) (t : Fin cfg0.N) (i : S1x256x128.Idx) : iblk m c 1 t i = ((iblk m c 1 t i : EReal).toReal : EReal) := by
  obtain ⟨a, r, x, rfl⟩ : ∃ (a : Fin 1) (r : Fin 256) (x : Fin 128), i = ix3 a r x := ⟨i 0, i 1, i 2, by funext a; fin_cases a <;> rfl⟩
  rw [Subsingleton.elim a 0, k_apply]
  exact h.k _

/-- The block the body writes is the attention's. -/
theorem blk_eq (h : (args m c).Finite) (t : Fin cfg0.N) (r : Fin 512) (x : Fin 256) :
    outsAt0 m c t (ix3 0 r x) = (args m c).at3 (bat t) (rowOf t r) (colOf t x) := by
  have hc := coord_lt t
  unfold outsAt0
  rw [out_apply, headV_apply _ _ _ _ (q_real m c h t) (k_real m c h t), g_apply]
  unfold Ctx.Args.at3
  congr 2
  · funext n
    unfold headS Ctx.Args.score
    refine Finset.sum_congr rfl fun d _ => ?_
    rw [k_apply, q_apply]
    congr 4
    · apply Fin.ext
      change 128 * _ + (64 * (r.1 / 64 / 4) + d.1) = 64 * ((512 * _ + r.1) / 256) + d.1
      omega
    · congr 1
      apply Fin.ext
      change 512 * _ + (64 * (r.1 / 64) + d.1) = 64 * ((512 * _ + r.1) / 64) + d.1
      omega
  · funext n
    rw [v_apply]
    congr 2
    apply Fin.ext
    change 128 * _ + (64 * (r.1 / 64 / 4) + r.1 % 64) = 64 * ((512 * _ + r.1) / 256) + (512 * _ + r.1) % 64
    omega
  · congr 2
    apply Fin.ext
    change 64 * (r.1 / 64) + r.1 % 64 = r.1
    omega

/-- The array of the result after the launch. -/
theorem final (h : (args m c).Finite) : (dats m 0 c).arrAt 4 cfg0.N = (args m c).att := by
  refine (dats m 0 c).arrAt_eq_of_covers 4 _ ((cfg0.win 4).covers_of_indexMap_surj rfl (by decide) fun β => ?_) fun t hf y => ?_
  · have h0 : (β 0 : ℕ) < 16 := (β 0).2
    have h1 : (β 1 : ℕ) < 2 := (β 1).2
    have h2 : (β 2 : ℕ) < 1 := (β 2).2
    refine ⟨fun | ⟨0, _⟩ => ⟨β 0, h0⟩ | ⟨1, _⟩ => ⟨β 1, h1⟩ | ⟨2, _⟩ => ⟨β 2, h2⟩, fun a => ?_⟩
    change cc0_transform_4 (fun | ⟨0, _⟩ => ⟨β 0, h0⟩ | ⟨1, _⟩ => ⟨β 1, h1⟩ | ⟨2, _⟩ => ⟨β 2, h2⟩) a = _
    unfold cc0_transform_4
    fin_cases a
    · change (BitVec.ofNat 32 (β 0)).toNat = _; simp; omega
    · change (BitVec.ofNat 32 (β 1)).toNat = _; simp; omega
    · change (BitVec.ofNat 32 (β 2)).toNat = _; simp
  · blk_simp
    rw [after0_4]
    obtain ⟨a, r, x, rfl⟩ : ∃ (a : Fin 1) (r : Fin 512) (x : Fin 256), y = ix3 a r x := ⟨y 0, y 1, y 2, by funext a; fin_cases a <;> rfl⟩
    rw [Subsingleton.elim a 0]
    refine (blk_eq m c h t r x).trans ?_
    unfold Ctx.Args.att bat rowOf colOf
    congr 1
    all_goals
      apply Fin.ext
      blk_simp [idx4 t]
    · rfl
    · change 512 * _ + _ = _; omega
    · change 256 * _ + _ = _; omega

end Dense.CtxKI
end
-- ==== Proof.DenseCtx.RefValue.lean ====
/-
  The reference's result for the context, read at an index, stage by stage.
-/
module

public import proofs.«01_k».proof.Proof.DenseCtx.Att
public import proofs.«01_k».proof.Proof.Dense.RefValue
public import proofs.«01_k».proof.Proof.Gen.Reference8Ideal.Run
public import Idealize.ShloMosaic.Lib.Tactic.CleanTypes
public import Idealize.ShloMosaic.Lib.Pointwise

@[expose] public section

noncomputable section

namespace Dense.CtxR

open Dense.Ctx Cert.Reference8Ideal Cert.Reference8Ideal.Gen Cert.Reference8Ideal.Value
open Idealize.ShloMosaic Idealize.ShloMosaic.TcCoe

variable (m : (ℓ : Loc nD τ sig) → Buf (Elt Ideal) ℓ) (c : Dev nD)

/-- The arguments on a device. -/
def args : Ctx.Args where
  q := m ((c : Thread nD τ).loc main_arg0)
  k := m ((c : Thread nD τ).loc main_arg1)
  v := m ((c : Thread nD τ).loc main_arg2)
  g := m ((c : Thread nD τ).loc main_arg3)

variable (A : Ctx.Args)

/-- The keys by head, -/
def keysH : FVec Ideal S16x256x4x64 .f32 :=
  shapeCast _ (extf .f32 A.k bitsLt_bf16_f32) shapeCasts_S16x256x256_S16x256x4x64

/-- the values by head, -/
def valsH : FVec Ideal S16x256x4x64 .f32 :=
  shapeCast _ (extf .f32 (transpose S16x256x256 [0, 2, 1] A.v transposes_S16x256x256_S16x256x256_0_2_1) bitsLt_bf16_f32) shapeCasts_S16x256x256_S16x256x4x64

/-- and the queries by head, times the logarithm of two. -/
def queriesH : FVec Ideal S16x256x4x4x64 .f32 :=
  mulf (shapeCast _ (extf .f32 (transpose S16x256x1024 [0, 2, 1] A.q transposes_S16x1024x256_S16x256x1024_0_2_1) bitsLt_bf16_f32) shapeCasts_S16x256x1024_S16x256x4x4x64) (broadcastInDim S16x256x4x4x64 ![] bcast_S_S16x256x4x4x64 (Host.log (constant S_ .f32 0x40000000#32)))

/-- The scores, -/
def scores (K : FVec Ideal S16x256x4x64 .f32) (Q : FVec Ideal S16x256x4x4x64 .f32) : FVec Ideal S16x4x4x256x256 .f32 :=
  transpose S16x4x4x256x256 [0, 1, 4, 3, 2] (Host.dotGeneral dot_S16x256x4x64_S16x256x4x4x64_S16x4x256x256x4_3_4_1_13_02_02 none K Q) transposes_S16x4x256x256x4_S16x4x4x256x256_0_1_4_3_2

/-- their maximum over the keys, -/
def top (s : FVec Ideal S16x4x4x256x256 .f32) : FVec Ideal S16x4x4x256 .f32 :=
  maximumf (broadcastInDim S16x4x4x256 ![] bcast_S_S16x4x4x256 (constant S_ .f32 0xFF800000#32)) (Host.reduce FloatOps.maximumf s (constant S_ .f32 0xFF800000#32) reducesTo_S16x4x4x256x256_S16x4x4x256_d4 h_S_)

/-- one value for every key, -/
def spread (x : FVec Ideal S16x4x4x256 .f32) : FVec Ideal S16x4x4x256x256 .f32 :=
  broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 x)

/-- the shifted scores' exponentials, -/
def expo (s : FVec Ideal S16x4x4x256x256 .f32) : FVec Ideal S16x4x4x256x256 .f32 := Host.exp (subf s (spread (top s)))

/-- their sum over the keys, -/
def total (e : FVec Ideal S16x4x4x256x256 .f32) : FVec Ideal S16x4x4x256 .f32 :=
  Host.reduceAdd e (constant S_ .f32 0x00000000#32) reducesTo_S16x4x4x256x256_S16x4x4x256_d4 h_S_

/-- the weights, -/
def weights (e : FVec Ideal S16x4x4x256x256 .f32) : FVec Ideal S16x4x4x256x256 .f32 := Host.divf e (spread (total e))

/-- and the gated average of the values. -/
def gated (V : FVec Ideal S16x256x4x64 .f32) (w : FVec Ideal S16x4x4x256x256 .f32) : FVec Ideal S16x1024x256 .bf16 :=
  truncf .bf16 (transpose S16x1024x256 [0, 2, 1] (mulf (shapeCast _ (transpose S16x256x4x4x64 [0, 4, 1, 3, 2] (Host.dotGeneral dot_S16x256x4x64_S16x4x4x256x256_S16x4x64x4x256_1_4_3_23_02_01 none V w) transposes_S16x4x64x4x256_S16x256x4x4x64_0_4_1_3_2) shapeCasts_S16x256x4x4x64_S16x256x1024) (extf .f32 (transpose S16x256x1024 [0, 2, 1] A.g transposes_S16x1024x256_S16x256x1024_0_2_1) bitsLt_bf16_f32)) transposes_S16x256x1024_S16x1024x256_0_2_1) bitsLt_bf16_f32

theorem res_eq : res_main_v31 m c
    = gated (args m c) (valsH (args m c)) (weights (expo (scores (keysH (args m c)) (queriesH (args m c))))) := by
  unfold res_main_v31
  rfl

theorem keysH_apply (b : Fin 16) (n : Fin 256) (h : Fin 4) (d : Fin 64) :
    keysH A (ix4 b n h d) = A.k (ix3 b n ⟨64 * h.1 + d.1, by omega⟩) := by
  unfold keysH
  pointwise
  simp only [Nat.mul_comm]

theorem valsH_apply (b : Fin 16) (n : Fin 256) (h : Fin 4) (d : Fin 64) :
    valsH A (ix4 b n h d) = A.v (ix3 b ⟨64 * h.1 + d.1, by omega⟩ n) := by
  unfold valsH
  pointwise
  simp only [Nat.mul_comm]

theorem queriesH_apply (b : Fin 16) (x : Fin 256) (h g : Fin 4) (d : Fin 64) :
    queriesH A (ix5 b x h g d) = A.q (ix3 b ⟨64 * (4 * h.1 + g.1) + d.1, by omega⟩ x) * ((Real.log 2 : ℝ) : EReal) := by
  unfold queriesH
  pointwise
  rw [R.log_two]
  congr 3
  apply Fin.ext
  change h.1 * 256 + g.1 * 64 + d.1 = 64 * (4 * h.1 + g.1) + d.1
  omega

theorem scores_apply (K : FVec Ideal S16x256x4x64 .f32) (Q : FVec Ideal S16x256x4x4x64 .f32) (b : Fin 16) (h g : Fin 4)
    (x : Fin 256) (n : Fin 256) : scores K Q (ix5 b h g x n) = ∑ d : Fin 64, K (ix4 b n h d) * Q (ix5 b x h g d) := by
  unfold scores
  clean_types
  pointwise

theorem max_apply (T : FVec Ideal S16x4x4x256 .f32) (i : S16x4x4x256.Idx) :
    maximumf (broadcastInDim S16x4x4x256 ![] bcast_S_S16x4x4x256 (constant S_ .f32 0xFF800000#32)) T i = max ⊥ (T i) := by
  rw [← ofBits_negInf]
  rfl

theorem top_apply (s : FVec Ideal S16x4x4x256x256 .f32) (b : Fin 16) (h g : Fin 4) (x : Fin 256) :
    top s (ix4 b h g x) = max ⊥ (Finset.univ.fold max ⊥ fun n : Fin 256 => s (ix5 b h g x n)) := by
  have e := R.reduce_max s (constant S_ .f32 0xFF800000#32) reducesTo_S16x4x4x256x256_S16x4x4x256_d4 h_S_ ofBits_negInf b h g x
  unfold top
  rw [max_apply, e]

theorem expo_apply (s : FVec Ideal S16x4x4x256x256 .f32) (b : Fin 16) (h g : Fin 4) (x : Fin 256) (n : Fin 256) :
    expo s (ix5 b h g x n) = Ideal.exp (s (ix5 b h g x n) - top s (ix4 b h g x)) := by
  unfold expo spread
  generalize top s = T
  pointwise

theorem weights_apply (e : FVec Ideal S16x4x4x256x256 .f32) (b : Fin 16) (h g : Fin 4) (x : Fin 256) (n : Fin 256) :
    weights e (ix5 b h g x n) = Ideal.div (e (ix5 b h g x n)) (∑ i : Fin 256, e (ix5 b h g x i)) := by
  unfold weights spread total
  clean_types
  pointwise

theorem gated_apply (V : FVec Ideal S16x256x4x64 .f32) (w : FVec Ideal S16x4x4x256x256 .f32) (b : Fin 16) (row : Fin 1024)
    (col : Fin 256) : gated A V w (ix3 b row col)
      = (∑ n : Fin 256, V (ix4 b n ⟨row.1 / 256, by omega⟩ ⟨row.1 % 64, by omega⟩)
          * w (ix5 b ⟨row.1 / 256, by omega⟩ ⟨row.1 / 64 % 4, by omega⟩ col n)) * A.g (ix3 b row col) := by
  unfold gated
  clean_types
  pointwise

variable {A}

/-- A score, with the logarithm of two taken out. -/
theorem score_apply (hA : A.Finite) (b : Fin 16) (row : Fin 1024) (col : Fin 256) (n : Fin 256) :
    scores (keysH A) (queriesH A) (ix5 b ⟨row.1 / 256, by omega⟩ ⟨row.1 / 64 % 4, by omega⟩ col n)
      = ((A.score b row col n * Real.log 2 : ℝ) : EReal) := by
  rw [scores_apply]
  unfold Ctx.Args.score
  rw [Finset.sum_mul, coe_sum]
  refine Finset.sum_congr rfl fun d _ => ?_
  have hq : queriesH A (ix5 b col ⟨row.1 / 256, by omega⟩ ⟨row.1 / 64 % 4, by omega⟩ d)
      = A.q (ix3 b ⟨64 * (row.1 / 64) + d.1, by omega⟩ col) * ((Real.log 2 : ℝ) : EReal) := by
    rw [queriesH_apply]
    congr 3
    apply Fin.ext
    change 64 * (4 * (row.1 / 256) + row.1 / 64 % 4) + d.1 = 64 * (row.1 / 64) + d.1
    omega
  have hm : ∀ (k q : EReal) (L : ℝ), k = (k.toReal : EReal) → q = (q.toReal : EReal)
      → k * (q * (L : EReal)) = ((k.toReal * q.toReal * L : ℝ) : EReal) := fun k q L hk hq => by
    rw [EReal.coe_mul, EReal.coe_mul, ← hk, ← hq, mul_assoc]
  rw [keysH_apply, hq]
  exact hm _ _ _ (hA.k _) (hA.q _)

/-- The reference's result is the context's attention of the arguments. -/
theorem res_att (h : (args m c).Finite) : res_main_v31 m c = (args m c).att := by
  rw [res_eq]
  generalize args m c = A at h ⊢
  funext i
  obtain ⟨b, row, col, rfl⟩ : ∃ (b : Fin 16) (row : Fin 1024) (col : Fin 256), i = ix3 b row col :=
    ⟨i 0, i 1, i 2, by funext a; fin_cases a <;> rfl⟩
  refine (gated_apply A _ _ b row col).trans ?_
  change _ = A.at3 b row col
  unfold Ctx.Args.at3
  congr 1
  obtain ⟨M, hM⟩ := fold_max_real' (Finset.univ : Finset (Fin 256)) ⟨0, Finset.mem_univ _⟩
    (fun n => ((A.score b row col n * Real.log 2 : ℝ) : EReal)) (fun n => ⟨_, rfl⟩)
  have hT : top (scores (keysH A) (queriesH A)) (ix4 b ⟨row.1 / 256, by omega⟩ ⟨row.1 / 64 % 4, by omega⟩ col) = (M : EReal) := by
    rw [top_apply, max_eq_right bot_le]
    simp only [score_apply h]
    exact hM
  rw [← soft_of_exp _ _ M]
  refine Finset.sum_congr rfl fun n _ => ?_
  rw [valsH_apply, weights_apply]
  simp only [expo_apply, hT, score_apply h, EReal.coe_sub]

end Dense.CtxR
end
-- ==== Proof.DenseCtx.Pre.lean ====
/-
  The precondition of the context's attention: finite queries and keys, read as real numbers.
-/
module

public import proofs.«01_k».proof.Proof.Dense.Pre
public import proofs.«01_k».proof.Proof.DenseCtx.ArrayKI

@[expose] public section

noncomputable section

namespace Dense

open Idealize.ShloMosaic Idealize.ShloMosaic.TcCoe

/-- The shape facts the predicate is stated over. -/
theorem preFacts8 : Cert.Pre_finite_scores8.Facts where
  bitsLt_bf16_f32 := by decide
  bcast_S_S16x1024x256 := by decide
  bcast_S_S16x256x256 := by decide

theorem finite_of_pre8 (m : (ℓ : Loc Cert.Kernel8Ideal.nD Cert.Kernel8Ideal.τ Cert.Kernel8Ideal.sig) → Buf (Elt Ideal) ℓ)
    (h : Cert.Pre_Kernel8Ideal_finite_scores8 (hPre_finite_scores8 := preFacts8) m) (c : Dev Cert.Kernel8Ideal.nD) : (CtxKI.args m c).Finite :=
  ⟨fun _ => real_of_abs_lt _ (congrFun (h c).1 _), fun _ => real_of_abs_lt _ (congrFun (h c).2 _)⟩

end Dense
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Dense.FrameK
public import proofs.«01_k».proof.Proof.Dense.FrameKI
public import proofs.«01_k».proof.Proof.Dense.ArrayKI
public import proofs.«01_k».proof.Proof.Dense.RefValue
public import proofs.«01_k».proof.Proof.Dense.Pre
public import proofs.«01_k».proof.Proof.Out.ArrayKI
public import proofs.«01_k».proof.Proof.Out.RefValue
public import proofs.«01_k».proof.Proof.In.ArrayKI
public import proofs.«01_k».proof.Proof.In.RefValue
public import proofs.«01_k».proof.Proof.InCtx.ArrayKI
public import proofs.«01_k».proof.Proof.InCtx.RefValue
public import proofs.«01_k».proof.Proof.InPlain.ArrayKI
public import proofs.«01_k».proof.Proof.InPlain.RefValue
public import proofs.«01_k».proof.Proof.OutCtx.ArrayKI
public import proofs.«01_k».proof.Proof.OutCtx.RefValue
public import proofs.«01_k».proof.Proof.Mod.ArrayKI
public import proofs.«01_k».proof.Proof.Mod.RefValue
public import proofs.«01_k».proof.Proof.DenseCtx.ArrayKI
public import proofs.«01_k».proof.Proof.DenseCtx.RefValue
public import proofs.«01_k».proof.Proof.DenseCtx.Pre
public import Idealize.ShloMosaic.Lib.Claim

@[expose] public section

noncomputable section

namespace Cert.Proof

open Idealize.ShloMosaic Idealize.SL.Sem

/-- The kernel runs, its arguments unchanged and its counters at zero, over the extended reals, -/
theorem quiet_KI : Cert.quiescent_KernelIdeal (hKernelIdeal := Cert.KernelIdeal.Gen.facts) :=
  fun m g _ => θ_run_and (Cert.KernelIdeal.Gen.frame_of m g (Dense.KI.dats m) (Dense.KI.A_eq m) (Dense.KI.run_main m g))
    ((θ_run _ _ _).mono (fun _ h => h.2) (Dense.KI.run_quiet m g))

/-- and so does the reference. -/
theorem quiet_RI : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- With finite queries and keys both end at the attention of the arguments. -/
theorem value : Cert.algebraic_KernelIdeal_ReferenceIdeal_pre_finite_scores (hKernelIdeal := Cert.KernelIdeal.Gen.facts)
    (hReferenceIdeal := Cert.ReferenceIdeal.Gen.facts) (hPre_finite_scores := Dense.preFacts) := by
  intro m g m' g' hp ha
  refine ⟨fun c => (Dense.KI.args m c).att, ?_, ?_⟩
  · refine (θ_run _ _ _).mono (fun r h c => ⟨?_, h.2 c⟩) (θ_run_and (Dense.KI.run_main m g)
      (Cert.KernelIdeal.Gen.frame_of m g (Dense.KI.dats m) (Dense.KI.A_eq m) (Dense.KI.run_main m g)))
    exact ((h.1 c).1 4).trans (Dense.KI.final m c (Dense.finite_of_pre m hp c))
  · refine (θ_run _ _ _).mono (fun r h c => ⟨(h c).1.trans ?_, (h c).2⟩) (Cert.ReferenceIdeal.Value.run m' g')
    have e : Dense.R.args m' c = Dense.KI.args m c := by
      obtain ⟨e0, e1, e2, e3, e4, e5⟩ := ha c
      unfold Dense.R.args Dense.KI.args
      congr 1
    exact (Dense.R.res_att m' c (e ▸ Dense.finite_of_pre m hp c)).trans (congrArg Dense.Args.att e)

/-- The output projection: the reference runs, its arguments unchanged and its counters at zero, -/
theorem quiet_R2 : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

/-- and both end at the projection of the arguments. -/
theorem value2 : Cert.algebraic_Kernel2Ideal_Reference2Ideal (hKernel2Ideal := Cert.Kernel2Ideal.Gen.facts)
    (hReference2Ideal := Cert.Reference2Ideal.Gen.facts) := by
  intro m g m' g' _ ha
  refine ⟨fun c => (Out.KI.args m c).out, ?_, ?_⟩
  · exact (θ_run _ _ _).mono (fun r h c => ⟨(h c).1.trans (Out.KI.final m c), (h c).2⟩) (Cert.Kernel2Ideal.Value.run_blocks m g)
  · refine (θ_run _ _ _).mono (fun r h c => ⟨(h c).1.trans ?_, (h c).2⟩) (Cert.Reference2Ideal.Value.run m' g')
    have e : Out.R.args m' c = Out.KI.args m c := by
      obtain ⟨e0, e1, e2, e3, e4⟩ := ha c
      unfold Out.R.args Out.KI.args
      congr 1
    exact (show _ = Out.R.outV (Out.R.args m' c) (Out.R.prodV (Out.R.args m' c)) (Out.R.irmsV (Out.R.prodV (Out.R.args m' c))) from rfl).trans
      ((Out.R.out_eq _).trans (congrArg Out.Args.out e))

/-- The input projection: the reference runs, its arguments unchanged and its counters at zero, -/
theorem quiet_R3 : Cert.quiescent_Reference3Ideal (hReference3Ideal := Cert.Reference3Ideal.Gen.facts) :=
  fun m g _ => (θ_run _ _ _).mono (fun r h => ⟨fun c => (h c).2.2.2.2, sem_eq_zero_of_no_sems (by decide) r.2⟩)
    (Cert.Reference3Ideal.Value.run m g)

/-- and both end at the queries, keys, values and gate of the arguments. -/
theorem value3 : Cert.algebraic_Kernel3Ideal_Reference3Ideal (hKernel3Ideal := Cert.Kernel3Ideal.Gen.facts)
    (hReference3Ideal := Cert.Reference3Ideal.Gen.facts) := by
  intro m g m' g' _ ha
  refine ⟨fun c => (In.KI.args m c).rq, fun c => (In.KI.args m c).rk, fun c => (In.KI.args m c).v, fun c => (In.KI.args m c).z, ?_, ?_⟩
  · exact (θ_run _ _ _).mono (fun r h c => ⟨(h c).1.trans (In.KI.final_q m c), (h c).2.1.trans (In.KI.final_k m c),
      (h c).2.2.1.trans (In.KI.final_v m c), (h c).2.2.2.1.trans (In.KI.final_z m c), (h c).2.2.2.2⟩) (Cert.Kernel3Ideal.Value.run_blocks m g)
  · have e : ∀ c, In.R.args m' c = In.KI.args m c := by
      intro c
      obtain ⟨e0, e1, e2, e3, e4, e5, e6, e7⟩ := ha c
      unfold In.R.args In.KI.args
      congr 1
      congr 1
    refine (θ_run _ _ _).mono (fun r h c => ⟨(h c).1.trans ?_, (h c).2.1.trans ?_, (h c).2.2.1.trans ?_, (h c).2.2.2.1.trans ?_, (h c).2.2.2.2⟩)
      (Cert.Reference3Ideal.Value.run m' g')
    · exact (In.R.res_q m' c).trans (congrArg In.Args.rq (e c))
    · exact (In.R.res_k m' c).trans (congrArg In.Args.rk (e c))
    · exact (show _ = In.R.vo (In.R.p (In.R.args m' c).toBase) from rfl).trans ((In.R.v_eq _).trans (congrArg (fun A : In.Args => A.v) (e c)))
    · exact (show _ = In.R.zo (In.R.z4 (In.R.p (In.R.args m' c).toBase)) from rfl).trans ((In.R.z_eq _).trans (congrArg (fun A : In.Args => A.z) (e c)))

/-- The context's input projection: the reference runs, its arguments unchanged and its counters at zero, -/
theorem quiet_R4 : Cert.quiescent_Reference4Ideal (hReference4Ideal := Cert.Reference4Ideal.Gen.facts) :=
  fun m g _ => (θ_run _ _ _).mono (fun r h => ⟨fun c => (h c).2.2.2.2.2.2, sem_eq_zero_of_no_sems (by decide) r.2⟩)
    (Cert.Reference4Ideal.Value.run m g)

/-- and both end at the queries, keys, values and gate of the arguments, and at the cache's keys and values. -/
theorem value4 : Cert.algebraic_Kernel4Ideal_Reference4Ideal (hKernel4Ideal := Cert.Kernel4Ideal.Gen.facts)
    (hReference4Ideal := Cert.Reference4Ideal.Gen.facts) := by
  intro m g m' g' _ ha
  refine ⟨fun c => (In.CtxKI.args m c).q, fun c => (In.CtxKI.args m c).k, fun c => (In.CtxKI.args m c).v, fun c => (In.CtxKI.args m c).z,
    fun c => (In.CtxKI.args m c).kc, fun c => (In.CtxKI.args m c).vc, ?_, ?_⟩
  · exact (θ_run _ _ _).mono (fun r h c => ⟨(h c).1.trans (In.CtxKI.final_q m c), (h c).2.1.trans (In.CtxKI.final_k m c),
      (h c).2.2.1.trans (In.CtxKI.final_v m c), (h c).2.2.2.1.trans (In.CtxKI.final_z m c), (h c).2.2.2.2.1.trans (In.CtxKI.final_kc m c),
      (h c).2.2.2.2.2.1.trans (In.CtxKI.final_vc m c), (h c).2.2.2.2.2.2⟩) (Cert.Kernel4Ideal.Value.run_blocks m g)
  · have e : ∀ c, In.CtxR.args m' c = In.CtxKI.args m c := by
      intro c
      obtain ⟨e0, e1, e2, e3, e4, e5⟩ := ha c
      unfold In.CtxR.args In.CtxKI.args
      congr 1
      exact congrArg Out.shared e1
    refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference4Ideal.Value.run m' g')
    · exact (In.CtxR.res_q m' c).trans (congrArg In.Base.q (e c))
    · exact (In.CtxR.res_k m' c).trans (congrArg In.Base.k (e c))
    · exact (show _ = In.CtxR.vo (In.CtxR.p (In.CtxR.args m' c) _) from rfl).trans ((In.CtxR.v_eq _ _ rfl).trans (congrArg In.Base.v (e c)))
    · exact (show _ = In.CtxR.zo (In.CtxR.z4 (In.CtxR.p (In.CtxR.args m' c) _)) from rfl).trans ((In.CtxR.z_eq _ _ rfl).trans (congrArg In.Base.z (e c)))
    · exact (In.CtxR.res_kc m' c).trans (congrArg In.Base.kc (e c))
    · exact (show _ = In.CtxR.vc (In.CtxR.p (In.CtxR.args m' c) _) from rfl).trans ((In.CtxR.vc_eq _ _ rfl).trans (congrArg In.Base.vc (e c)))

/-- The input projection without positions: the reference runs, its arguments unchanged and its counters at zero, -/
theorem quiet_R5 : Cert.quiescent_Reference5Ideal (hReference5Ideal := Cert.Reference5Ideal.Gen.facts) :=
  fun m g _ => (θ_run _ _ _).mono (fun r h => ⟨fun c => (h c).2.2.2.2, sem_eq_zero_of_no_sems (by decide) r.2⟩)
    (Cert.Reference5Ideal.Value.run m g)

/-- and both end at the queries, keys, values and gate of the arguments. -/
theorem value5 : Cert.algebraic_Kernel5Ideal_Reference5Ideal (hKernel5Ideal := Cert.Kernel5Ideal.Gen.facts)
    (hReference5Ideal := Cert.Reference5Ideal.Gen.facts) := by
  intro m g m' g' _ ha
  refine ⟨fun c => (In.PlainKI.args m c).q, fun c => (In.PlainKI.args m c).k, fun c => (In.PlainKI.args m c).v, fun c => (In.PlainKI.args m c).z, ?_, ?_⟩
  · exact (θ_run _ _ _).mono (fun r h c => ⟨(h c).1.trans (In.PlainKI.final_q m c), (h c).2.1.trans (In.PlainKI.final_k m c),
      (h c).2.2.1.trans (In.PlainKI.final_v m c), (h c).2.2.2.1.trans (In.PlainKI.final_z m c), (h c).2.2.2.2⟩) (Cert.Kernel5Ideal.Value.run_blocks m g)
  · have e : ∀ c, In.PlainR.args m' c = In.PlainKI.args m c := by
      intro c
      obtain ⟨e0, e1, e2, e3, e4, e5⟩ := ha c
      unfold In.PlainR.args In.PlainKI.args
      congr 1
    refine (θ_run _ _ _).mono (fun r h c => ⟨(h c).1.trans ?_, (h c).2.1.trans ?_, (h c).2.2.1.trans ?_, (h c).2.2.2.1.trans ?_, (h c).2.2.2.2⟩)
      (Cert.Reference5Ideal.Value.run m' g')
    · exact (In.PlainR.res_q m' c).trans (congrArg In.Base.q (e c))
    · exact (In.PlainR.res_k m' c).trans (congrArg In.Base.k (e c))
    · exact (show _ = In.R.vo (In.R.p (In.PlainR.args m' c)) from rfl).trans ((In.R.v_eq _).trans (congrArg In.Base.v (e c)))
    · exact (show _ = In.R.zo (In.R.z4 (In.R.p (In.PlainR.args m' c))) from rfl).trans ((In.R.z_eq _).trans (congrArg In.Base.z (e c)))

/-- The context's output projection: the reference runs, its arguments unchanged and its counters at zero, -/
theorem quiet_R6 : Cert.quiescent_Reference6Ideal (hReference6Ideal := Cert.Reference6Ideal.Gen.facts) :=
  fun m g _ => (θ_run _ _ _).mono (fun r h => ⟨fun c => (h c).2, sem_eq_zero_of_no_sems (by decide) r.2⟩)
    (Cert.Reference6Ideal.Value.run m g)

/-- and both end at the projection of the arguments. -/
theorem value6 : Cert.algebraic_Kernel6Ideal_Reference6Ideal (hKernel6Ideal := Cert.Kernel6Ideal.Gen.facts)
    (hReference6Ideal := Cert.Reference6Ideal.Gen.facts) := by
  intro m g m' g' _ ha
  refine ⟨fun c => (Out.CtxKI.args m c).out, ?_, ?_⟩
  · exact (θ_run _ _ _).mono (fun r h c => ⟨(h c).1.trans (Out.CtxKI.final m c), (h c).2⟩) (Cert.Kernel6Ideal.Value.run_blocks m g)
  · refine (θ_run _ _ _).mono (fun r h c => ⟨(h c).1.trans ?_, (h c).2⟩) (Cert.Reference6Ideal.Value.run m' g')
    have e : Out.CtxR.args m' c = Out.CtxKI.args m c := by
      obtain ⟨e0, e1, e2, e3, e4⟩ := ha c
      unfold Out.CtxR.args Out.CtxKI.args
      congr 1
      exact congrArg Out.shared e3
    exact (show _ = Out.CtxR.outV (Out.CtxR.args m' c) _ (Out.CtxR.prodV (Out.CtxR.args m' c)) (Out.CtxR.irmsV (Out.CtxR.prodV (Out.CtxR.args m' c))) from rfl).trans
      ((Out.CtxR.out_eq _ _ rfl).trans (congrArg Out.Args.out e))

/-- The modulation: the reference runs, its arguments unchanged and its counters at zero, -/
theorem quiet_R7 : Cert.quiescent_Reference7Ideal (hReference7Ideal := Cert.Reference7Ideal.Gen.facts) :=
  fun m g _ => (θ_run _ _ _).mono (fun r h => ⟨fun c => (h c).2, sem_eq_zero_of_no_sems (by decide) r.2⟩)
    (Cert.Reference7Ideal.Value.run m g)

/-- and both end at the modulation of the arguments. -/
theorem value7 : Cert.algebraic_Kernel7Ideal_Reference7Ideal (hKernel7Ideal := Cert.Kernel7Ideal.Gen.facts)
    (hReference7Ideal := Cert.Reference7Ideal.Gen.facts) := by
  intro m g m' g' _ ha
  refine ⟨fun c => (Mod.KI.args m c).out, ?_, ?_⟩
  · exact (θ_run _ _ _).mono (fun r h c => ⟨(h c).1.trans (Mod.KI.final m c), (h c).2⟩) (Cert.Kernel7Ideal.Value.run_blocks m g)
  · refine (θ_run _ _ _).mono (fun r h c => ⟨(h c).1.trans ?_, (h c).2⟩) (Cert.Reference7Ideal.Value.run m' g')
    have e : Mod.R.args m' c = Mod.KI.args m c := by
      obtain ⟨e0, e1, e2⟩ := ha c
      unfold Mod.R.args Mod.KI.args
      congr 1
    exact (show _ = Mod.R.outV (Mod.R.args m' c) (Mod.R.prodV (Mod.R.args m' c) (Mod.R.siluV (Mod.R.args m' c))) from rfl).trans
      ((Mod.R.out_eq _).trans (congrArg Mod.Args.out e))

/-- The context's attention: the reference runs, its arguments unchanged and its counters at zero, -/
theorem quiet_R8 : Cert.quiescent_Reference8Ideal (hReference8Ideal := Cert.Reference8Ideal.Gen.facts) :=
  fun m g _ => (θ_run _ _ _).mono (fun r h => ⟨fun c => (h c).2, sem_eq_zero_of_no_sems (by decide) r.2⟩)
    (Cert.Reference8Ideal.Value.run m g)

/-- and with finite queries and keys both end at the attention of the arguments. -/
theorem value8 : Cert.algebraic_Kernel8Ideal_Reference8Ideal_pre_finite_scores8 (hKernel8Ideal := Cert.Kernel8Ideal.Gen.facts)
    (hReference8Ideal := Cert.Reference8Ideal.Gen.facts) (hPre_finite_scores8 := Dense.preFacts8) := by
  intro m g m' g' hp ha
  refine ⟨fun c => (Dense.CtxKI.args m c).att, ?_, ?_⟩
  · exact (θ_run _ _ _).mono (fun r h c => ⟨(h c).1.trans (Dense.CtxKI.final m c (Dense.finite_of_pre8 m hp c)), (h c).2⟩)
      (Cert.Kernel8Ideal.Value.run_blocks m g)
  · refine (θ_run _ _ _).mono (fun r h c => ⟨(h c).1.trans ?_, (h c).2⟩) (Cert.Reference8Ideal.Value.run m' g')
    have e : Dense.CtxR.args m' c = Dense.CtxKI.args m c := by
      obtain ⟨e0, e1, e2, e3⟩ := ha c
      unfold Dense.CtxR.args Dense.CtxKI.args
      congr 1
    exact (Dense.CtxR.res_att m' c (e ▸ Dense.finite_of_pre8 m hp c)).trans (congrArg Dense.Ctx.Args.att e)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Dense.preFacts, Dense.preFacts8,
    fun m g _ => θ_run_and (Cert.Kernel.Gen.frame_of m g (Dense.K.dats m) (Dense.K.A_eq m) (Dense.K.run_main m g))
      ((θ_run _ _ _).mono (fun _ h => h.2) (Dense.K.run_quiet m g)),
    quiet_KI, fun m g _ => quiet_KI m g trivial, quiet_RI, fun m g _ => quiet_RI m g trivial,
    fun m g _ => Cert.Kernel2.Gen.frame m g, fun m g _ => Cert.Kernel2Ideal.Gen.frame m g, quiet_R2,
    fun m g _ => Cert.Kernel3.Gen.frame m g, fun m g _ => Cert.Kernel3Ideal.Gen.frame m g, quiet_R3,
    fun m g _ => Cert.Kernel4.Gen.frame m g, fun m g _ => Cert.Kernel4Ideal.Gen.frame m g, quiet_R4,
    fun m g _ => Cert.Kernel5.Gen.frame m g, fun m g _ => Cert.Kernel5Ideal.Gen.frame m g, quiet_R5,
    fun m g _ => Cert.Kernel6.Gen.frame m g, fun m g _ => Cert.Kernel6Ideal.Gen.frame m g, quiet_R6,
    fun m g _ => Cert.Kernel7.Gen.frame m g, fun m g _ => Cert.Kernel7Ideal.Gen.frame m g, quiet_R7,
    fun m g _ => Cert.Kernel8.Gen.frame m g, fun m g _ => Cert.Kernel8Ideal.Gen.frame m g, fun m g _ => Cert.Kernel8Ideal.Gen.frame m g,
    quiet_R8, fun m g _ => quiet_R8 m g trivial,
    trivial, value, trivial, value2, trivial, value3, trivial, value4, trivial, value5, trivial, value6, trivial, value7, trivial, value8⟩

end Cert.Proof

end
